-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x4096 : Shape := ⟨2, ![16384, 4096]⟩
abbrev S1x64 : Shape := ⟨2, ![1, 64]⟩
abbrev S1x128 : Shape := ⟨2, ![1, 128]⟩
abbrev S16384x3072 : Shape := ⟨2, ![16384, 3072]⟩
abbrev S_ : Shape := ⟨0, ![]⟩

class Facts : Prop where
  slices_S16384x4096_S16384x3072_0_0 : S16384x4096.Slices ![0, 0] S16384x3072
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg4
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  main_v25

def fn {F : FTy → Type} [FloatOps F] (main_arg0 : FVec F S16384x4096 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S16384x3072 .bf16 := (extractStridedSlice S16384x3072 ![0, 0] · slices_S16384x4096_S16384x3072_0_0) main_arg0
  let main_v1 : FVec F S16384x3072 .f32 := (extf .f32 · bitsLt_bf16_f32) main_v0
  let main_v2 : FVec F S16384x3072 .f32 := Host.absf main_v1
  let main_cst : FVec F S_ .f32 := constant S_ .f32 0x7F800000#32
  let main_v3 : FVec F S16384x3072 .f32 := broadcastInDim S16384x3072 ![] bcast_S_S16384x3072 main_cst
  let main_v4 : IVec S16384x3072 1 := cmpf .olt main_v2 main_v3
  let main_c : IVec S_ 1 := constantI S_ 1 1#1
  let main_v5 : IVec S_ 1 := (fun x v => Host.reduce IntOp.andi x v reducesTo_S16384x3072_S_d0_1 h_S_) main_v4 main_c
  let main_v6 : FVec F S1x64 .f32 := Host.absf main_arg1
  let main_cst_0 : FVec F S_ .f32 := constant S_ .f32 0x7F800000#32
  let main_v7 : FVec F S1x64 .f32 := broadcastInDim S1x64 ![] bcast_S_S1x64 main_cst_0
  let main_v8 : IVec S1x64 1 := cmpf .olt main_v6 main_v7
  let main_c_1 : IVec S_ 1 := constantI S_ 1 1#1
  let main_v9 : IVec S_ 1 := (fun x v => Host.reduce IntOp.andi x v reducesTo_S1x64_S_d0_1 h_S_) main_v8 main_c_1
  let main_v10 : IVec S_ 1 := andi main_v5 main_v9
  let main_v11 : FVec F S1x64 .f32 := Host.absf main_arg2
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg3
  let main_cst_4 : FVec F S_ .f32 := constant S_ .f32 0x7F800000#32
  fn_part1 (F := F) main_arg4 main_v15 main_v16 main_cst_4
-- ==== Kernel.lean ====
abbrev S16384x4096 : Shape := ⟨2, ![16384, 4096]⟩
abbrev S1x64 : Shape := ⟨2, ![1, 64]⟩
abbrev S1x128 : Shape := ⟨2, ![1, 128]⟩
abbrev S16384x1024 : Shape := ⟨2, ![16384, 1024]⟩
abbrev S512x512 : Shape := ⟨2, ![512, 512]⟩
abbrev S8192x512 : Shape := ⟨2, ![8192, 512]⟩
abbrev S4x1024x128 : Shape := ⟨3, ![4, 1024, 128]⟩
abbrev S4x1x1024 : Shape := ⟨3, ![4, 1, 1024]⟩
abbrev S4x128x1024 : Shape := ⟨3, ![4, 128, 1024]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S256x256 : Shape := ⟨2, ![256, 256]⟩
abbrev S512x256 : Shape := ⟨2, ![512, 256]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩
abbrev S1x128x256 : Shape := ⟨3, ![1, 128, 256]⟩
abbrev S1 : Shape := ⟨1, ![1]⟩
abbrev S1x1 : Shape := ⟨2, ![1, 1]⟩
abbrev S1x128x1024 : Shape := ⟨3, ![1, 128, 1024]⟩
abbrev S128x1024 : Shape := ⟨2, ![128, 1024]⟩
abbrev S1x1x1024 : Shape := ⟨3, ![1, 1, 1024]⟩
abbrev S1x1024 : Shape := ⟨2, ![1, 1024]⟩
abbrev S128x512 : Shape := ⟨2, ![128, 512]⟩
abbrev S512 : Shape := ⟨1, ![512]⟩
abbrev S512x1 : Shape := ⟨2, ![512, 1]⟩

abbrev nBuf : Space → Nat
  | .hbm => 7
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S4x1024x128, .bf16⟩
  | .local _ .vmem, ⟨12, _⟩ => ⟨S4x1x1024, .f32⟩
  | .local _ .vmem, ⟨13, _⟩ => ⟨S4x1x1024, .f32⟩
  | .local _ .vmem, ⟨14, _⟩ => ⟨S4x128x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_53 : BitVec 32 := 1#32
  ⟨c0_i32_51, v93, c1_i32_53⟩
def k0_mult1 (i : grid0.Coords) (k0_t1 : Fin (k0_t1_loop i).trips) : BitVec 32 :=
  let c2_i32_142 : BitVec 32 := 2#32
  let c0_i32_51 : BitVec 32 := 0#32
  let c1_i32_53 : BitVec 32 := 1#32
  let arg16 : BitVec 32 := Scf.iv c0_i32_51 c1_i32_53 k0_t1
  let v259 : BitVec 32 := Scalar.muli c2_i32_142 arg16
  let c512_i32 : BitVec 32 := 512#32
  let v262 : BitVec 32 := Scalar.muli v259 c512_i32
  v262
def k0_mult2 (i : grid0.Coords) (k0_t1 : Fin (k0_t1_loop i).trips) : BitVec 32 :=
  let c2_i32_143 : BitVec 32 := 2#32
  let c0_i32_51 : BitVec 32 := 0#32
  let c1_i32_53 : BitVec 32 := 1#32
  let arg16 : BitVec 32 := Scf.iv c0_i32_51 c1_i32_53 k0_t1
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  v264
def k0_off1 (i : grid0.Coords) (k0_t1 : Fin (k0_t1_loop i).trips) (c0_i32_149 : BitVec 32) : Fin 2 → Nat :=
  let c2_i32_142 : BitVec 32 := 2#32
  let c0_i32_51 : BitVec 32 := 0#32
  let c1_i32_53 : BitVec 32 := 1#32
  let arg16 : BitVec 32 := Scf.iv c0_i32_51 c1_i32_53 k0_t1
  let v259 : BitVec 32 := Scalar.muli c2_i32_142 arg16
  let c512_i32 : BitVec 32 := 512#32
  let v262 : BitVec 32 := Scalar.muli v259 c512_i32
  let v263 : BitVec 32 := v262
  let v268 : BitVec 32 := Scalar.addi v263 c0_i32_149
  let v269 : Index := Scalar.indexCast v268
  let c0_150 : Index := 0#32
  ![v269.toNat, 0]
def k0_off2 (i : grid0.Coords) (k0_t1 : Fin (k0_t1_loop i).trips) (c0_i32_223 : BitVec 32) : Fin 2 → Nat :=
  let c2_i32_142 : BitVec 32 := 2#32
  let c0_i32_51 : BitVec 32 := 0#32
  let c1_i32_53 : BitVec 32 := 1#32
  let arg16 : BitVec 32 := Scf.iv c0_i32_51 c1_i32_53 k0_t1
  let v259 : BitVec 32 := Scalar.muli c2_i32_142 arg16
  let c512_i32 : BitVec 32 := 512#32
  let v262 : BitVec 32 := Scalar.muli v259 c512_i32
  let v263 : BitVec 32 := v262
  let v377 : BitVec 32 := Scalar.addi v263 c0_i32_223
  let v378 : Index := Scalar.indexCast v377
  let c128_224 : Index := 128#32
  ![v378.toNat, 128]
def k0_off3 (i : grid0.Coords) (k0_t1 : Fin (k0_t1_loop i).trips) (c0_i32_363 : BitVec 32) : Fin 2 → Nat :=
  let c2_i32_142 : BitVec 32 := 2#32
  let c0_i32_51 : BitVec 32 := 0#32
  let c1_i32_53 : BitVec 32 := 1#32
  let arg16 : BitVec 32 := Scf.iv c0_i32_51 c1_i32_53 k0_t1
  let v259 : BitVec 32 := Scalar.muli c2_i32_142 arg16
  let c512_i32 : BitVec 32 := 512#32
  let v262 : BitVec 32 := Scalar.muli v259 c512_i32
  let v263 : BitVec 32 := v262
  let v589 : BitVec 32 := Scalar.addi v263 c0_i32_363
  let v590 : Index := Scalar.indexCast v589
  let c256_364 : Index := 256#32
  ![v590.toNat, 256]
def k0_off4 (i : grid0.Coords) (k0_t1 : Fin (k0_t1_loop i).trips) (c0_i32_503 : BitVec 32) : Fin 2 → Nat :=
  let c2_i32_142 : BitVec 32 := 2#32
  let c0_i32_51 : BitVec 32 := 0#32
  let c1_i32_53 : BitVec 32 := 1#32
  let arg16 : BitVec 32 := Scf.iv c0_i32_51 c1_i32_53 k0_t1
  let v259 : BitVec 32 := Scalar.muli c2_i32_142 arg16
  let c512_i32 : BitVec 32 := 512#32
  let v262 : BitVec 32 := Scalar.muli v259 c512_i32
  let v263 : BitVec 32 := v262
  let v801 : BitVec 32 := Scalar.addi v263 c0_i32_503
  let v802 : Index := Scalar.indexCast v801
  let c384_504 : Index := 384#32
  ![v802.toNat, 384]
def k0_off5 (i : grid0.Coords) (k0_t1 : Fin (k0_t1_loop i).trips) (c0_i32_643 : BitVec 32) : Fin 2 → Nat :=
  let c2_i32_143 : BitVec 32 := 2#32
  let c0_i32_51 : BitVec 32 := 0#32
  let c1_i32_53 : BitVec 32 := 1#32
  let arg16 : BitVec 32 := Scf.iv c0_i32_51 c1_i32_53 k0_t1
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1013 : BitVec 32 := Scalar.addi v265 c0_i32_643
  let v1014 : Index := Scalar.indexCast v1013
  let c0_644 : Index := 0#32
  ![v1014.toNat, 0]
def k0_off6 (i : grid0.Coords) (k0_t1 : Fin (k0_t1_loop i).trips) (c0_i32_783 : BitVec 32) : Fin 2 → Nat :=
  let c2_i32_143 : BitVec 32 := 2#32
  let c0_i32_51 : BitVec 32 := 0#32
  let c1_i32_53 : BitVec 32 := 1#32
  let arg16 : BitVec 32 := Scf.iv c0_i32_51 c1_i32_53 k0_t1
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1225 : BitVec 32 := Scalar.addi v265 c0_i32_783
  let v1226 : Index := Scalar.indexCast v1225
  let c128_784 : Index := 128#32
  ![v1226.toNat, 128]
def k0_off7 (i : grid0.Coords) (k0_t1 : Fin (k0_t1_loop i).trips) (c0_i32_923 : BitVec 32) : Fin 2 → Nat :=
  let c2_i32_143 : BitVec 32 := 2#32
  let c0_i32_51 : BitVec 32 := 0#32
  let c1_i32_53 : BitVec 32 := 1#32
  let arg16 : BitVec 32 := Scf.iv c0_i32_51 c1_i32_53 k0_t1
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1437 : BitVec 32 := Scalar.addi v265 c0_i32_923
  let v1438 : Index := Scalar.indexCast v1437
  let c256_924 : Index := 256#32
  ![v1438.toNat, 256]
def k0_off8 (i : grid0.Coords) (k0_t1 : Fin (k0_t1_loop i).trips) (c0_i32_1063 : BitVec 32) : Fin 2 → Nat :=
  let c2_i32_143 : BitVec 32 := 2#32
  let c0_i32_51 : BitVec 32 := 0#32
  let c1_i32_53 : BitVec 32 := 1#32
  let arg16 : BitVec 32 := Scf.iv c0_i32_51 c1_i32_53 k0_t1
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1649 : BitVec 32 := Scalar.addi v265 c0_i32_1063
  let v1650 : Index := Scalar.indexCast v1649
  let c384_1064 : Index := 384#32
  ![v1650.toNat, 384]
@[reducible] def k0_t2_loop (i : grid0.Coords) : Scf.Loop 32 :=
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let v90 : BitVec 32 := Scalar.addi c0_i32_51 v89
  let c1_i32_54 : BitVec 32 := 1#32
  ⟨v93, v90, c1_i32_54⟩
def k0_mult3 (i : grid0.Coords) (k0_t2 : Fin (k0_t2_loop i).trips) : BitVec 32 :=
  let c2_i32_142 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v259 : BitVec 32 := Scalar.muli c2_i32_142 arg16
  let c512_i32 : BitVec 32 := 512#32
  let v262 : BitVec 32 := Scalar.muli v259 c512_i32
  v262
def k0_mult4 (i : grid0.Coords) (k0_t2 : Fin (k0_t2_loop i).trips) : BitVec 32 :=
  let c2_i32_143 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  v264
def k0_off9 (i : grid0.Coords) (k0_t2 : Fin (k0_t2_loop i).trips) (c0_i32_149 : BitVec 32) : Fin 2 → Nat :=
  let c2_i32_142 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v259 : BitVec 32 := Scalar.muli c2_i32_142 arg16
  let c512_i32 : BitVec 32 := 512#32
  let v262 : BitVec 32 := Scalar.muli v259 c512_i32
  let v263 : BitVec 32 := v262
  let v268 : BitVec 32 := Scalar.addi v263 c0_i32_149
  let v269 : Index := Scalar.indexCast v268
  let c0_150 : Index := 0#32
  ![v269.toNat, 0]
def k0_off10 (i : grid0.Coords) (k0_t2 : Fin (k0_t2_loop i).trips) (c0_i32_223 : BitVec 32) : Fin 2 → Nat :=
  let c2_i32_142 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v259 : BitVec 32 := Scalar.muli c2_i32_142 arg16
  let c512_i32 : BitVec 32 := 512#32
  let v262 : BitVec 32 := Scalar.muli v259 c512_i32
  let v263 : BitVec 32 := v262
  let v377 : BitVec 32 := Scalar.addi v263 c0_i32_223
  let v378 : Index := Scalar.indexCast v377
  let c128_224 : Index := 128#32
  ![v378.toNat, 128]
def k0_off11 (i : grid0.Coords) (k0_t2 : Fin (k0_t2_loop i).trips) (c0_i32_363 : BitVec 32) : Fin 2 → Nat :=
  let c2_i32_142 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v259 : BitVec 32 := Scalar.muli c2_i32_142 arg16
  let c512_i32 : BitVec 32 := 512#32
  let v262 : BitVec 32 := Scalar.muli v259 c512_i32
  let v263 : BitVec 32 := v262
  let v589 : BitVec 32 := Scalar.addi v263 c0_i32_363
  let v590 : Index := Scalar.indexCast v589
  let c256_364 : Index := 256#32
  ![v590.toNat, 256]
def k0_off12 (i : grid0.Coords) (k0_t2 : Fin (k0_t2_loop i).trips) (c0_i32_503 : BitVec 32) : Fin 2 → Nat :=
  let c2_i32_142 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v259 : BitVec 32 := Scalar.muli c2_i32_142 arg16
  let c512_i32 : BitVec 32 := 512#32
  let v262 : BitVec 32 := Scalar.muli v259 c512_i32
  let v263 : BitVec 32 := v262
  let v801 : BitVec 32 := Scalar.addi v263 c0_i32_503
  let v802 : Index := Scalar.indexCast v801
  let c384_504 : Index := 384#32
  ![v802.toNat, 384]
def k0_off13 (i : grid0.Coords) (k0_t2 : Fin (k0_t2_loop i).trips) (c0_i32_643 : BitVec 32) : Fin 2 → Nat :=
  let c2_i32_143 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1013 : BitVec 32 := Scalar.addi v265 c0_i32_643
  let v1014 : Index := Scalar.indexCast v1013
  let c0_644 : Index := 0#32
  ![v1014.toNat, 0]
def k0_off14 (i : grid0.Coords) (k0_t2 : Fin (k0_t2_loop i).trips) (c0_i32_783 : BitVec 32) : Fin 2 → Nat :=
  let c2_i32_143 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1225 : BitVec 32 := Scalar.addi v265 c0_i32_783
  let v1226 : Index := Scalar.indexCast v1225
  let c128_784 : Index := 128#32
  ![v1226.toNat, 128]
def k0_off15 (i : grid0.Coords) (k0_t2 : Fin (k0_t2_loop i).trips) (c0_i32_923 : BitVec 32) : Fin 2 → Nat :=
  let c2_i32_143 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1437 : BitVec 32 := Scalar.addi v265 c0_i32_923
  let v1438 : Index := Scalar.indexCast v1437
  let c256_924 : Index := 256#32
  ![v1438.toNat, 256]
def k0_off16 (i : grid0.Coords) (k0_t2 : Fin (k0_t2_loop i).trips) (c0_i32_1063 : BitVec 32) : Fin 2 → Nat :=
  let c2_i32_143 : BitVec 32 := 2#32
  let c0_i32_51 : BitVec 32 := 0#32
  let arg2 : BitVec 32 := BitVec.ofNat 32 (i 2).val
  let c0_i32 : BitVec 32 := 0#32
  let v73 : BitVec 1 := Scalar.cmpi .sgt arg2 c0_i32
  let v74 : BitVec 32 := Scalar.extui v73
  let c0_i32_46 : BitVec 32 := 0#32
  let v75 : BitVec 1 := Scalar.cmpi .slt arg2 c0_i32_46
  let v76 : BitVec 32 := Scalar.extui v75
  let v77 : BitVec 32 := Scalar.subi v74 v76
  let c2_i32 : BitVec 32 := 2#32
  let c0_i32_47 : BitVec 32 := 0#32
  let v78 : BitVec 1 := Scalar.cmpi .sgt c2_i32 c0_i32_47
  let v79 : BitVec 32 := Scalar.extui v78
  let c0_i32_48 : BitVec 32 := 0#32
  let v80 : BitVec 1 := Scalar.cmpi .slt c2_i32 c0_i32_48
  let v81 : BitVec 32 := Scalar.extui v80
  let v82 : BitVec 32 := Scalar.subi v79 v81
  let v83 : BitVec 1 := Scalar.cmpi .ne v77 v82
  let v84 : BitVec 32 := Scalar.remsi arg2 c2_i32
  let c0_i32_49 : BitVec 32 := 0#32
  let v85 : BitVec 1 := Scalar.cmpi .ne v84 c0_i32_49
  let v86 : BitVec 1 := Scalar.andi v83 v85
  let v72 : BitVec 32 := Scalar.divsi arg2 c2_i32
  let c1_i32 : BitVec 32 := 1#32
  let v87 : BitVec 32 := Scalar.subi v72 c1_i32
  let v88 : BitVec 32 := Scalar.select v86 v87 v72
  let v89 : BitVec 32 := Scalar.subi v88 c0_i32_51
  let c1_i32_52 : BitVec 32 := 1#32
  let v91 : BitVec 32 := Scalar.divsi v89 c1_i32_52
  let v92 : BitVec 32 := Scalar.muli v91 c1_i32_52
  let v93 : BitVec 32 := Scalar.addi c0_i32_51 v92
  let c1_i32_54 : BitVec 32 := 1#32
  let arg16 : BitVec 32 := Scf.iv v93 c1_i32_54 k0_t2
  let v260 : BitVec 32 := Scalar.muli c2_i32_143 arg16
  let c1_i32_144 : BitVec 32 := 1#32
  let v261 : BitVec 32 := Scalar.addi v260 c1_i32_144
  let c512_i32_145 : BitVec 32 := 512#32
  let v264 : BitVec 32 := Scalar.muli v261 c512_i32_145
  let v265 : BitVec 32 := v264
  let v1649 : BitVec 32 := Scalar.addi v265 c0_i32_1063
  let v1650 : Index := Scalar.indexCast v1649
  let c384_1064 : Index := 384#32
  ![v1650.toNat, 384]
def k0_cond1 (i : grid0.Coords) : BitVec 1 :=
  let arg2 : BitVec 32 := BitVec.ofNat 32 (i 2).val
  let c2_i32_55 : BitVec 32 := 2#32
  let c0_i32_56 : BitVec 32 := 0#32
  let v94 : BitVec 1 := Scalar.cmpi .eq c2_i32_55 c0_i32_56
  let c1_i32_57 : BitVec 32 := 1#32
  let v95 : BitVec 32 := Scalar.select v94 c1_i32_57 c2_i32_55
  let v96 : BitVec 32 := Scalar.remsi arg2 v95
  let c0_i32_59 : BitVec 32 := 0#32
  let v98 : BitVec 1 := Scalar.cmpi .slt v96 c0_i32_59
  let c0_i32_60 : BitVec 32 := 0#32
  let v99 : BitVec 1 := Scalar.cmpi .slt v95 c0_i32_60
  let v100 : BitVec 1 := Scalar.xori v98 v99
  let c0_i32_58 : BitVec 32 := 0#32
  let v97 : BitVec 1 := Scalar.cmpi .ne v96 c0_i32_58
  let v101 : BitVec 1 := Scalar.andi v100 v97
  let v102 : BitVec 32 := Scalar.addi v96 v95
  let v103 : BitVec 32 := Scalar.select v101 v102 v96
  let c1_i32_61 : BitVec 32 := 1#32
  let v104 : BitVec 1 := Scalar.cmpi .eq v103 c1_i32_61
  let v105 : BitVec 32 := Scalar.extui v104
  let c0_i32_62 : BitVec 32 := 0#32
  let v106 : BitVec 1 := Scalar.cmpi .ne v105 c0_i32_62
  v106

def k0_mult5 (i : grid0.Coords) : BitVec 32 :=
  let arg2 : BitVec 32 := BitVec.ofNat 32 (i 2).val
  let c1_i32_142 : BitVec 32 := 1#32
  let v259 : BitVec 32 := Scalar.subi arg2 c1_i32_142
  let c512_i32 : BitVec 32 := 512#32
  let v260 : BitVec 32 := Scalar.muli v259 c512_i32
  v260
def k0_mult6 (i : grid0.Coords) : BitVec 32 :=
  let arg2 : BitVec 32 := BitVec.ofNat 32 (i 2).val
  let c512_i32_143 : BitVec 32 := 512#32
  let v262 : BitVec 32 := Scalar.muli arg2 c512_i32_143
  v262
def k0_off17 (i : grid0.Coords) (c0_i32_147 : BitVec 32) : Fin 2 → Nat :=
  let arg2 : BitVec 32 := BitVec.ofNat 32 (i 2).val
  let c1_i32_142 : BitVec 32 := 1#32
  let v259 : BitVec 32 := Scalar.subi arg2 c1_i32_142
  let c512_i32 : BitVec 32 := 512#32
  let v260 : BitVec 32 := Scalar.muli v259 c512_i32
  let v261 : BitVec 32 := v260
  let v266 : BitVec 32 := Scalar.addi v261 c0_i32_147
  let v267 : Index := Scalar.indexCast v266
  let c0_148 : Index := 0#32
  ![v267.toNat, 0]
def k0_off18 (i : grid0.Coords) (c0_i32_221 : BitVec 32) : Fin 2 → Nat :=
  let arg2 : BitVec 32 := BitVec.ofNat 32 (i 2).val
  let c1_i32_142 : BitVec 32 := 1#32
  let v259 : BitVec 32 := Scalar.subi arg2 c1_i32_142
  let c512_i32 : BitVec 32 := 512#32
  let v260 : BitVec 32 := Scalar.muli v259 c512_i32
  let v261 : BitVec 32 := v260
  let v375 : BitVec 32 := Scalar.addi v261 c0_i32_221
  let v376 : Index := Scalar.indexCast v375
  let c128_222 : Index := 128#32
  ![v376.toNat, 128]
def k0_off19 (i : grid0.Coords) (c0_i32_361 : BitVec 32) : Fin 2 → Nat :=
  let arg2 : BitVec 32 := BitVec.ofNat 32 (i 2).val
  let c1_i32_142 : BitVec 32 := 1#32
  let v259 : BitVec 32 := Scalar.subi arg2 c1_i32_142
  let c512_i32 : BitVec 32 := 512#32
  let v260 : BitVec 32 := Scalar.muli v259 c512_i32
  let v261 : BitVec 32 := v260
  let v587 : BitVec 32 := Scalar.addi v261 c0_i32_361
  let v588 : Index := Scalar.indexCast v587
  let c256_362 : Index := 256#32
  ![v588.toNat, 256]
def k0_off20 (i : grid0.Coords) (c0_i32_501 : BitVec 32) : Fin 2 → Nat :=
  let arg2 : BitVec 32 := BitVec.ofNat 32 (i 2).val
  let c1_i32_142 : BitVec 32 := 1#32
  let v259 : BitVec 32 := Scalar.subi arg2 c1_i32_142
  let c512_i32 : BitVec 32 := 512#32
  let v260 : BitVec 32 := Scalar.muli v259 c512_i32
  let v261 : BitVec 32 := v260
  let v799 : BitVec 32 := Scalar.addi v261 c0_i32_501
  let v800 : Index := Scalar.indexCast v799
  let c384_502 : Index := 384#32
  ![v800.toNat, 384]
def k0_off21 (i : grid0.Coords) (c0_i32_641 : BitVec 32) : Fin 2 → Nat :=
  let arg2 : BitVec 32 := BitVec.ofNat 32 (i 2).val
  let c512_i32_143 : BitVec 32 := 512#32
  let v262 : BitVec 32 := Scalar.muli arg2 c512_i32_143
  let v263 : BitVec 32 := v262
  let v1011 : BitVec 32 := Scalar.addi v263 c0_i32_641
  let v1012 : Index := Scalar.indexCast v1011
  let c0_642 : Index := 0#32
  ![v1012.toNat, 0]
def k0_off22 (i : grid0.Coords) (c0_i32_780 : BitVec 32) : Fin 2 → Nat :=
  let arg2 : BitVec 32 := BitVec.ofNat 32 (i 2).val
  let c512_i32_143 : BitVec 32 := 512#32
  let v262 : BitVec 32 := Scalar.muli arg2 c512_i32_143
  let v263 : BitVec 32 := v262
  let v1234 : BitVec 32 := Scalar.addi v263 c0_i32_780
  let v1235 : Index := Scalar.indexCast v1234
  let c128_781 : Index := 128#32
  ![v1235.toNat, 128]
def k0_off23 (i : grid0.Coords) (c0_i32_916 : BitVec 32) : Fin 2 → Nat :=
  let arg2 : BitVec 32 := BitVec.ofNat 32 (i 2).val
  let c512_i32_143 : BitVec 32 := 512#32
  let v262 : BitVec 32 := Scalar.muli arg2 c512_i32_143
  let v263 : BitVec 32 := v262
  let v1450 : BitVec 32 := Scalar.addi v263 c0_i32_916
  let v1451 : Index := Scalar.indexCast v1450
  let c256_917 : Index := 256#32
  ![v1451.toNat, 256]
def k0_off24 (i : grid0.Coords) (c0_i32_1052 : BitVec 32) : Fin 2 → Nat :=
  let arg2 : BitVec 32 := BitVec.ofNat 32 (i 2).val
  let c512_i32_143 : BitVec 32 := 512#32
  let v262 : BitVec 32 := Scalar.muli arg2 c512_i32_143
  let v263 : BitVec 32 := v262
  let v1666 : BitVec 32 := Scalar.addi v263 c0_i32_1052
  let v1667 : Index := Scalar.indexCast v1666
  let c384_1053 : Index := 384#32
  ![v1667.toNat, 384]
def k0_cond2 (i : grid0.Coords) : BitVec 1 :=
  let arg2 : BitVec 32 := BitVec.ofNat 32 (i 2).val
  let c2_i32_63 : BitVec 32 := 2#32
  let c0_i32_64 : BitVec 32 := 0#32
  let v107 : BitVec 1 := Scalar.cmpi .eq c2_i32_63 c0_i32_64
  let c1_i32_65 : BitVec 32 := 1#32
  let v108 : BitVec 32 := Scalar.select v107 c1_i32_65 c2_i32_63
  let v109 : BitVec 32 := Scalar.remsi arg2 v108
  let c0_i32_67 : BitVec 32 := 0#32
  let v111 : BitVec 1 := Scalar.cmpi .slt v109 c0_i32_67
  let c0_i32_68 : BitVec 32 := 0#32
  let v112 : BitVec 1 := Scalar.cmpi .slt v108 c0_i32_68
  let v113 : BitVec 1 := Scalar.xori v111 v112
  let c0_i32_66 : BitVec 32 := 0#32
  let v110 : BitVec 1 := Scalar.cmpi .ne v109 c0_i32_66
  let v114 : BitVec 1 := Scalar.andi v113 v110
  let v115 : BitVec 32 := Scalar.addi v109 v108
  let v116 : BitVec 32 := Scalar.select v114 v115 v109
  let c0_i32_69 : BitVec 32 := 0#32
  let v117 : BitVec 1 := Scalar.cmpi .eq v116 c0_i32_69
  let v118 : BitVec 32 := Scalar.extui v117
  let c0_i32_70 : BitVec 32 := 0#32
  let v119 : BitVec 1 := Scalar.cmpi .ne v118 c0_i32_70
  v119

def k0_mult7 (i : grid0.Coords) : BitVec 32 :=
  let arg2 : BitVec 32 := BitVec.ofNat 32 (i 2).val
  let c512_i32 : BitVec 32 := 512#32
  let v259 : BitVec 32 := Scalar.muli arg2 c512_i32
  v259
def k0_off25 (i : grid0.Coords) (c0_i32_145 : BitVec 32) : Fin 2 → Nat :=
  let arg2 : BitVec 32 := BitVec.ofNat 32 (i 2).val
  let c512_i32 : BitVec 32 := 512#32
  let v259 : BitVec 32 := Scalar.muli arg2 c512_i32
  let v260 : BitVec 32 := v259
  let v263 : BitVec 32 := Scalar.addi v260 c0_i32_145
  let v264 : Index := Scalar.indexCast v263
  let c0_146 : Index := 0#32
  ![v264.toNat, 0]
def k0_off26 (i : grid0.Coords) (c0_i32_218 : BitVec 32) : Fin 2 → Nat :=
  let arg2 : BitVec 32 := BitVec.ofNat 32 (i 2).val
  let c512_i32 : BitVec 32 := 512#32
  let v259 : BitVec 32 := Scalar.muli arg2 c512_i32
  let v260 : BitVec 32 := v259
  let v383 : BitVec 32 := Scalar.addi v260 c0_i32_218
  let v384 : Index := Scalar.indexCast v383
  let c128_219 : Index := 128#32
  ![v384.toNat, 128]
def k0_off27 (i : grid0.Coords) (c0_i32_354 : BitVec 32) : Fin 2 → Nat :=
  let arg2 : BitVec 32 := BitVec.ofNat 32 (i 2).val
  let c512_i32 : BitVec 32 := 512#32
  let v259 : BitVec 32 := Scalar.muli arg2 c512_i32
  let v260 : BitVec 32 := v259
  let v599 : BitVec 32 := Scalar.addi v260 c0_i32_354
  let v600 : Index := Scalar.indexCast v599
  let c256_355 : Index := 256#32
  ![v600.toNat, 256]
def k0_off28 (i : grid0.Coords) (c0_i32_490 : BitVec 32) : Fin 2 → Nat :=
  let arg2 : BitVec 32 := BitVec.ofNat 32 (i 2).val
  let c512_i32 : BitVec 32 := 512#32
  let v259 : BitVec 32 := Scalar.muli arg2 c512_i32
  let v260 : BitVec 32 := v259
  let v815 : BitVec 32 := Scalar.addi v260 c0_i32_490
  let v816 : Index := Scalar.indexCast v815
  let c384_491 : Index := 384#32
  ![v816.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x4096 : Shape := ⟨2, ![16384, 4096]⟩
abbrev S1x64 : Shape := ⟨2, ![1, 64]⟩
abbrev S1x128 : Shape := ⟨2, ![1, 128]⟩
abbrev S2x8192x4096 : Shape := ⟨3, ![2, 8192, 4096]⟩
abbrev S2x8192x1024 : Shape := ⟨3, ![2, 8192, 1024]⟩
abbrev S_ : Shape := ⟨0, ![]⟩
abbrev S2x8192x8x2x64 : Shape := ⟨5, ![2, 8192, 8, 2, 64]⟩
abbrev S2x8192x8x128 : Shape := ⟨4, ![2, 8192, 8, 128]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16384x4096, .f32⟩
  | .hbm, ⟨7, _⟩ => ⟨S2x8192x4096, .f32⟩
  | .hbm, ⟨8, _⟩ => ⟨S2x8192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S2x8192x8x2x64, .f32⟩
  | .hbm, ⟨16, _⟩ => ⟨S2x8192x1024, .f32⟩
  | .hbm, ⟨17, _⟩ => ⟨S2x8192x8x2x64, .f32⟩
  | .hbm, ⟨18, _⟩ => ⟨S2x8192x1024, .f32⟩
  | .hbm, ⟨19, _⟩ => ⟨S2x8192x8x128, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8x2x8192x8192, .f32⟩
  | .hbm, ⟨32, _⟩ => ⟨S_, .f32⟩
  | .hbm, ⟨33, _⟩ => ⟨S2x8x2x8192x8192, .f32⟩
  | .hbm, ⟨34, _⟩ => ⟨S2x8x2x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S2x8x2x8192x8192, .i1⟩
  | .hbm, ⟨44, _⟩ => ⟨S2x8x2x8192x8192, .f32⟩
  | .hbm, ⟨45, _⟩ => ⟨S2x8x2x8192x8192, .f32⟩
  | .hbm, ⟨46, _⟩ => ⟨S_, .f32⟩
  | .hbm, ⟨47, _⟩ => ⟨S2x8x2x8192, .f32⟩
  | .hbm, ⟨48, _⟩ => ⟨S_, .f32⟩
  | .hbm, ⟨49, _⟩ => ⟨S2x8x2x8192, .f32⟩
  | .hbm, ⟨50, _⟩ => ⟨S2x8x2x8192, .f32⟩
  | .hbm, ⟨51, _⟩ => ⟨S2x8x2x8192x1, .f32⟩
  | .hbm, ⟨52, _⟩ => ⟨S2x8x2x8192x8192, .f32⟩
  | .hbm, ⟨53, _⟩ => ⟨S2x8x2x8192x8192, .f32⟩
  | .hbm, ⟨54, _⟩ => ⟨S2x8x2x8192x8192, .f32⟩
  | .hbm, ⟨55, _⟩ => ⟨S_, .f32⟩
  | .hbm, ⟨56, _⟩ => ⟨S2x8x2x8192, .f32⟩
  | .hbm, ⟨57, _⟩ => ⟨S2x8x2x8192x1, .f32⟩
  | .hbm, ⟨58, _⟩ => ⟨S2x8x2x8192x8192, .f32⟩
  | .hbm, ⟨59, _⟩ => ⟨S2x8x2x8192x8192, .f32⟩
  | .hbm, ⟨60, _⟩ => ⟨S2x8x1x8192x8192, .f32⟩
  | .hbm, ⟨61, _⟩ => ⟨S2x8x8192x8192, .f32⟩
  | .hbm, ⟨62, _⟩ => ⟨S2x8x1x8192x8192, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S2x8x8192x8192, .f32⟩
  | .hbm, ⟨67, _⟩ => ⟨S2x8x128x8192, .f32⟩
  | .hbm, ⟨68, _⟩ => ⟨S2x8192x8x128, .f32⟩
  | .hbm, ⟨69, _⟩ => ⟨S2x8192x8x128, .f32⟩
  | .hbm, ⟨70, _⟩ => ⟨S_, .f32⟩
  | .hbm, ⟨71, _⟩ => ⟨S2x8192x8, .f32⟩
  | .hbm, ⟨72, _⟩ => ⟨S2x8192x8x1, .f32⟩
  | .hbm, ⟨73, _⟩ => ⟨S_, .f32⟩
  | .hbm, ⟨74, _⟩ => ⟨S2x8192x8x1, .f32⟩
  | .hbm, ⟨75, _⟩ => ⟨S2x8192x8x1, .f32⟩
  | .hbm, ⟨76, _⟩ => ⟨S_, .f32⟩
  | .hbm, ⟨77, _⟩ => ⟨S2x8192x8x1, .f32⟩
  | .hbm, ⟨78, _⟩ => ⟨S2x8192x8x1, .f32⟩
  | .hbm, ⟨79, _⟩ => ⟨S2x8192x8x1, .f32⟩
  | .hbm, ⟨80, _⟩ => ⟨S2x8192x8x128, .f32⟩
  | .hbm, ⟨81, _⟩ => ⟨S2x8192x8x128, .f32⟩
  | .hbm, ⟨82, _⟩ => ⟨S128, .f32⟩
  | .hbm, ⟨83, _⟩ => ⟨S1x1x1x128, .f32⟩
  | .hbm, ⟨84, _⟩ => ⟨S2x8192x8x128, .f32⟩
  | .hbm, ⟨85, _⟩ => ⟨S2x8192x8x128, .f32⟩
  | .hbm, ⟨86, _⟩ => ⟨S_, .f32⟩
  | .hbm, ⟨87, _⟩ => ⟨S2x8192x8x128, .f32⟩
  | .hbm, ⟨88, _⟩ => ⟨S2x8192x8x128, .f32⟩
  | .hbm, ⟨89, _⟩ => ⟨S16384x1024, .f32⟩
  | .hbm, ⟨90, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x9216 : Shape := ⟨2, ![1024, 9216]⟩
abbrev S1024x1024 : Shape := ⟨2, ![1024, 1024]⟩
abbrev S1x1024x1024 : Shape := ⟨3, ![1, 1024, 1024]⟩
abbrev S9x1024x1024 : Shape := ⟨3, ![9, 1024, 1024]⟩
abbrev S16384x5120 : Shape := ⟨2, ![16384, 5120]⟩
abbrev S16384x4096 : Shape := ⟨2, ![16384, 4096]⟩
abbrev S2x1024x8192 : Shape := ⟨3, ![2, 1024, 8192]⟩
abbrev S256x1024 : Shape := ⟨2, ![256, 1024]⟩
abbrev S256x5120 : Shape := ⟨2, ![256, 5120]⟩
abbrev S256x4096 : Shape := ⟨2, ![256, 4096]⟩
abbrev S1x1024x256 : Shape := ⟨3, ![1, 1024, 256]⟩
abbrev S256 : Shape := ⟨1, ![256]⟩
abbrev S256x1 : Shape := ⟨2, ![256, 1]⟩
abbrev S1024x256 : Shape := ⟨2, ![1024, 256]⟩

abbrev nBuf : Space → Nat
  | .hbm => 30
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x9216, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S9x1024x1024, .f32⟩
  | .hbm, ⟨22, _⟩ => ⟨S9x1024x1024, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S16384x5120, .f32⟩
  | .hbm, ⟨27, _⟩ => ⟨S16384x4096, .bf16⟩
  | .hbm, ⟨28, _⟩ => ⟨S2x1024x8192, .f32⟩
  | .hbm, ⟨29, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S9x1024x1024, .bf16⟩
  | .local _ .vmem, ⟨4, _⟩ => ⟨S1024x1024, .bf16⟩
  | .local _ .vmem, ⟨5, _⟩ => ⟨S256x5120, .f32⟩
  | .local _ .vmem, ⟨6, _⟩ => ⟨S256x5120, .f32⟩
  | .local _ .vmem, ⟨7, _⟩ => ⟨S256x4096, .bf16⟩
  | .local _ .vmem, ⟨8, _⟩ => ⟨S256x4096, .bf16⟩
  | .local _ .vmem, ⟨9, _⟩ => ⟨S1x1024x256, .f32⟩
  | .local _ .vmem, ⟨10, _⟩ => ⟨S1x1024x256, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23_0 : Ref sig .tc := ⟨.hbm, 26, rfl⟩
abbrev main_v23_1 : Ref sig .tc := ⟨.hbm, 27, rfl⟩
abbrev main_v23_2 : Ref sig .tc := ⟨.hbm, 28, rfl⟩
abbrev main_v23_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x1024 : Shape := ⟨2, ![1, 1024]⟩
abbrev S1024x9216 : Shape := ⟨2, ![1024, 9216]⟩
abbrev S_ : Shape := ⟨0, ![]⟩
abbrev S16384 : Shape := ⟨1, ![16384]⟩
abbrev S16384x1 : Shape := ⟨2, ![16384, 1]⟩
abbrev S16384x9216 : Shape := ⟨2, ![16384, 9216]⟩
abbrev S16384x2048 : Shape := ⟨2, ![16384, 2048]⟩
abbrev S16384x3072 : Shape := ⟨2, ![16384, 3072]⟩
abbrev S16384x5120 : Shape := ⟨2, ![16384, 5120]⟩
abbrev S16384x4096 : Shape := ⟨2, ![16384, 4096]⟩
abbrev S2x8192x1024 : Shape := ⟨3, ![2, 8192, 1024]⟩
abbrev S2x1024x8192 : Shape := ⟨3, ![2, 1024, 8192]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x9216, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x9216, .f32⟩
  | .hbm, ⟨19, _⟩ => ⟨S16384x2048, .f32⟩
  | .hbm, ⟨20, _⟩ => ⟨S16384x3072, .f32⟩
  | .hbm, ⟨21, _⟩ => ⟨S16384x5120, .f32⟩
  | .hbm, ⟨22, _⟩ => ⟨S16384x4096, .f32⟩
  | .hbm, ⟨23, _⟩ => ⟨S16384x4096, .bf16⟩
  | .hbm, ⟨24, _⟩ => ⟨S16384x1024, .f32⟩
  | .hbm, ⟨25, _⟩ => ⟨S2x8192x1024, .f32⟩
  | .hbm, ⟨26, _⟩ => ⟨S2x1024x8192, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S16384x1024 : Shape := ⟨2, ![16384, 1024]⟩
abbrev S16384x5120 : Shape := ⟨2, ![16384, 5120]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x5120, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S16384x1024, .f32⟩
  | .hbm, ⟨16, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S16384x5120 : Shape := ⟨2, ![16384, 5120]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x5120, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel4.lean ====
abbrev S512x1024 : Shape := ⟨2, ![512, 1024]⟩
abbrev S1x1024 : Shape := ⟨2, ![1, 1024]⟩
abbrev S1024x2048 : Shape := ⟨2, ![1024, 2048]⟩
abbrev S2x512x1024 : Shape := ⟨3, ![2, 512, 1024]⟩
abbrev S1024x1024 : Shape := ⟨2, ![1024, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .f32⟩
  | .hbm, ⟨3, _⟩ => ⟨S1024x2048, .bf16⟩
  | .hbm, ⟨4, _⟩ => ⟨S2x512x1024, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S512x1024 : Shape := ⟨2, ![512, 1024]⟩
abbrev S1x1024 : Shape := ⟨2, ![1, 1024]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S512x2048 : Shape := ⟨2, ![512, 2048]⟩
abbrev S512x2x1024 : Shape := ⟨3, ![512, 2, 1024]⟩
abbrev S2x512x1024 : Shape := ⟨3, ![2, 512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x2048, .f32⟩
  | .hbm, ⟨19, _⟩ => ⟨S512x2x1024, .f32⟩
  | .hbm, ⟨20, _⟩ => ⟨S2x512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S1024x1024 : Shape := ⟨2, ![1024, 1024]⟩
abbrev S1x1024 : Shape := ⟨2, ![1, 1024]⟩
abbrev S1024x9216 : Shape := ⟨2, ![1024, 9216]⟩
abbrev S1x1024x1024 : Shape := ⟨3, ![1, 1024, 1024]⟩
abbrev S9x1024x1024 : Shape := ⟨3, ![9, 1024, 1024]⟩
abbrev S1024x5120 : Shape := ⟨2, ![1024, 5120]⟩
abbrev S1024x4096 : Shape := ⟨2, ![1024, 4096]⟩
abbrev S256x1024 : Shape := ⟨2, ![256, 1024]⟩
abbrev S256x5120 : Shape := ⟨2, ![256, 5120]⟩
abbrev S256x4096 : Shape := ⟨2, ![256, 4096]⟩
abbrev S256 : Shape := ⟨1, ![256]⟩
abbrev S256x1 : Shape := ⟨2, ![256, 1]⟩

abbrev nBuf : Space → Nat
  | .hbm => 30
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x9216, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S9x1024x1024, .f32⟩
  | .hbm, ⟨22, _⟩ => ⟨S9x1024x1024, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1024x5120, .f32⟩
  | .hbm, ⟨27, _⟩ => ⟨S1024x4096, .f32⟩
  | .hbm, ⟨28, _⟩ => ⟨S1024x1024, .f32⟩
  | .hbm, ⟨29, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S9x1024x1024, .bf16⟩
  | .local _ .vmem, ⟨4, _⟩ => ⟨S1024x1024, .bf16⟩
  | .local _ .vmem, ⟨5, _⟩ => ⟨S256x5120, .f32⟩
  | .local _ .vmem, ⟨6, _⟩ => ⟨S256x5120, .f32⟩
  | .local _ .vmem, ⟨7, _⟩ => ⟨S256x4096, .f32⟩
  | .local _ .vmem, ⟨8, _⟩ => ⟨S256x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23_0 : Ref sig .tc := ⟨.hbm, 26, rfl⟩
abbrev main_v23_1 : Ref sig .tc := ⟨.hbm, 27, rfl⟩
abbrev main_v23_2 : Ref sig .tc := ⟨.hbm, 28, rfl⟩
abbrev main_v23_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1024x1024 : Shape := ⟨2, ![1024, 1024]⟩
abbrev S1x1024 : Shape := ⟨2, ![1, 1024]⟩
abbrev S1024x9216 : Shape := ⟨2, ![1024, 9216]⟩
abbrev S_ : Shape := ⟨0, ![]⟩
abbrev S1024 : Shape := ⟨1, ![1024]⟩
abbrev S1024x1 : Shape := ⟨2, ![1024, 1]⟩
abbrev S1024x2048 : Shape := ⟨2, ![1024, 2048]⟩
abbrev S1024x3072 : Shape := ⟨2, ![1024, 3072]⟩
abbrev S1024x5120 : Shape := ⟨2, ![1024, 5120]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x9216, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x9216, .f32⟩
  | .hbm, ⟨19, _⟩ => ⟨S1024x2048, .f32⟩
  | .hbm, ⟨20, _⟩ => ⟨S1024x3072, .f32⟩
  | .hbm, ⟨21, _⟩ => ⟨S1024x5120, .f32⟩
  | .hbm, ⟨22, _⟩ => ⟨S1024x4096, .f32⟩
  | .hbm, ⟨23, _⟩ => ⟨S1024x1024, .f32⟩
  | .hbm, ⟨24, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Load.lean ====
/- The two facts about reading a memory after a list of stores that every later module uses. -/
module

public import Idealize.ShloMosaic.Lib.Pointwise
public import Idealize.ShloMosaic.Lib.Pipeline.Value

@[expose] public section

noncomputable section

namespace Cert

open Idealize.ShloMosaic

variable {sig : RefSig} {κ : Kind} {sp : Space} {s : Shape} {e : EltTy}

/-- A load whose box is disjoint from the last store's reads what the earlier stores left. -/
theorem load_skip (v : View sig κ sp s e) (f : v.ty.Contents (Elt Ideal)) (r : Rect s)
    (w : r.shape.Idx → Elt Ideal e) (L : List (View.Piece (Elt Ideal) s e)) (B : LoadRect s)
    (h : LoadRect.disj r B = true) :
    v.readAt (Elt Ideal) B (v.writes (Elt Ideal) f (⟨r, w⟩ :: L)) = v.readAt (Elt Ideal) B (v.writes (Elt Ideal) f L) := by
  funext j
  rw [View.readAt_apply, View.readAt_apply]
  exact View.read_writes_cons_miss v f ⟨r, w⟩ L _ (LoadRect.idx_not_mem_of_disj h j)

/-- A load of the last store's own box reads that store. -/
theorem load_hit (v : View sig κ sp s e) (f : v.ty.Contents (Elt Ideal)) (r : Rect s)
    (w : r.shape.Idx → Elt Ideal e) (L : List (View.Piece (Elt Ideal) s e)) :
    v.readAt (Elt Ideal) r.toLoadRect (v.writes (Elt Ideal) f (⟨r, w⟩ :: L)) = w := by
  funext j
  rw [View.readAt_apply]
  exact View.read_writes_cons_emb v f r w L j

end Cert

end
-- ==== Proof.Setup.lean ====
/- The memories one grid point of the kernel works on, gathered in one record. -/
module

public import proofs.«01_k».proof.Proof.Load
public import proofs.«01_k».proof.Proof.Gen.KernelIdeal.Loops

@[expose] public section

set_option maxRecDepth 16384

noncomputable section

namespace Cert.Attn

open Idealize.ShloMosaic Idealize.SL.Sem Cert.KernelIdeal Cert.KernelIdeal.Gen

/-- A grid point with the memories the kernel is called on there: the query, key and value blocks, the four lambda
    vectors, the gain, the result block, and the four scratch arrays (masked queries, running maximum, running sum,
    accumulator). -/
structure Setup where
  c : Dev nD
  i : grid0.Coords
  arg3 : Memref sig .tc .vmem S512x512 .bf16
  harg3 : arg3.IsWhole
  arg4 : Memref sig .tc .vmem S8192x512 .bf16
  harg4 : arg4.IsWhole
  arg5 : Memref sig .tc .vmem S8192x512 .bf16
  harg5 : arg5.IsWhole
  arg6 : Memref sig .tc .vmem S1x64 .f32
  harg6 : arg6.IsWhole
  arg7 : Memref sig .tc .vmem S1x64 .f32
  harg7 : arg7.IsWhole
  arg8 : Memref sig .tc .vmem S1x64 .f32
  harg8 : arg8.IsWhole
  arg9 : Memref sig .tc .vmem S1x64 .f32
  harg9 : arg9.IsWhole
  arg10 : Memref sig .tc .vmem S1x128 .f32
  harg10 : arg10.IsWhole
  arg11 : Memref sig .tc .vmem S512x512 .bf16
  harg11 : arg11.IsWhole
  arg12 : Memref sig .tc .vmem S4x1024x128 .bf16
  harg12 : arg12.IsWhole
  arg13 : Memref sig .tc .vmem S4x1x1024 .f32
  harg13 : arg13.IsWhole
  arg14 : Memref sig .tc .vmem S4x1x1024 .f32
  harg14 : arg14.IsWhole
  arg15 : Memref sig .tc .vmem S4x128x1024 .f32
  harg15 : arg15.IsWhole

/-- The kernel runs under no variants. -/
abbrev Setup.𝒱 (_ : Setup) : Variants := Variants.none

/-- … and under no loop bound. -/
abbrev Setup.bd (S : Setup) : Option S.𝒱.V := none

end Cert.Attn

end
-- ==== Proof.Chunk.lean ====
/- One chunk of 256 columns against one tile of 512 keys: the scores, the new running maximum, the new running sum and
   the new accumulator, as the kernel computes them from what it loads; and the boxes it loads and stores. -/
module

public import proofs.«01_k».proof.Proof.Setup

@[expose] public section

set_option maxRecDepth 16384

noncomputable section

namespace Cert.Attn

open Idealize.ShloMosaic Idealize.SL.Sem Cert.KernelIdeal Cert.KernelIdeal.Gen

/-- The box of one head's chunk in the running maximum and in the running sum. -/
def mBox (h ch : Fin 4) : Rect S4x1x1024 :=
  Rect.unit ![h.val, 0, 256 * ch.val] S1x1x256.size (by revert h ch; decide)

/-- The box of one head's chunk in the accumulator. -/
def aBox (h ch : Fin 4) : Rect S4x128x1024 :=
  Rect.unit ![h.val, 0, 256 * ch.val] S1x128x256.size (by revert h ch; decide)

/-- The box of one head's chunk in the masked queries. -/
def qBox (h ch : Fin 4) : Rect S4x1024x128 :=
  Rect.unit ![h.val, 256 * ch.val, 0] S1x256x128.size (by revert h ch; decide)

/-- Scores of a chunk's 256 columns against 512 keys. -/
def scores (q : Vec Ideal S1x256x128 .bf16) (k0 k1 : Vec Ideal S256x128 .bf16) : FVec Ideal S512x256 .f32 :=
  k0_pay2 q k0 k1

/-- The running maximum after a tile. -/
def newMax (s : FVec Ideal S512x256 .f32) (m : Vec Ideal S1x1x256 .f32) : FVec Ideal S1x1x256 .f32 := k0_pay11 s m

/-- The running sum after a tile. -/
def newSum (s : FVec Ideal S512x256 .f32) (m l : Vec Ideal S1x1x256 .f32) : FVec Ideal S1x1x256 .f32 := k0_pay10 s m l

/-- The accumulator after a tile. -/
def newAcc (s : FVec Ideal S512x256 .f32) (v0 v1 : Vec Ideal S256x128 .bf16) (m : Vec Ideal S1x1x256 .f32)
    (a : Vec Ideal S1x128x256 .f32) : FVec Ideal S1x128x256 .f32 :=
  k0_pay23 (k0_pay8 s m) (k0_pay12 s m) (k0_pay22 (k0_pay12 s m) v0) v1 a

/-- Where a trip's tile of keys starts in the key block: tile 0 or 1 of the trip, one head, and the row the half begins at. -/
def tileOff (i : grid0.Coords) (k : Fin (k0_t1_loop i).trips) : Fin 2 → Fin 4 → BitVec 32 → Fin 2 → ℕ
  | 0, 0 => k0_off1 i k
  | 0, 1 => k0_off2 i k
  | 0, 2 => k0_off3 i k
  | 0, 3 => k0_off4 i k
  | 1, 0 => k0_off5 i k
  | 1, 1 => k0_off6 i k
  | 1, 2 => k0_off7 i k
  | 1, 3 => k0_off8 i k

/-- A trip's tile lies in the key block. -/
theorem tileOff_inb (i : grid0.Coords) (k : Fin (k0_t1_loop i).trips) (t : Fin 2) (h : Fin 4) (r : Fin 2) :
    ∀ a, tileOff i k t h (BitVec.ofNat 32 (256 * r.val)) a + S256x128.size a ≤ S8192x512.size a := by
  fin_cases t <;> fin_cases h
  · exact k0_off1_inb i k r
  · exact k0_off2_inb i k r
  · exact k0_off3_inb i k r
  · exact k0_off4_inb i k r
  · exact k0_off5_inb i k r
  · exact k0_off6_inb i k r
  · exact k0_off7_inb i k r
  · exact k0_off8_inb i k r

/-- The box of half a tile of keys (or values). -/
def kBox (i : grid0.Coords) (k : Fin (k0_t1_loop i).trips) (t : Fin 2) (h : Fin 4) (r : Fin 2) : Rect S8192x512 :=
  Rect.unit (tileOff i k t h (BitVec.ofNat 32 (256 * r.val))) S256x128.size (tileOff_inb i k t h r)

/-- A statement about each of four, one by one. -/
theorem forall4 {P : Fin 4 → Prop} (h0 : P 0) (h1 : P 1) (h2 : P 2) (h3 : P 3) : ∀ i, P i := by
  intro i
  fin_cases i
  · exact h0
  · exact h1
  · exact h2
  · exact h3

variable (S : Setup)

/-- The scores of a chunk against a trip's tile, from the memories. -/
def tripScores (XK : S.arg4.view.ty.Contents (Elt Ideal)) (XQ : S.arg12.view.ty.Contents (Elt Ideal))
    (k : Fin (k0_t1_loop S.i).trips) (t : Fin 2) (h ch : Fin 4) : FVec Ideal S512x256 .f32 :=
  scores (S.arg12.view.readAt (Elt Ideal) (qBox h ch).toLoadRect XQ)
    (S.arg4.view.readAt (Elt Ideal) (kBox S.i k t h 0).toLoadRect XK)
    (S.arg4.view.readAt (Elt Ideal) (kBox S.i k t h 1).toLoadRect XK)

/-- A chunk's accumulator after a trip's tile, from the memories. -/
def tripAcc (XK : S.arg4.view.ty.Contents (Elt Ideal)) (XV : S.arg5.view.ty.Contents (Elt Ideal))
    (XQ : S.arg12.view.ty.Contents (Elt Ideal))
    (k : Fin (k0_t1_loop S.i).trips) (t : Fin 2) (h ch : Fin 4) (m : Vec Ideal S1x1x256 .f32)
    (a : Vec Ideal S1x128x256 .f32) : FVec Ideal S1x128x256 .f32 :=
  newAcc (tripScores S XK XQ k t h ch)
    (S.arg5.view.readAt (Elt Ideal) (kBox S.i k t h 0).toLoadRect XV)
    (S.arg5.view.readAt (Elt Ideal) (kBox S.i k t h 1).toLoadRect XV) m a

end Cert.Attn

end
-- ==== Proof.Trip.lean ====
/- What one trip of the loop over keys leaves in each chunk of the running maximum, the running sum and the accumulator:
   the two tiles of the trip, one after the other. -/
module

public import proofs.«01_k».proof.Proof.Chunk

@[expose] public section

set_option maxRecDepth 16384
set_option maxHeartbeats 1000000

noncomputable section

namespace Cert.Attn

open Idealize.ShloMosaic Idealize.SL.Sem Cert.KernelIdeal Cert.KernelIdeal.Gen

variable (S : Setup)

/-- A chunk of the running maximum in some contents. -/
abbrev maxAt (g : S.arg13.view.ty.Contents (Elt Ideal)) (h ch : Fin 4) : Vec Ideal S1x1x256 .f32 :=
  S.arg13.view.readAt (Elt Ideal) (mBox h ch).toLoadRect g

/-- A chunk of the running sum in some contents. -/
abbrev sumAt (g : S.arg14.view.ty.Contents (Elt Ideal)) (h ch : Fin 4) : Vec Ideal S1x1x256 .f32 :=
  S.arg14.view.readAt (Elt Ideal) (mBox h ch).toLoadRect g

/-- A chunk of the accumulator in some contents. -/
abbrev accAt (g : S.arg15.view.ty.Contents (Elt Ideal)) (h ch : Fin 4) : Vec Ideal S1x128x256 .f32 :=
  S.arg15.view.readAt (Elt Ideal) (aBox h ch).toLoadRect g

variable (arg2 : BitVec 32) (v60 : FVec Ideal S4x1x1024 .f32)
  (XK : S.arg4.view.ty.Contents (Elt Ideal)) (XV : S.arg5.view.ty.Contents (Elt Ideal))
  (XQ : S.arg12.view.ty.Contents (Elt Ideal)) (k : Fin (k0_t1_loop S.i).trips)
  (f13 : S.arg13.view.ty.Contents (Elt Ideal)) (f14 : S.arg14.view.ty.Contents (Elt Ideal))
  (f15 : S.arg15.view.ty.Contents (Elt Ideal))

/-- The stores of one trip. -/
abbrev tripStores := tripL_k0_t1 (F := Ideal) S.𝒱 S.c S.bd S.i S.arg3 S.harg3 S.arg4 S.harg4 S.arg5 S.harg5 S.arg6 S.harg6
  S.arg7 S.harg7 S.arg8 S.harg8 S.arg9 S.harg9 S.arg10 S.harg10 S.arg11 S.harg11 S.arg12 S.harg12 S.arg13 S.harg13
  S.arg14 S.harg14 S.arg15 S.harg15 arg2 v60 XK XV XQ k f13 f14 f15

/-- A chunk's running maximum after a trip. -/
theorem trip_max (h ch : Fin 4) :
    maxAt S (S.arg13.view.writes (Elt Ideal) f13 (tripStores S arg2 v60 XK XV XQ k f13 f14 f15).1) h ch
      = newMax (tripScores S XK XQ k 1 h ch) (newMax (tripScores S XK XQ k 0 h ch) (maxAt S f13 h ch)) := by
  suffices H : ∃ L13, maxAt S (S.arg13.view.writes (Elt Ideal) f13 (tripStores S arg2 v60 XK XV XQ k f13 f14 f15).1) h ch
        = newMax (tripScores S XK XQ k 1 h ch) (maxAt S (S.arg13.view.writes (Elt Ideal) S.arg13.view.junk L13) h ch)
      ∧ maxAt S (S.arg13.view.writes (Elt Ideal) S.arg13.view.junk L13) h ch = newMax (tripScores S XK XQ k 0 h ch) (maxAt S f13 h ch) by
    obtain ⟨L13, e, e13⟩ := H
    rw [e, e13]
  dsimp only [tripStores, tripL_k0_t1]
  unfold trip_k0_t1
  dsimp only
  revert h ch
  refine forall4 ?_ ?_ ?_ ?_ <;> refine forall4 ?_ ?_ ?_ ?_ <;> beta_reduce <;>
  · refine ⟨?_, ?_, ?_⟩
    rotate_left 1
    · repeat (refine (load_skip _ _ _ _ _ _ (by decide)).trans ?_)
      refine (load_hit _ _ _ _ _).trans ?_
      rfl
    · repeat (refine (load_skip _ _ _ _ _ _ (by decide)).trans ?_)
      refine (load_hit _ _ _ _ _).trans ?_
      rfl

/-- A chunk's running sum after a trip. -/
theorem trip_sum (h ch : Fin 4) :
    sumAt S (S.arg14.view.writes (Elt Ideal) f14 (tripStores S arg2 v60 XK XV XQ k f13 f14 f15).2.1) h ch
      = newSum (tripScores S XK XQ k 1 h ch) (newMax (tripScores S XK XQ k 0 h ch) (maxAt S f13 h ch)) (newSum (tripScores S XK XQ k 0 h ch) (maxAt S f13 h ch) (sumAt S f14 h ch)) := by
  suffices H : ∃ L13 L14, sumAt S (S.arg14.view.writes (Elt Ideal) f14 (tripStores S arg2 v60 XK XV XQ k f13 f14 f15).2.1) h ch
        = newSum (tripScores S XK XQ k 1 h ch) (maxAt S (S.arg13.view.writes (Elt Ideal) S.arg13.view.junk L13) h ch) (sumAt S (S.arg14.view.writes (Elt Ideal) S.arg14.view.junk L14) h ch)
      ∧ maxAt S (S.arg13.view.writes (Elt Ideal) S.arg13.view.junk L13) h ch = newMax (tripScores S XK XQ k 0 h ch) (maxAt S f13 h ch)
      ∧ sumAt S (S.arg14.view.writes (Elt Ideal) S.arg14.view.junk L14) h ch = newSum (tripScores S XK XQ k 0 h ch) (maxAt S f13 h ch) (sumAt S f14 h ch) by
    obtain ⟨L13, L14, e, e13, e14⟩ := H
    rw [e, e13, e14]
  dsimp only [tripStores, tripL_k0_t1]
  unfold trip_k0_t1
  dsimp only
  revert h ch
  refine forall4 ?_ ?_ ?_ ?_ <;> refine forall4 ?_ ?_ ?_ ?_ <;> beta_reduce <;>
  · refine ⟨?_, ?_, ?_, ?_, ?_⟩
    rotate_left 2
    · repeat (refine (load_skip _ _ _ _ _ _ (by decide)).trans ?_)
      refine (load_hit _ _ _ _ _).trans ?_
      rfl
    · repeat (refine (load_skip _ _ _ _ _ _ (by decide)).trans ?_)
      refine (load_hit _ _ _ _ _).trans ?_
      rfl
    · repeat (refine (load_skip _ _ _ _ _ _ (by decide)).trans ?_)
      refine (load_hit _ _ _ _ _).trans ?_
      rfl

/-- A chunk's accumulator after a trip. -/
theorem trip_acc (h ch : Fin 4) :
    accAt S (S.arg15.view.writes (Elt Ideal) f15 (tripStores S arg2 v60 XK XV XQ k f13 f14 f15).2.2) h ch
      = tripAcc S XK XV XQ k 1 h ch (newMax (tripScores S XK XQ k 0 h ch) (maxAt S f13 h ch)) (tripAcc S XK XV XQ k 0 h ch (maxAt S f13 h ch) (accAt S f15 h ch)) := by
  suffices H : ∃ L13 L15, accAt S (S.arg15.view.writes (Elt Ideal) f15 (tripStores S arg2 v60 XK XV XQ k f13 f14 f15).2.2) h ch
        = tripAcc S XK XV XQ k 1 h ch (maxAt S (S.arg13.view.writes (Elt Ideal) S.arg13.view.junk L13) h ch) (accAt S (S.arg15.view.writes (Elt Ideal) S.arg15.view.junk L15) h ch)
      ∧ maxAt S (S.arg13.view.writes (Elt Ideal) S.arg13.view.junk L13) h ch = newMax (tripScores S XK XQ k 0 h ch) (maxAt S f13 h ch)
      ∧ accAt S (S.arg15.view.writes (Elt Ideal) S.arg15.view.junk L15) h ch = tripAcc S XK XV XQ k 0 h ch (maxAt S f13 h ch) (accAt S f15 h ch) by
    obtain ⟨L13, L15, e, e13, e15⟩ := H
    rw [e, e13, e15]
  dsimp only [tripStores, tripL_k0_t1]
  unfold trip_k0_t1
  dsimp only
  revert h ch
  refine forall4 ?_ ?_ ?_ ?_ <;> refine forall4 ?_ ?_ ?_ ?_ <;> beta_reduce <;>
  · refine ⟨?_, ?_, ?_, ?_, ?_⟩
    rotate_left 2
    · repeat (refine (load_skip _ _ _ _ _ _ (by decide)).trans ?_)
      refine (load_hit _ _ _ _ _).trans ?_
      rfl
    · repeat (refine (load_skip _ _ _ _ _ _ (by decide)).trans ?_)
      refine (load_hit _ _ _ _ _).trans ?_
      rfl
    · repeat (refine (load_skip _ _ _ _ _ _ (by decide)).trans ?_)
      refine (load_hit _ _ _ _ _).trans ?_
      rfl

end Cert.Attn

end
-- ==== Proof.Online.lean ====
/- The arithmetic of a softmax taken tile by tile, on extended reals.

   A column of the kernel keeps a running maximum `M`, a running sum `L` of powers of two and a
   running weighted sum `A`, and meets the keys a tile at a time. `Held s v n M L A` says what these
   three hold once the keys before `n` have been met; `Held.step` is one tile, of which the first `w`
   rows count and the rest score `⊥`. The number the whole run ends with is `wavg s v n`, the average
   of the values with weights `2 ^ s`; the softmax of the reference, which subtracts its own maximum
   and works in base `e`, has the same average (`softmax_weight`). -/
module

public import Idealize.ShloMosaic.PureOps.Ideal

@[expose] public section

noncomputable section

namespace Cert.Online

open Idealize.ShloMosaic

/-- `2 ^ x`, positive. -/
def pw (x : ℝ) : ℝ := Real.rpow 2 x

/-- A power of two is positive. -/
theorem pw_pos (x : ℝ) : 0 < pw x := Real.rpow_pos_of_pos (by norm_num) x
/-- A power of a sum is the product of the powers. -/
theorem pw_add (x y : ℝ) : pw (x + y) = pw x * pw y := Real.rpow_add (by norm_num) x y
/-- The power of two of a real number is real. -/
theorem exp2_real (x : ℝ) : Ideal.exp2 (x : EReal) = ((pw x : ℝ) : EReal) := rfl
/-- The exponential of a real number is real. -/
theorem exp_real (x : ℝ) : Ideal.exp (x : EReal) = ((Real.exp x : ℝ) : EReal) := rfl

/-- `e ^ (x ln 2)` is `2 ^ x`. -/
theorem exp_log_two (x : ℝ) : Real.exp (Real.log 2 * x) = pw x := by
  rw [pw, Real.rpow_eq_pow, Real.rpow_def_of_pos (by norm_num)]

/-- A sum of real numbers, taken among the extended reals. -/
theorem coe_sum {ι : Type} (t : Finset ι) (f : ι → ℝ) : ((∑ i ∈ t, f i : ℝ) : EReal) = ∑ i ∈ t, ((f i : ℝ) : EReal) := by
  induction t using Finset.cons_induction with
  | empty => simp
  | cons a t ha ih => rw [Finset.sum_cons, Finset.sum_cons, EReal.coe_add, ih]

/-- A sum of real numbers each of which is given as an extended real. -/
theorem sum_real {ι : Type} (t : Finset ι) (f : ι → EReal) (g : ι → ℝ) (h : ∀ i ∈ t, f i = ((g i : ℝ) : EReal)) :
    ∑ i ∈ t, f i = ((∑ i ∈ t, g i : ℝ) : EReal) := by
  rw [coe_sum]; exact Finset.sum_congr rfl h

/-- Of the `n` rows of a tile the first `w` count: the sum over the rows is the sum over those. -/
theorem sum_rows (n w : ℕ) (hw : w ≤ n) (f : ℕ → ℝ) :
    (∑ r : Fin n, if r.val < w then f r.val else 0) = ∑ r ∈ Finset.range w, f r := by
  rw [Fin.sum_univ_eq_sum_range (fun r => if r < w then f r else 0) n, ← Finset.sum_filter]
  congr 1
  ext r
  simp only [Finset.mem_filter, Finset.mem_range]
  omega

/-- The sum of the weights of the keys before `n`. -/
def wsum (s : ℕ → ℝ) (n : ℕ) : ℝ := ∑ k ∈ Finset.range n, pw (s k)

/-- The average of `v` over the keys before `n` with weights `2 ^ s`. -/
def wavg (s v : ℕ → ℝ) (n : ℕ) : ℝ := (∑ k ∈ Finset.range n, pw (s k) * v k) / wsum s n

/-- A sum of weights over some keys is positive. -/
theorem wsum_pos (s : ℕ → ℝ) (n : ℕ) (hn : 0 < n) : 0 < wsum s n :=
  Finset.sum_pos (fun k _ => pw_pos _) ⟨0, Finset.mem_range.mpr hn⟩

/-- What a column's running maximum, sum and weighted sum hold after the keys before `n`: nothing at
    first, then a real number `μ` and the two sums taken relative to it. -/
def Held (s v : ℕ → ℝ) (n : ℕ) (M L A : EReal) : Prop :=
  (n = 0 ∧ M = ⊥ ∧ L = 0 ∧ A = 0) ∨
    ∃ μ : ℝ, M = (μ : EReal) ∧ L = ((∑ k ∈ Finset.range n, pw (s k - μ) : ℝ) : EReal)
      ∧ A = ((∑ k ∈ Finset.range n, pw (s k - μ) * v k : ℝ) : EReal)

/-- Before any key the sums are zero. -/
theorem Held.start (s v : ℕ → ℝ) : Held s v 0 ⊥ 0 0 := .inl ⟨rfl, rfl, rfl, rfl⟩

/-- The score of row `r` of the tile that starts at key `n`: the first `w` rows count. -/
def score (s : ℕ → ℝ) (n w r : ℕ) : EReal := if r < w then ((s (n + r) : ℝ) : EReal) else ⊥

/-- The weight of a key of a tile, which is zero where the key is masked. -/
theorem score_sub (s : ℕ → ℝ) (n w r : ℕ) (μ : ℝ) :
    Ideal.exp2 (score s n w r - (μ : EReal)) = (((if r < w then pw (s (n + r) - μ) else 0 : ℝ)) : EReal) := by
  unfold score
  split
  · rw [← EReal.coe_sub, exp2_real]
  · rw [EReal.bot_sub, Ideal.exp2_bot, EReal.coe_zero]

/-- The new maximum of a tile at least one row of which counts is a real number. -/
theorem max_real (s : ℕ → ℝ) (n w R : ℕ) (hw : 0 < w) (hR : w ≤ R) (M : EReal) (hM : M ≠ ⊤) :
    ∃ μ : ℝ, max M (Finset.univ.sup fun r : Fin R => score s n w r.val) = (μ : EReal) := by
  have h1 : max M (Finset.univ.sup fun r : Fin R => score s n w r.val) ≠ ⊥ := by
    intro h
    have h2 : score s n w 0 ≤ ⊥ := h ▸ le_trans
      (Finset.le_sup (f := fun r : Fin R => score s n w r.val) (Finset.mem_univ (⟨0, by omega⟩ : Fin R))) (le_max_right _ _)
    rw [score, if_pos hw, le_bot_iff] at h2
    exact EReal.coe_ne_bot _ h2
  have h3 : max M (Finset.univ.sup fun r : Fin R => score s n w r.val) ≠ ⊤ := by
    rw [← lt_top_iff_ne_top, max_lt_iff]
    refine ⟨lt_top_iff_ne_top.mpr hM, (Finset.sup_lt_iff bot_lt_top).mpr fun r _ => ?_⟩
    unfold score
    split
    · exact EReal.coe_lt_top _
    · exact bot_lt_top
  exact ⟨_, (EReal.coe_toReal h3 h1).symm⟩

/-- ONE TILE: `R` rows, of which the first `w` (at least one) count and the others score `⊥`. -/
theorem Held.step {s v : ℕ → ℝ} {n : ℕ} {M L A : EReal} (h : Held s v n M L A) (w R : ℕ) (hw : 0 < w) (hR : w ≤ R)
    (M' : EReal) (hM' : M' = max M (Finset.univ.sup fun r : Fin R => score s n w r.val)) :
    Held s v (n + w) M'
      (Ideal.exp2 (M - M') * L + ∑ r : Fin R, Ideal.exp2 (score s n w r.val - M'))
      (Ideal.exp2 (M - M') * A
        + ∑ r : Fin R, ((v (n + r.val) : ℝ) : EReal) * Ideal.exp2 (score s n w r.val - M')) := by
  have hMt : M ≠ ⊤ := by
    rcases h with ⟨_, rfl, _, _⟩ | ⟨μ, rfl, _, _⟩
    · exact bot_ne_top
    · exact EReal.coe_ne_top _
  obtain ⟨μ', hμ'⟩ := max_real s n w R hw hR M hMt
  rw [← hM'] at hμ'
  clear hM'
  subst hμ'
  have e1 : ∑ r : Fin R, Ideal.exp2 (score s n w r.val - (μ' : EReal))
      = ((∑ r ∈ Finset.range w, pw (s (n + r) - μ') : ℝ) : EReal) := by
    rw [← sum_rows R w hR]
    exact sum_real _ _ _ fun r _ => score_sub s n w r.val μ'
  have e2 : ∑ r : Fin R, ((v (n + r.val) : ℝ) : EReal) * Ideal.exp2 (score s n w r.val - (μ' : EReal))
      = ((∑ r ∈ Finset.range w, pw (s (n + r) - μ') * v (n + r) : ℝ) : EReal) := by
    rw [← sum_rows R w hR]
    refine sum_real _ _ _ fun r _ => ?_
    rw [score_sub, ← EReal.coe_mul]
    split
    · rw [mul_comm]
    · rw [mul_zero]
  rw [e1, e2]
  refine .inr ⟨μ', rfl, ?_, ?_⟩
  · rw [Finset.sum_range_add]
    rcases h with ⟨rfl, rfl, rfl, rfl⟩ | ⟨μ, rfl, rfl, rfl⟩
    · rw [EReal.bot_sub, Ideal.exp2_bot, Finset.range_zero, Finset.sum_empty, zero_mul, zero_add, zero_add]
    · rw [← EReal.coe_sub, exp2_real, ← EReal.coe_mul, ← EReal.coe_add, Finset.mul_sum]
      congr 2
      exact Finset.sum_congr rfl fun k _ => by rw [← pw_add]; congr 1; ring
  · rw [Finset.sum_range_add]
    rcases h with ⟨rfl, rfl, rfl, rfl⟩ | ⟨μ, rfl, rfl, rfl⟩
    · rw [EReal.bot_sub, Ideal.exp2_bot, Finset.range_zero, Finset.sum_empty, zero_mul, zero_add, zero_add]
    · rw [← EReal.coe_sub, exp2_real, ← EReal.coe_mul, ← EReal.coe_add, Finset.mul_sum]
      congr 2
      exact Finset.sum_congr rfl fun k _ => by rw [← mul_assoc, ← pw_add]; congr 2; ring

/-- Dividing the weighted sum by the sum gives the average, whatever the maximum was. -/
theorem Held.quot {s v : ℕ → ℝ} {n : ℕ} {M L A : EReal} (h : Held s v n M L A) (hn : 0 < n) :
    A * Ideal.div 1 L = ((wavg s v n : ℝ) : EReal) := by
  rcases h with ⟨rfl, _⟩ | ⟨μ, rfl, rfl, rfl⟩
  · exact absurd hn (lt_irrefl 0)
  · have e1 : ∑ k ∈ Finset.range n, pw (s k - μ) = pw (-μ) * wsum s n := by
      rw [wsum, Finset.mul_sum]
      exact Finset.sum_congr rfl fun k _ => by rw [← pw_add]; congr 1; ring
    have e2 : ∑ k ∈ Finset.range n, pw (s k - μ) * v k = pw (-μ) * ∑ k ∈ Finset.range n, pw (s k) * v k := by
      rw [Finset.mul_sum]
      exact Finset.sum_congr rfl fun k _ => by rw [← mul_assoc, ← pw_add]; congr 2; ring
    have h1 : pw (-μ) ≠ 0 := (pw_pos _).ne'
    have h2 : wsum s n ≠ 0 := (wsum_pos s n hn).ne'
    rw [e1, e2, Ideal.div_coe (mul_ne_zero h1 h2), one_mul, ← EReal.coe_mul, wavg]
    congr 1
    field_simp

/-- One weight of the reference's softmax over `R` keys of which the first `w` count: its scores are
    `ln 2` times the kernel's, so that the weight is `2 ^ s` over the sum of these. -/
theorem softmax_weight (s : ℕ → ℝ) (w R : ℕ) (hw : 0 < w) (hR : w ≤ R) (σ : Fin R → EReal)
    (hσ : ∀ r, σ r = score (fun k => Real.log 2 * s k) 0 w r.val) (M : EReal) (hM : M = Finset.univ.sup σ) (r : Fin R) :
    Ideal.div (Ideal.exp (σ r - M)) (∑ q : Fin R, Ideal.exp (σ q - M))
      = (((if r.val < w then pw (s r.val) / wsum s w else 0 : ℝ)) : EReal) := by
  obtain ⟨μ, hμ⟩ := max_real (fun k => Real.log 2 * s k) 0 w R hw hR ⊥ bot_ne_top
  have hMμ : M = (μ : EReal) := by
    rw [hM, ← hμ, max_eq_right bot_le]
    exact Finset.sup_congr rfl fun r _ => hσ r
  have e (q : Fin R) : Ideal.exp (σ q - M) = (((if q.val < w then Real.exp (-μ) * pw (s q.val) else 0 : ℝ)) : EReal) := by
    rw [hσ, hMμ, score]
    split
    · rw [← EReal.coe_sub, exp_real, zero_add, ← exp_log_two, ← Real.exp_add]
      congr 2; ring
    · rw [EReal.bot_sub, Ideal.exp_bot, EReal.coe_zero]
  have e3 : ∑ q : Fin R, Ideal.exp (σ q - M) = ((Real.exp (-μ) * wsum s w : ℝ) : EReal) := by
    rw [sum_real _ _ _ fun q _ => e q, sum_rows R w hR (fun k => Real.exp (-μ) * pw (s k)), wsum, Finset.mul_sum]
  have h1 : Real.exp (-μ) ≠ 0 := (Real.exp_pos _).ne'
  have h2 : wsum s w ≠ 0 := (wsum_pos s w hw).ne'
  rw [e3, e, Ideal.div_coe (mul_ne_zero h1 h2), ← EReal.coe_mul]
  congr 1
  split
  · field_simp
  · rw [zero_mul]

/-- The reference's output, a sum over all `R` keys of differences of weights times values, is the
    difference of the two averages over the keys that count. -/
theorem diff_avg (s t v : ℕ → ℝ) (lam : ℝ) (w R : ℕ) (hR : w ≤ R) :
    (∑ r : Fin R, ((if r.val < w then pw (s r.val) / wsum s w else 0)
        - lam * (if r.val < w then pw (t r.val) / wsum t w else 0)) * v r.val)
      = wavg s v w - lam * wavg t v w := by
  have e (r : Fin R) : ((if r.val < w then pw (s r.val) / wsum s w else 0)
        - lam * (if r.val < w then pw (t r.val) / wsum t w else 0)) * v r.val
      = if r.val < w then (pw (s r.val) * v r.val) / wsum s w - lam * ((pw (t r.val) * v r.val) / wsum t w) else 0 := by
    split
    · ring
    · ring
  rw [Finset.sum_congr rfl fun r _ => e r,
    sum_rows R w hR (fun k => (pw (s k) * v k) / wsum s w - lam * ((pw (t k) * v k) / wsum t w)),
    Finset.sum_sub_distrib, ← Finset.mul_sum, ← Finset.sum_div, ← Finset.sum_div, wavg, wavg]

end Cert.Online

end
-- ==== Proof.Tile.lean ====
/- One column of a chunk against one tile of keys: the kernel's new maximum, sum and accumulator hold the keys seen so far
   and the tile's. -/
module

public import proofs.«01_k».proof.Proof.Chunk
public import proofs.«01_k».proof.Proof.Online
public import Idealize.ShloMosaic.Lib.Pointwise

@[expose] public section

set_option maxRecDepth 16384

noncomputable section

namespace Cert.Attn

open Idealize.ShloMosaic Idealize.SL.Sem Cert.KernelIdeal Cert.KernelIdeal.Gen Cert.Online

/-- The bits of the maximum's start are −∞. -/
theorem negInf_bits : Ideal.ofBits .f32 0xFF800000#32 = (⊥ : EReal) := by simp [Ideal.ofBits, Ideal.ieee]

/-- The named mask is −∞. -/
theorem mask_bot : Named.named (F := Ideal) κ (φ := .f32) "mask" 0xF149F2CA#32 = (⊥ : EReal) :=
  IdealRules.named_const.ideal_named_scalar _ _ _ _ rfl

/-- The largest of a family. -/
theorem fold_sup {n : ℕ} (f : Fin n → EReal) : Finset.univ.fold max ⊥ f = Finset.univ.sup f := rfl

/-- Row `r` of a tile against column `c`: the causal test on the tile's own coordinates. -/
theorem select_le (r c o : ℕ) (hr : r < 1024) (hc : c < 1024) (ho : o < 1024) (x y : EReal) :
    Scalar.select (IntOp.cmpi .sle (BitVec.ofNat 32 r) (IntOp.addi (BitVec.ofNat 32 c) (BitVec.ofNat 32 o))) x y
      = if r ≤ c + o then x else y := by
  have e : (BitVec.ofNat 32 r).sle (BitVec.ofNat 32 c + BitVec.ofNat 32 o) = decide (r ≤ c + o) := by
    rw [← BitVec.ofNat_add, BitVec.sle_eq_decide, BitVec.toInt_eq_toNat_of_lt, BitVec.toInt_eq_toNat_of_lt,
      BitVec.toNat_ofNat, BitVec.toNat_ofNat]
    · congr 1
      rw [Nat.mod_eq_of_lt (by omega), Nat.mod_eq_of_lt (by omega)]
      simp
      omega
    · rw [BitVec.toNat_ofNat]; omega
    · rw [BitVec.toNat_ofNat]; omega
  simp only [Scalar.select, IntOp.cmpi, IntOp.addi, e]
  by_cases h : r ≤ c + o <;> simp [h]

/-! ## The update of a column -/

/-- A tile of 512 rows, the first `w` of which count, takes a column from `n` keys to `n + w`. -/
theorem tile_held {σ v : ℕ → ℝ} {n : ℕ} (s : FVec Ideal S512x256 .f32) (m l : Vec Ideal S1x1x256 .f32)
    (a : Vec Ideal S1x128x256 .f32) (v0 v1 : Vec Ideal S256x128 .bf16) (c : Fin 256) (d : Fin 128) (w : ℕ)
    (hw : 0 < w) (hR : w ≤ 512) (hs : ∀ r : Fin 512, s (ix2 r c) = score σ n w r.val)
    (hv0 : ∀ r : Fin 256, v0 (ix2 r d) = ((v (n + r.val) : ℝ) : EReal))
    (hv1 : ∀ r : Fin 256, v1 (ix2 r d) = ((v (n + (256 + r.val)) : ℝ) : EReal))
    (h : Held σ v n (m (ix3 0 0 c)) (l (ix3 0 0 c)) (a (ix3 0 d c))) :
    Held σ v (n + w) (newMax s m (ix3 0 0 c)) (newSum s m l (ix3 0 0 c)) (newAcc s v0 v1 m a (ix3 0 d c)) := by
  have eM : newMax s m (ix3 0 0 c) = max (m (ix3 0 0 c)) (Finset.univ.sup fun r : Fin 512 => score σ n w r.val) := by
    pointwise [newMax, k0_pay11, k0_pay7, k0_pay6]
    rw [negInf_bits, fold_sup]
    simp only [hs]
  have eL : newSum s m l (ix3 0 0 c) = Ideal.exp2 (m (ix3 0 0 c) - newMax s m (ix3 0 0 c)) * l (ix3 0 0 c)
      + ∑ r : Fin 512, Ideal.exp2 (score σ n w r.val - newMax s m (ix3 0 0 c)) := by
    rw [eM]
    pointwise [newSum, k0_pay10, k0_pay9, k0_pay8, k0_pay7, k0_pay6]
    rw [negInf_bits, fold_sup]
    simp only [hs]
    rfl
  have eA : newAcc s v0 v1 m a (ix3 0 d c) = Ideal.exp2 (m (ix3 0 0 c) - newMax s m (ix3 0 0 c)) * a (ix3 0 d c)
      + ∑ r : Fin 512, ((v (n + r.val) : ℝ) : EReal) * Ideal.exp2 (score σ n w r.val - newMax s m (ix3 0 0 c)) := by
    rw [eM]
    pointwise [newAcc, k0_pay23, k0_pay22, k0_pay12, k0_pay9, k0_pay8, k0_pay7, k0_pay6]
    rw [negInf_bits, fold_sup]
    simp only [hs, hv0, hv1]
    rw [show (∑ r : Fin 512, ((v (n + r.val) : ℝ) : EReal) * Ideal.exp2 (score σ n w r.val - max (m (ix3 0 0 c)) (Finset.univ.sup fun r : Fin 512 => score σ n w r.val))) = _ from
      Fin.sum_univ_add (a := 256) (b := 256) (fun r : Fin 512 => ((v (n + r.val) : ℝ) : EReal) * Ideal.exp2 (score σ n w r.val - max (m (ix3 0 0 c)) (Finset.univ.sup fun r : Fin 512 => score σ n w r.val)))]
    rfl
  rw [eL, eA]
  exact h.step w 512 hw hR _ eM

/-! ## Half a tile -/

/-- The running maximum after 256 keys. -/
def halfMax (s : FVec Ideal S256x256 .f32) (m : Vec Ideal S1x1x256 .f32) : FVec Ideal S1x1x256 .f32 := k0_pay993 s m

/-- The running sum after 256 keys. -/
def halfSum (s : FVec Ideal S256x256 .f32) (m l : Vec Ideal S1x1x256 .f32) : FVec Ideal S1x1x256 .f32 := k0_pay992 s m l

/-- The accumulator after 256 keys. -/
def halfAcc (s : FVec Ideal S256x256 .f32) (v0 : Vec Ideal S256x128 .bf16) (m : Vec Ideal S1x1x256 .f32)
    (a : Vec Ideal S1x128x256 .f32) : FVec Ideal S1x128x256 .f32 :=
  k0_pay1004 (k0_pay990 s m) (k0_pay994 s m) v0 a

/-- A tile of 256 rows, the first `w` of which count, takes a column from `n` keys to `n + w`. -/
theorem half_held {σ v : ℕ → ℝ} {n : ℕ} (s : FVec Ideal S256x256 .f32) (m l : Vec Ideal S1x1x256 .f32)
    (a : Vec Ideal S1x128x256 .f32) (v0 : Vec Ideal S256x128 .bf16) (c : Fin 256) (d : Fin 128) (w : ℕ)
    (hw : 0 < w) (hR : w ≤ 256) (hs : ∀ r : Fin 256, s (ix2 r c) = score σ n w r.val)
    (hv0 : ∀ r : Fin 256, v0 (ix2 r d) = ((v (n + r.val) : ℝ) : EReal))
    (h : Held σ v n (m (ix3 0 0 c)) (l (ix3 0 0 c)) (a (ix3 0 d c))) :
    Held σ v (n + w) (halfMax s m (ix3 0 0 c)) (halfSum s m l (ix3 0 0 c)) (halfAcc s v0 m a (ix3 0 d c)) := by
  have eM : halfMax s m (ix3 0 0 c) = max (m (ix3 0 0 c)) (Finset.univ.sup fun r : Fin 256 => score σ n w r.val) := by
    pointwise [halfMax, k0_pay993, k0_pay989, k0_pay988]
    rw [negInf_bits, fold_sup]
    simp only [hs]
  have eL : halfSum s m l (ix3 0 0 c) = Ideal.exp2 (m (ix3 0 0 c) - halfMax s m (ix3 0 0 c)) * l (ix3 0 0 c)
      + ∑ r : Fin 256, Ideal.exp2 (score σ n w r.val - halfMax s m (ix3 0 0 c)) := by
    rw [eM]
    pointwise [halfSum, k0_pay992, k0_pay991, k0_pay990, k0_pay989, k0_pay988]
    rw [negInf_bits, fold_sup]
    simp only [hs]
    rfl
  have eA : halfAcc s v0 m a (ix3 0 d c) = Ideal.exp2 (m (ix3 0 0 c) - halfMax s m (ix3 0 0 c)) * a (ix3 0 d c)
      + ∑ r : Fin 256, ((v (n + r.val) : ℝ) : EReal) * Ideal.exp2 (score σ n w r.val - halfMax s m (ix3 0 0 c)) := by
    rw [eM]
    pointwise [halfAcc, k0_pay1004, k0_pay994, k0_pay991, k0_pay990, k0_pay989, k0_pay988]
    rw [negInf_bits, fold_sup]
    simp only [hs, hv0]
    rfl
  rw [eL, eA]
  exact h.step w 256 hw hR _ eM

/-! ## The scores -/

/-- The product of key `j` with a query. -/
def keyDot (K : ℕ → Fin 128 → ℝ) (Q : Fin 128 → ℝ) (j : ℕ) : ℝ := ∑ d, K j d * Q d

/-- The product of a real key with a real query is real. -/
theorem dot_real (x y : Fin 128 → EReal) (K : ℕ → Fin 128 → ℝ) (Q : Fin 128 → ℝ) (j : ℕ)
    (hx : ∀ d, x d = ((K j d : ℝ) : EReal)) (hy : ∀ d, y d = ((Q d : ℝ) : EReal)) :
    ∑ d, x d * y d = ((keyDot K Q j : ℝ) : EReal) :=
  sum_real _ _ _ fun d _ => by rw [hx, hy, EReal.coe_mul]

/-- Scores of the diagonal's tile of 512 keys. -/
def diagScores (q : Vec Ideal S1x256x128 .bf16) (k0 k1 : Vec Ideal S256x128 .bf16) : FVec Ideal S512x256 .f32 :=
  k0_pay985 q k0 k1

/-- Scores of the diagonal's tile of 256 keys. -/
def halfScores (q : Vec Ideal S1x256x128 .bf16) (k0 : Vec Ideal S256x128 .bf16) : FVec Ideal S256x256 .f32 :=
  k0_pay987 (k0_pay986 q) k0

section
variable {K : ℕ → Fin 128 → ℝ} {Q : Fin 128 → ℝ} {n : ℕ} (q : Vec Ideal S1x256x128 .bf16)
  (k0 k1 : Vec Ideal S256x128 .bf16) (c : Fin 256) (hq : ∀ d, q (ix3 0 c d) = ((Q d : ℝ) : EReal))
  (hk0 : ∀ (r : Fin 256) d, k0 (ix2 r d) = ((K (n + r.val) d : ℝ) : EReal))
  (hk1 : ∀ (r : Fin 256) d, k1 (ix2 r d) = ((K (n + (256 + r.val)) d : ℝ) : EReal))
include hq hk0

include hk1 in
/-- The two halves' products, one below the other. -/
theorem dots (r : Fin 512) :
    (if h : r.val < 256 then ∑ x, k0 (ix2 ⟨r.val, h⟩ x) * q (ix3 0 c x)
      else ∑ x, k1 (ix2 ⟨r.val - 256, by omega⟩ x) * q (ix3 0 c x)) = ((keyDot K Q (n + r.val) : ℝ) : EReal) := by
  split
  · exact dot_real _ _ K Q _ (fun d => hk0 _ d) hq
  · refine dot_real _ _ K Q _ (fun d => (hk1 _ d).trans ?_) hq
    rw [show 256 + (r.val - 256) = r.val by omega]

include hk1 in
/-- Every key of a full tile counts. -/
theorem scores_score (r : Fin 512) : scores q k0 k1 (ix2 r c) = score (keyDot K Q) n 512 r.val := by
  rw [score, if_pos r.isLt, ← dots q k0 k1 c hq hk0 hk1 r]
  pointwise [scores, k0_pay2]

include hk1 in
/-- On the diagonal the keys up to the query's own count: here the query is `256 + c`. -/
theorem diagScores_score (r : Fin 512) :
    diagScores q k0 k1 (ix2 r c) = score (keyDot K Q) n (256 + c.val + 1) r.val := by
  have e : diagScores q k0 k1 (ix2 r c)
      = Scalar.select (IntOp.cmpi .sle (BitVec.ofNat 32 r.val) (IntOp.addi (BitVec.ofNat 32 c.val) (BitVec.ofNat 32 256)))
          ((keyDot K Q (n + r.val) : ℝ) : EReal) ⊥ := by
    rw [← dots q k0 k1 c hq hk0 hk1 r, ← mask_bot]
    pointwise [diagScores, k0_pay985]
  rw [e, select_le _ _ _ (by omega) (by omega) (by omega), score]
  exact if_congr (by omega) rfl rfl

/-- On the diagonal the keys up to the query's own count: here the query is `c`. -/
theorem halfScores_score (r : Fin 256) :
    halfScores q k0 (ix2 r c) = score (keyDot K Q) n (c.val + 1) r.val := by
  have e : halfScores q k0 (ix2 r c)
      = Scalar.select (IntOp.cmpi .sle (BitVec.ofNat 32 r.val) (IntOp.addi (BitVec.ofNat 32 c.val) (BitVec.ofNat 32 0)))
          ((keyDot K Q (n + r.val) : ℝ) : EReal) ⊥ := by
    rw [← dot_real _ _ K Q (n + r.val) (fun d => hk0 r d) hq, ← mask_bot]
    pointwise [halfScores, k0_pay987, k0_pay986]
  rw [e, select_le _ _ _ (by omega) (by omega) (by omega), score]
  exact if_congr (by omega) rfl rfl
end

end Cert.Attn

end
-- ==== Proof.Loop.lean ====
/- The loop over keys: after `k` trips every column of the running maximum, the running sum and the accumulator holds the
   first `1024 k` keys. -/
module

public import proofs.«01_k».proof.Proof.Trip
public import proofs.«01_k».proof.Proof.Tile

@[expose] public section

set_option maxRecDepth 16384
set_option maxHeartbeats 1000000

noncomputable section

namespace Cert.Attn

open Idealize.ShloMosaic Idealize.SL.Sem Cert.KernelIdeal Cert.KernelIdeal.Gen Cert.Online

/-- Column `c` of chunk `ch`. -/
abbrev col (ch : Fin 4) (c : Fin 256) : Fin 1024 := ⟨256 * ch.val + c.val, by omega⟩

/-- Lane `d` of head `h`. -/
abbrev lane (h : Fin 4) (d : Fin 128) : Fin 512 := ⟨128 * h.val + d.val, by omega⟩

/-- Contents of a key (or value) block: real numbers, by head, key and lane. -/
def IsBlock (m : Memref sig .tc .vmem S8192x512 .bf16) (X : m.view.ty.Contents (Elt Ideal))
    (K : Fin 4 → ℕ → Fin 128 → ℝ) : Prop :=
  ∀ (j : Fin 8192) (h : Fin 4) (d : Fin 128), m.view.read (Elt Ideal) X (ix2 j (lane h d)) = ((K h j.val d : ℝ) : EReal)

/-- Contents of the masked queries: real numbers, by head, column and lane. -/
def IsQuery (m : Memref sig .tc .vmem S4x1024x128 .bf16) (X : m.view.ty.Contents (Elt Ideal))
    (Q : Fin 4 → Fin 1024 → Fin 128 → ℝ) : Prop :=
  ∀ (h : Fin 4) (c : Fin 1024) (d : Fin 128), m.view.read (Elt Ideal) X (ix3 h c d) = ((Q h c d : ℝ) : EReal)

/-- A box of 256 keys of one head. -/
theorem block_at {m : Memref sig .tc .vmem S8192x512 .bf16} {X : m.view.ty.Contents (Elt Ideal)}
    {K : Fin 4 → ℕ → Fin 128 → ℝ} (hX : IsBlock m X K) (off : Fin 2 → ℕ)
    (inb : ∀ a, off a + S256x128.size a ≤ S8192x512.size a) (row : ℕ) (h : Fin 4)
    (hoff : off = ![row, 128 * h.val]) (r : Fin 256) (d : Fin 128) :
    m.view.readAt (Elt Ideal) (Rect.unit (s := S8192x512) off S256x128.size inb).toLoadRect X (ix2 r d)
      = ((K h (row + r.val) d : ℝ) : EReal) := by
  subst hoff
  have hr : row + 256 ≤ 8192 := inb 0
  rw [View.readAt_apply, ← hX ⟨row + r.val, by omega⟩ h d]
  congr 1
  funext a
  fin_cases a
  · exact Fin.ext (show row + 1 * r.val = row + r.val by omega)
  · exact Fin.ext (show 128 * h.val + 1 * d.val = 128 * h.val + d.val by omega)

/-- A chunk's queries. -/
theorem query_at {m : Memref sig .tc .vmem S4x1024x128 .bf16} {X : m.view.ty.Contents (Elt Ideal)}
    {Q : Fin 4 → Fin 1024 → Fin 128 → ℝ} (hX : IsQuery m X Q) (h ch : Fin 4) (c : Fin 256) (d : Fin 128) :
    m.view.readAt (Elt Ideal) (qBox h ch).toLoadRect X (ix3 0 c d) = ((Q h (col ch c) d : ℝ) : EReal) := by
  refine Eq.trans (congrArg (m.view.read (Elt Ideal) X) (a₁ := (qBox h ch).toLoadRect.idx (ix3 0 c d))
    (a₂ := ix3 h (col ch c) d) (funext fun a => ?_)) (hX h (col ch c) d)
  fin_cases a
  · exact Fin.ext (show h.val + 1 * 0 = h.val by omega)
  · exact Fin.ext (show 256 * ch.val + 1 * c.val = 256 * ch.val + c.val by omega)
  · exact Fin.ext (show 0 + 1 * d.val = d.val by omega)

variable (S : Setup) (K V : Fin 4 → ℕ → Fin 128 → ℝ) (Q : Fin 4 → Fin 1024 → Fin 128 → ℝ)

/-- One column of a chunk holds the first `n` keys. -/
def ColHeld (h ch : Fin 4) (n : ℕ) (c : Fin 256) (m l : Vec Ideal S1x1x256 .f32) (a : Vec Ideal S1x128x256 .f32) : Prop :=
  ∀ d : Fin 128, Held (keyDot (K h) (Q h (col ch c))) (fun j => V h j d) n (m (ix3 0 0 c)) (l (ix3 0 0 c)) (a (ix3 0 d c))

/-- A full tile of 512 keys takes a column from `n` keys to `n + 512`. -/
theorem full_tile {K V Q} {h ch : Fin 4} {n : ℕ} {c : Fin 256} {m l : Vec Ideal S1x1x256 .f32}
    {a : Vec Ideal S1x128x256 .f32} (H : ColHeld K V Q h ch n c m l a)
    (q : Vec Ideal S1x256x128 .bf16) (k0 k1 v0 v1 : Vec Ideal S256x128 .bf16)
    (hq : ∀ d, q (ix3 0 c d) = ((Q h (col ch c) d : ℝ) : EReal))
    (hk0 : ∀ (r : Fin 256) d, k0 (ix2 r d) = ((K h (n + r.val) d : ℝ) : EReal))
    (hk1 : ∀ (r : Fin 256) d, k1 (ix2 r d) = ((K h (n + 256 + r.val) d : ℝ) : EReal))
    (hv0 : ∀ (r : Fin 256) d, v0 (ix2 r d) = ((V h (n + r.val) d : ℝ) : EReal))
    (hv1 : ∀ (r : Fin 256) d, v1 (ix2 r d) = ((V h (n + 256 + r.val) d : ℝ) : EReal)) :
    ColHeld K V Q h ch (n + 512) c (newMax (scores q k0 k1) m) (newSum (scores q k0 k1) m l)
      (newAcc (scores q k0 k1) v0 v1 m a) := fun d =>
  tile_held _ m l a v0 v1 c d 512 (by omega) le_rfl
    (scores_score q k0 k1 c hq hk0 (fun r d => (hk1 r d).trans (by rw [Nat.add_assoc])))
    (fun r => hv0 r d) (fun r => (hv1 r d).trans (by rw [Nat.add_assoc])) (H d)

/-- The diagonal's tile of 512 keys takes column `c` from `n` keys to `n + 256 + c + 1`. -/
theorem diag_tile {K V Q} {h ch : Fin 4} {n : ℕ} {c : Fin 256} {m l : Vec Ideal S1x1x256 .f32}
    {a : Vec Ideal S1x128x256 .f32} (H : ColHeld K V Q h ch n c m l a)
    (q : Vec Ideal S1x256x128 .bf16) (k0 k1 v0 v1 : Vec Ideal S256x128 .bf16)
    (hq : ∀ d, q (ix3 0 c d) = ((Q h (col ch c) d : ℝ) : EReal))
    (hk0 : ∀ (r : Fin 256) d, k0 (ix2 r d) = ((K h (n + r.val) d : ℝ) : EReal))
    (hk1 : ∀ (r : Fin 256) d, k1 (ix2 r d) = ((K h (n + 256 + r.val) d : ℝ) : EReal))
    (hv0 : ∀ (r : Fin 256) d, v0 (ix2 r d) = ((V h (n + r.val) d : ℝ) : EReal))
    (hv1 : ∀ (r : Fin 256) d, v1 (ix2 r d) = ((V h (n + 256 + r.val) d : ℝ) : EReal)) :
    ColHeld K V Q h ch (n + (256 + c.val + 1)) c (newMax (diagScores q k0 k1) m) (newSum (diagScores q k0 k1) m l)
      (newAcc (diagScores q k0 k1) v0 v1 m a) := fun d =>
  tile_held _ m l a v0 v1 c d (256 + c.val + 1) (by omega) (by omega)
    (diagScores_score q k0 k1 c hq hk0 (fun r d => (hk1 r d).trans (by rw [Nat.add_assoc])))
    (fun r => hv0 r d) (fun r => (hv1 r d).trans (by rw [Nat.add_assoc])) (H d)

/-- The diagonal's tile of 256 keys takes column `c` from `n` keys to `n + c + 1`. -/
theorem half_tile {K V Q} {h ch : Fin 4} {n : ℕ} {c : Fin 256} {m l : Vec Ideal S1x1x256 .f32}
    {a : Vec Ideal S1x128x256 .f32} (H : ColHeld K V Q h ch n c m l a)
    (q : Vec Ideal S1x256x128 .bf16) (k0 v0 : Vec Ideal S256x128 .bf16)
    (hq : ∀ d, q (ix3 0 c d) = ((Q h (col ch c) d : ℝ) : EReal))
    (hk0 : ∀ (r : Fin 256) d, k0 (ix2 r d) = ((K h (n + r.val) d : ℝ) : EReal))
    (hv0 : ∀ (r : Fin 256) d, v0 (ix2 r d) = ((V h (n + r.val) d : ℝ) : EReal)) :
    ColHeld K V Q h ch (n + (c.val + 1)) c (halfMax (halfScores q k0) m) (halfSum (halfScores q k0) m l)
      (halfAcc (halfScores q k0) v0 m a) := fun d =>
  half_held _ m l a v0 c d (c.val + 1) (by omega) (by omega)
    (halfScores_score q k0 c hq hk0) (fun r => hv0 r d) (H d)

/-- Every column holds the first `n` keys. -/
def AllHeld (n : ℕ) (f13 : S.arg13.view.ty.Contents (Elt Ideal)) (f14 : S.arg14.view.ty.Contents (Elt Ideal))
    (f15 : S.arg15.view.ty.Contents (Elt Ideal)) : Prop :=
  ∀ (h ch : Fin 4) (c : Fin 256), ColHeld K V Q h ch n c (maxAt S f13 h ch) (sumAt S f14 h ch) (accAt S f15 h ch)

/-! ## How far the loop goes and where it reads -/

/-- How often the loop runs. -/
theorem trips_eq (i : grid0.Coords) : (k0_t1_loop i).trips = (i 2).val / 2 := by
  have h : ∀ q : Fin 16, (i 2).val = q.val → (k0_t1_loop i).trips = q.val / 2 := by
    intro q hq
    unfold k0_t1_loop
    rw [hq]
    clear hq
    revert q
    decide +kernel
  exact h (i 2) rfl

/-- Where a trip's tile of keys starts. -/
theorem tileOff_eq (i : grid0.Coords) (k : Fin (k0_t1_loop i).trips) (t : Fin 2) (h : Fin 4) (r : Fin 2) :
    tileOff i k t h (BitVec.ofNat 32 (256 * r.val)) = ![1024 * k.val + 512 * t.val + 256 * r.val, 128 * h.val] := by
  have hk : k.val < 8 := by
    have h1 : k.val < (i 2).val / 2 := lt_of_lt_of_eq k.isLt (trips_eq i)
    have h2 : (i 2).val < 16 := (i 2).isLt
    omega
  obtain ⟨m, hm⟩ : ∃ m : Fin 8, k.val = m.val := ⟨⟨k.val, hk⟩, rfl⟩
  fin_cases t <;> fin_cases h <;>
    simp only [tileOff, k0_off1, k0_off2, k0_off3, k0_off4, k0_off5, k0_off6, k0_off7, k0_off8, hm] <;>
    clear hm <;> revert m r <;> decide +kernel

/-! ## The loop -/

section
variable (arg2 : BitVec 32) (v60 : FVec Ideal S4x1x1024 .f32)
  (XK : S.arg4.view.ty.Contents (Elt Ideal)) (XV : S.arg5.view.ty.Contents (Elt Ideal))
  (XQ : S.arg12.view.ty.Contents (Elt Ideal))
  (hK : IsBlock S.arg4 XK K) (hV : IsBlock S.arg5 XV V) (hQ : IsQuery S.arg12 XQ Q)
include hK hV hQ

/-- One trip takes every column from `1024 k` keys to `1024 (k + 1)`. -/
theorem trip_held (k : Fin (k0_t1_loop S.i).trips)
    (f13 : S.arg13.view.ty.Contents (Elt Ideal)) (f14 : S.arg14.view.ty.Contents (Elt Ideal))
    (f15 : S.arg15.view.ty.Contents (Elt Ideal)) (H : AllHeld S K V Q (1024 * k.val) f13 f14 f15) :
    AllHeld S K V Q (1024 * (k.val + 1))
      (S.arg13.view.writes (Elt Ideal) f13 (tripStores S arg2 v60 XK XV XQ k f13 f14 f15).1)
      (S.arg14.view.writes (Elt Ideal) f14 (tripStores S arg2 v60 XK XV XQ k f13 f14 f15).2.1)
      (S.arg15.view.writes (Elt Ideal) f15 (tripStores S arg2 v60 XK XV XQ k f13 f14 f15).2.2) := by
  intro h ch c
  rw [trip_max, trip_sum, trip_acc]
  have h0 := full_tile (H h ch c) (S.arg12.view.readAt (Elt Ideal) (qBox h ch).toLoadRect XQ)
    (S.arg4.view.readAt (Elt Ideal) (kBox S.i k 0 h 0).toLoadRect XK)
    (S.arg4.view.readAt (Elt Ideal) (kBox S.i k 0 h 1).toLoadRect XK)
    (S.arg5.view.readAt (Elt Ideal) (kBox S.i k 0 h 0).toLoadRect XV)
    (S.arg5.view.readAt (Elt Ideal) (kBox S.i k 0 h 1).toLoadRect XV)
    (query_at hQ h ch c)
    (block_at hK _ _ _ h (tileOff_eq S.i k 0 h 0)) (block_at hK _ _ _ h (tileOff_eq S.i k 0 h 1))
    (block_at hV _ _ _ h (tileOff_eq S.i k 0 h 0)) (block_at hV _ _ _ h (tileOff_eq S.i k 0 h 1))
  have h1 := full_tile h0 (S.arg12.view.readAt (Elt Ideal) (qBox h ch).toLoadRect XQ)
    (S.arg4.view.readAt (Elt Ideal) (kBox S.i k 1 h 0).toLoadRect XK)
    (S.arg4.view.readAt (Elt Ideal) (kBox S.i k 1 h 1).toLoadRect XK)
    (S.arg5.view.readAt (Elt Ideal) (kBox S.i k 1 h 0).toLoadRect XV)
    (S.arg5.view.readAt (Elt Ideal) (kBox S.i k 1 h 1).toLoadRect XV)
    (query_at hQ h ch c)
    (block_at hK _ _ _ h (tileOff_eq S.i k 1 h 0)) (block_at hK _ _ _ h (tileOff_eq S.i k 1 h 1))
    (block_at hV _ _ _ h (tileOff_eq S.i k 1 h 0)) (block_at hV _ _ _ h (tileOff_eq S.i k 1 h 1))
  rw [show 1024 * k.val + 512 + 512 = 1024 * (k.val + 1) by ring] at h1
  exact h1

/-- What the loop stores, trip by trip. -/
abbrev loopStores (G13 : S.arg13.view.ty.Contents (Elt Ideal)) (G14 : S.arg14.view.ty.Contents (Elt Ideal))
    (G15 : S.arg15.view.ty.Contents (Elt Ideal)) (k : ℕ) :=
  pb_k0_t1 (F := Ideal) S.𝒱 S.c S.bd S.i S.arg3 S.harg3 S.arg4 S.harg4 S.arg5 S.harg5 S.arg6 S.harg6
    S.arg7 S.harg7 S.arg8 S.harg8 S.arg9 S.harg9 S.arg10 S.harg10 S.arg11 S.harg11 S.arg12 S.harg12 S.arg13 S.harg13
    S.arg14 S.harg14 S.arg15 S.harg15 arg2 v60 XK XV XQ G13 G14 G15 k

/-- After `k` trips every column holds the first `1024 k` keys. -/
theorem loop_held (G13 : S.arg13.view.ty.Contents (Elt Ideal)) (G14 : S.arg14.view.ty.Contents (Elt Ideal))
    (G15 : S.arg15.view.ty.Contents (Elt Ideal)) (H : AllHeld S K V Q 0 G13 G14 G15) (k : ℕ)
    (hk : k ≤ (k0_t1_loop S.i).trips) :
    AllHeld S K V Q (1024 * k)
      (S.arg13.view.writes (Elt Ideal) G13 (loopStores S arg2 v60 XK XV XQ G13 G14 G15 k).1)
      (S.arg14.view.writes (Elt Ideal) G14 (loopStores S arg2 v60 XK XV XQ G13 G14 G15 k).2.1)
      (S.arg15.view.writes (Elt Ideal) G15 (loopStores S arg2 v60 XK XV XQ G13 G14 G15 k).2.2) := by
  induction k with
  | zero => exact H
  | succ k ih =>
    have e := pb_k0_t1_succ (F := Ideal) S.𝒱 S.c S.bd S.i S.arg3 S.harg3 S.arg4 S.harg4 S.arg5 S.harg5 S.arg6 S.harg6
      S.arg7 S.harg7 S.arg8 S.harg8 S.arg9 S.harg9 S.arg10 S.harg10 S.arg11 S.harg11 S.arg12 S.harg12 S.arg13 S.harg13
      S.arg14 S.harg14 S.arg15 S.harg15 arg2 v60 XK XV XQ G13 G14 G15 ⟨k, hk⟩
    dsimp only [loopStores]
    rw [e]
    dsimp only
    rw [View.writes_append, View.writes_append, View.writes_append]
    exact trip_held S K V Q arg2 v60 XK XV XQ hK hV hQ ⟨k, hk⟩ _ _ _ (ih (Nat.le_of_succ_le hk))
end

end Cert.Attn

end
-- ==== Proof.Steps.lean ====
/- The steps after the loop over pairs of tiles: where the remaining tiles lie, what the loop leaves, and a chunk's step on
   the diagonal. -/
module

public import proofs.«01_k».proof.Proof.Loop
public import proofs.«01_k».proof.Proof.Gen.KernelIdeal.Frame

@[expose] public section

set_option maxRecDepth 16384
set_option maxHeartbeats 1000000

noncomputable section

namespace Cert.Attn

open Idealize.ShloMosaic Idealize.SL.Sem Cert.KernelIdeal Cert.KernelIdeal.Gen Cert.Online

/-- Where the diagonal's tile starts, at an even block of queries. -/
def evenOff (i : grid0.Coords) : Fin 4 → BitVec 32 → Fin 2 → ℕ
  | 0 => k0_off25 i
  | 1 => k0_off26 i
  | 2 => k0_off27 i
  | 3 => k0_off28 i

/-- Where the tile before the diagonal starts, at an odd block of queries. -/
def lastOff (i : grid0.Coords) : Fin 4 → BitVec 32 → Fin 2 → ℕ
  | 0 => k0_off17 i
  | 1 => k0_off18 i
  | 2 => k0_off19 i
  | 3 => k0_off20 i

/-- Where the diagonal's tile starts, at an odd block of queries. -/
def oddOff (i : grid0.Coords) : Fin 4 → BitVec 32 → Fin 2 → ℕ
  | 0 => k0_off21 i
  | 1 => k0_off22 i
  | 2 => k0_off23 i
  | 3 => k0_off24 i

/-- An even point's diagonal tile lies inside the keys. -/
theorem evenOff_inb (i : grid0.Coords) (hc : cond0_1 i) (h : Fin 4) (r : Fin 2) :
    ∀ a, evenOff i h (BitVec.ofNat 32 (256 * r.val)) a + S256x128.size a ≤ S8192x512.size a := by
  fin_cases h
  · exact k0_off25_inb i hc r
  · exact k0_off26_inb i hc r
  · exact k0_off27_inb i hc r
  · exact k0_off28_inb i hc r

/-- The tile before an odd point's diagonal lies inside the keys. -/
theorem lastOff_inb (i : grid0.Coords) (hc : cond0_0 i) (h : Fin 4) (r : Fin 2) :
    ∀ a, lastOff i h (BitVec.ofNat 32 (256 * r.val)) a + S256x128.size a ≤ S8192x512.size a := by
  fin_cases h
  · exact k0_off17_inb i hc r
  · exact k0_off18_inb i hc r
  · exact k0_off19_inb i hc r
  · exact k0_off20_inb i hc r

/-- An odd point's diagonal tile lies inside the keys. -/
theorem oddOff_inb (i : grid0.Coords) (hc : cond0_0 i) (h : Fin 4) (r : Fin 2) :
    ∀ a, oddOff i h (BitVec.ofNat 32 (256 * r.val)) a + S256x128.size a ≤ S8192x512.size a := by
  fin_cases h
  · exact k0_off21_inb i hc r
  · exact k0_off22_inb i hc r
  · exact k0_off23_inb i hc r
  · exact k0_off24_inb i hc r

/-- Where an even point's diagonal tile starts. -/
theorem evenOff_eq (i : grid0.Coords) (h : Fin 4) (r : Fin 2) :
    evenOff i h (BitVec.ofNat 32 (256 * r.val)) = ![512 * (i 2).val + 256 * r.val, 128 * h.val] := by
  have H : ∀ q : Fin 16, (i 2).val = q.val →
      evenOff i h (BitVec.ofNat 32 (256 * r.val)) = ![512 * q.val + 256 * r.val, 128 * h.val] := by
    intro q hq
    fin_cases h <;> simp only [evenOff, k0_off25, k0_off26, k0_off27, k0_off28, hq] <;> clear hq <;>
      revert q r <;> decide +kernel
  exact H (i 2) rfl

/-- Where an odd point's diagonal tile starts. -/
theorem oddOff_eq (i : grid0.Coords) (h : Fin 4) (r : Fin 2) :
    oddOff i h (BitVec.ofNat 32 (256 * r.val)) = ![512 * (i 2).val + 256 * r.val, 128 * h.val] := by
  have H : ∀ q : Fin 16, (i 2).val = q.val →
      oddOff i h (BitVec.ofNat 32 (256 * r.val)) = ![512 * q.val + 256 * r.val, 128 * h.val] := by
    intro q hq
    fin_cases h <;> simp only [oddOff, k0_off21, k0_off22, k0_off23, k0_off24, hq] <;> clear hq <;>
      revert q r <;> decide +kernel
  exact H (i 2) rfl

/-- Where the tile before an odd point's diagonal starts. -/
theorem lastOff_eq (i : grid0.Coords) (hi : 0 < (i 2).val) (h : Fin 4) (r : Fin 2) :
    lastOff i h (BitVec.ofNat 32 (256 * r.val)) = ![512 * ((i 2).val - 1) + 256 * r.val, 128 * h.val] := by
  have H : ∀ q : Fin 16, 0 < q.val → (i 2).val = q.val →
      lastOff i h (BitVec.ofNat 32 (256 * r.val)) = ![512 * (q.val - 1) + 256 * r.val, 128 * h.val] := by
    intro q hp hq
    fin_cases h <;> simp only [lastOff, k0_off17, k0_off18, k0_off19, k0_off20, hq] <;> clear hq <;>
      revert q r <;> decide +kernel
  exact H (i 2) hi rfl

/-! ## A chunk's step on the diagonal: 256 keys for an even chunk, 512 for an odd one -/

/-- The new running maximum of a head after its diagonal tile. -/
def diagMax (q : Vec Ideal S1x256x128 .bf16) (k0 k1 : Vec Ideal S256x128 .bf16) (m : Vec Ideal S1x1x256 .f32) :
    Fin 4 → FVec Ideal S1x1x256 .f32
  | 0 => halfMax (halfScores q k0) m
  | 1 => newMax (diagScores q k0 k1) m
  | 2 => halfMax (halfScores q k0) m
  | 3 => newMax (diagScores q k0 k1) m

/-- The new sums of a head after its diagonal tile. -/
def diagSum (q : Vec Ideal S1x256x128 .bf16) (k0 k1 : Vec Ideal S256x128 .bf16) (m l : Vec Ideal S1x1x256 .f32) :
    Fin 4 → FVec Ideal S1x1x256 .f32
  | 0 => halfSum (halfScores q k0) m l
  | 1 => newSum (diagScores q k0 k1) m l
  | 2 => halfSum (halfScores q k0) m l
  | 3 => newSum (diagScores q k0 k1) m l

/-- The new accumulators of a head after its diagonal tile. -/
def diagAcc (q : Vec Ideal S1x256x128 .bf16) (k0 k1 v0 v1 : Vec Ideal S256x128 .bf16) (m : Vec Ideal S1x1x256 .f32)
    (a : Vec Ideal S1x128x256 .f32) : Fin 4 → FVec Ideal S1x128x256 .f32
  | 0 => halfAcc (halfScores q k0) v0 m a
  | 1 => newAcc (diagScores q k0 k1) v0 v1 m a
  | 2 => halfAcc (halfScores q k0) v0 m a
  | 3 => newAcc (diagScores q k0 k1) v0 v1 m a

/-- Row of the block of queries that a column belongs to. -/
def rowOf (ch : Fin 4) (c : Fin 256) : ℕ := 256 * (ch.val % 2) + c.val

/-- The diagonal's tile takes a column from the keys before its block to the keys up to its own. -/
theorem diag_held {K V : Fin 4 → ℕ → Fin 128 → ℝ} {Q : Fin 4 → Fin 1024 → Fin 128 → ℝ} {h ch : Fin 4} {n : ℕ} {c : Fin 256}
    {m l : Vec Ideal S1x1x256 .f32} {a : Vec Ideal S1x128x256 .f32} (H : ColHeld K V Q h ch n c m l a)
    (q : Vec Ideal S1x256x128 .bf16) (k0 k1 v0 v1 : Vec Ideal S256x128 .bf16)
    (hq : ∀ d, q (ix3 0 c d) = ((Q h (col ch c) d : ℝ) : EReal))
    (hk0 : ∀ (r : Fin 256) d, k0 (ix2 r d) = ((K h (n + r.val) d : ℝ) : EReal))
    (hk1 : ∀ (r : Fin 256) d, k1 (ix2 r d) = ((K h (n + 256 + r.val) d : ℝ) : EReal))
    (hv0 : ∀ (r : Fin 256) d, v0 (ix2 r d) = ((V h (n + r.val) d : ℝ) : EReal))
    (hv1 : ∀ (r : Fin 256) d, v1 (ix2 r d) = ((V h (n + 256 + r.val) d : ℝ) : EReal)) :
    ColHeld K V Q h ch (n + (rowOf ch c + 1)) c (diagMax q k0 k1 m ch) (diagSum q k0 k1 m l ch)
      (diagAcc q k0 k1 v0 v1 m a ch) := by
  suffices G : ∀ ch : Fin 4, ColHeld K V Q h ch n c m l a → (∀ d, q (ix3 0 c d) = ((Q h (col ch c) d : ℝ) : EReal)) →
      ColHeld K V Q h ch (n + (rowOf ch c + 1)) c (diagMax q k0 k1 m ch) (diagSum q k0 k1 m l ch)
        (diagAcc q k0 k1 v0 v1 m a ch) from G ch H hq
  clear H hq
  refine forall4 ?_ ?_ ?_ ?_ <;> intro H hq
  · rw [show rowOf 0 c = c.val from Nat.zero_add _]; exact half_tile H q k0 v0 hq hk0 hv0
  · rw [show rowOf 1 c = 256 + c.val from rfl]; exact diag_tile H q k0 k1 v0 v1 hq hk0 hk1 hv0 hv1
  · rw [show rowOf 2 c = c.val from Nat.zero_add _]; exact half_tile H q k0 v0 hq hk0 hv0
  · rw [show rowOf 3 c = 256 + c.val from rfl]; exact diag_tile H q k0 k1 v0 v1 hq hk0 hk1 hv0 hv1

/-! ## What the loop leaves -/

section
variable (S : Setup) (arg2 : BitVec 32) (v60 : FVec Ideal S4x1x1024 .f32)
  (XK : S.arg4.view.ty.Contents (Elt Ideal)) (XV : S.arg5.view.ty.Contents (Elt Ideal))
  (XQ : S.arg12.view.ty.Contents (Elt Ideal))

/-- The running maximum's first store: −∞ everywhere. -/
def startMax : List (View.Piece (Elt Ideal) S4x1x1024 .f32) :=
  [⟨Rect.unit ![0, 0, 0] S4x1x1024.size inb_S4x1x1024_S4x1x1024_0_0_0, k0_pay1152 (F := Ideal) k0_pay1151⟩]

/-- The running sum's: zero everywhere. -/
def startSum : List (View.Piece (Elt Ideal) S4x1x1024 .f32) :=
  [⟨Rect.unit ![0, 0, 0] S4x1x1024.size inb_S4x1x1024_S4x1x1024_0_0_0, k0_pay1153 (F := Ideal)⟩]

/-- The accumulator's: zero everywhere. -/
def startAcc : List (View.Piece (Elt Ideal) S4x128x1024 .f32) :=
  [⟨Rect.unit ![0, 0, 0] S4x128x1024.size inb_S4x128x1024_S4x128x1024_0_0_0, k0_pay1154 (F := Ideal)⟩]

/-- The running maxima at the start. -/
abbrev start13 := S.arg13.view.writes (Elt Ideal) S.arg13.view.junk startMax
/-- The sums at the start. -/
abbrev start14 := S.arg14.view.writes (Elt Ideal) S.arg14.view.junk startSum
/-- The accumulators at the start. -/
abbrev start15 := S.arg15.view.writes (Elt Ideal) S.arg15.view.junk startAcc

/-- All stores of the loop over pairs of tiles. -/
abbrev pairStores := loopStores S arg2 v60 XK XV XQ (start13 S) (start14 S) (start15 S) (k0_t1_loop S.i).trips

/-- All stores of the loop that would take a remainder. -/
abbrev restStores (v93 : BitVec 32) :=
  pb_k0_t2 (F := Ideal) S.𝒱 S.c S.bd S.i S.arg3 S.harg3 S.arg4 S.harg4 S.arg5 S.harg5 S.arg6 S.harg6
    S.arg7 S.harg7 S.arg8 S.harg8 S.arg9 S.harg9 S.arg10 S.harg10 S.arg11 S.harg11 S.arg12 S.harg12 S.arg13 S.harg13
    S.arg14 S.harg14 S.arg15 S.harg15 arg2 v60 v93 XK XV XQ
    (S.arg13.view.writes (Elt Ideal) S.arg13.view.junk ((pairStores S arg2 v60 XK XV XQ).1 ++ startMax))
    (S.arg14.view.writes (Elt Ideal) S.arg14.view.junk ((pairStores S arg2 v60 XK XV XQ).2.1 ++ startSum))
    (S.arg15.view.writes (Elt Ideal) S.arg15.view.junk ((pairStores S arg2 v60 XK XV XQ).2.2 ++ startAcc))
    (k0_t2_loop S.i).trips

/-- The stores to the running maximum before the last tiles. -/
abbrev after13 (v93 : BitVec 32) := (restStores S arg2 v60 XK XV XQ v93).1 ++ ((pairStores S arg2 v60 XK XV XQ).1 ++ startMax)
/-- The stores of the sums up to the end of the loops. -/
abbrev after14 (v93 : BitVec 32) := (restStores S arg2 v60 XK XV XQ v93).2.1 ++ ((pairStores S arg2 v60 XK XV XQ).2.1 ++ startSum)
/-- The stores of the accumulators up to the end of the loops. -/
abbrev after15 (v93 : BitVec 32) := (restStores S arg2 v60 XK XV XQ v93).2.2 ++ ((pairStores S arg2 v60 XK XV XQ).2.2 ++ startAcc)

/-- The second loop makes no trip. -/
theorem rest_eq (i : grid0.Coords) : (k0_t2_loop i).trips = 0 := by
  have h : ∀ q : Fin 16, (i 2).val = q.val → (k0_t2_loop i).trips = 0 := by
    intro q hq
    unfold k0_t2_loop
    rw [hq]
    clear hq
    revert q
    decide +kernel
  exact h (i 2) rfl

variable {K V : Fin 4 → ℕ → Fin 128 → ℝ} {Q : Fin 4 → Fin 1024 → Fin 128 → ℝ}

/-- Before any key every column holds none. -/
theorem start_held : AllHeld S K V Q 0 (start13 S) (start14 S) (start15 S) := by
  intro h ch c d
  have e13 : maxAt S (start13 S) h ch (ix3 0 0 c) = ⊥ := by
    refine (congrArg _ (?_ : (mBox h ch).toLoadRect.idx (ix3 0 0 c)
      = (Rect.unit (s := S4x1x1024) ![0, 0, 0] S4x1x1024.size inb_S4x1x1024_S4x1x1024_0_0_0).emb (ix3 h 0 (col ch c)))).trans
      ((View.read_writes_cons_emb S.arg13.view _ _ _ _ _).trans ?_)
    · funext a
      fin_cases a
      · exact Fin.ext (show h.val + 1 * 0 = 0 + 1 * h.val by omega)
      · rfl
      · exact Fin.ext (show 256 * ch.val + 1 * c.val = 0 + 1 * (256 * ch.val + c.val) by omega)
    · rw [← mask_bot]
      pointwise [k0_pay1152, k0_pay1151]
  have e14 : sumAt S (start14 S) h ch (ix3 0 0 c) = 0 := by
    refine (congrArg _ (?_ : (mBox h ch).toLoadRect.idx (ix3 0 0 c)
      = (Rect.unit (s := S4x1x1024) ![0, 0, 0] S4x1x1024.size inb_S4x1x1024_S4x1x1024_0_0_0).emb (ix3 h 0 (col ch c)))).trans
      ((View.read_writes_cons_emb S.arg14.view _ _ _ _ _).trans ?_)
    · funext a
      fin_cases a
      · exact Fin.ext (show h.val + 1 * 0 = 0 + 1 * h.val by omega)
      · rfl
      · exact Fin.ext (show 256 * ch.val + 1 * c.val = 0 + 1 * (256 * ch.val + c.val) by omega)
    · pointwise [k0_pay1153]
  have e15 : accAt S (start15 S) h ch (ix3 0 d c) = 0 := by
    refine (congrArg _ (?_ : (aBox h ch).toLoadRect.idx (ix3 0 d c)
      = (Rect.unit (s := S4x128x1024) ![0, 0, 0] S4x128x1024.size inb_S4x128x1024_S4x128x1024_0_0_0).emb (ix3 h d (col ch c)))).trans
      ((View.read_writes_cons_emb S.arg15.view _ _ _ _ _).trans ?_)
    · funext a
      fin_cases a
      · exact Fin.ext (show h.val + 1 * 0 = 0 + 1 * h.val by omega)
      · exact Fin.ext (show 0 + 1 * d.val = 0 + 1 * d.val from rfl)
      · exact Fin.ext (show 256 * ch.val + 1 * c.val = 0 + 1 * (256 * ch.val + c.val) by omega)
    · pointwise [k0_pay1154]
  rw [e13, e14, e15]
  exact Held.start _ _

/-- After the loop every column holds the keys of the pairs of tiles. -/
theorem after_held (hK : IsBlock S.arg4 XK K) (hV : IsBlock S.arg5 XV V) (hQ : IsQuery S.arg12 XQ Q) (v93 : BitVec 32) :
    AllHeld S K V Q (1024 * ((S.i 2).val / 2))
      (S.arg13.view.writes (Elt Ideal) S.arg13.view.junk (after13 S arg2 v60 XK XV XQ v93))
      (S.arg14.view.writes (Elt Ideal) S.arg14.view.junk (after14 S arg2 v60 XK XV XQ v93))
      (S.arg15.view.writes (Elt Ideal) S.arg15.view.junk (after15 S arg2 v60 XK XV XQ v93)) := by
  have h := loop_held S K V Q arg2 v60 XK XV XQ hK hV hQ _ _ _ (start_held S) _ (le_refl (k0_t1_loop S.i).trips)
  have hr : restStores S arg2 v60 XK XV XQ v93 = ([], [], []) := by
    dsimp only [restStores]
    rw [rest_eq]
    rfl
  dsimp only [after13, after14, after15]
  rw [hr]
  dsimp only [List.nil_append]
  rw [View.writes_append, View.writes_append, View.writes_append, ← trips_eq]
  exact h
end

end Cert.Attn

end
-- ==== Proof.CaseA.lean ====
/- An even block of queries: after the loop the diagonal's tile; what its steps leave in each chunk of the running sum and
   the accumulator. -/
module

public import proofs.«01_k».proof.Proof.Steps

@[expose] public section

set_option maxRecDepth 16384
set_option maxHeartbeats 1000000

noncomputable section

namespace Cert.Attn

open Idealize.ShloMosaic Idealize.SL.Sem Cert.KernelIdeal Cert.KernelIdeal.Gen Cert.Online

attribute [local irreducible] pb_k0_t1 pb_k0_t2

variable (S : Setup) (hc1 : cond0_1 S.i) (x0 : Vec Ideal S512x512 .bf16) (x1 x2 : Vec Ideal S8192x512 .bf16)

/-- The masked queries. -/
abbrev evenQ := S.arg12.view.writes (Elt Ideal) S.arg12.view.junk (kernelRun0_A.sl.HS0_8 S.c S.arg3 S.harg3 x0)

/-- The running maximum, the running sum and the accumulator after the loop. -/
abbrev evenAfter13 := S.arg13.view.writes (Elt Ideal) S.arg13.view.junk
  (after13 S (BitVec.ofNat 32 (S.i 2).val) k0_pay1151 (S.harg4.unread x1) (S.harg5.unread x2) (evenQ S x0) (kernelRun0_A.sl.v93 S.i))
/-- The sums an even point holds after its loops. -/
abbrev evenAfter14 := S.arg14.view.writes (Elt Ideal) S.arg14.view.junk
  (after14 S (BitVec.ofNat 32 (S.i 2).val) k0_pay1151 (S.harg4.unread x1) (S.harg5.unread x2) (evenQ S x0) (kernelRun0_A.sl.v93 S.i))
/-- The accumulators an even point holds after its loops. -/
abbrev evenAfter15 := S.arg15.view.writes (Elt Ideal) S.arg15.view.junk
  (after15 S (BitVec.ofNat 32 (S.i 2).val) k0_pay1151 (S.harg4.unread x1) (S.harg5.unread x2) (evenQ S x0) (kernelRun0_A.sl.v93 S.i))

/-- The running sum and the accumulator at the end. -/
abbrev evenEnd14 := S.arg14.view.writes (Elt Ideal) S.arg14.view.junk (kernelRun0_A.sl.HS2_16 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc1 x0 x1 x2)
/-- The accumulators an even point holds at its end. -/
abbrev evenEnd15 := S.arg15.view.writes (Elt Ideal) S.arg15.view.junk (kernelRun0_A.sl.HS3_16 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc1 x0 x1 x2)

/-- Half of the diagonal's tile. -/
abbrev evenBox (h : Fin 4) (r : Fin 2) : Rect S8192x512 :=
  Rect.unit (evenOff S.i h (BitVec.ofNat 32 (256 * r.val))) S256x128.size (evenOff_inb S.i hc1 h r)

/-- What is loaded for a chunk of a head: queries, keys, values. -/
abbrev evenQs (h ch : Fin 4) : Vec Ideal S1x256x128 .bf16 := S.arg12.view.readAt (Elt Ideal) (qBox h ch).toLoadRect (evenQ S x0)
/-- The keys of an even point's diagonal tile. -/
abbrev evenKs (h : Fin 4) (r : Fin 2) : Vec Ideal S256x128 .bf16 :=
  S.arg4.view.readAt (Elt Ideal) (evenBox S hc1 h r).toLoadRect (S.harg4.unread x1)
/-- The values of an even point's diagonal tile. -/
abbrev evenVs (h : Fin 4) (r : Fin 2) : Vec Ideal S256x128 .bf16 :=
  S.arg5.view.readAt (Elt Ideal) (evenBox S hc1 h r).toLoadRect (S.harg5.unread x2)

/-- A chunk's running sum at the end: one diagonal step from the loop's. -/
theorem even_sum (h ch : Fin 4) :
    sumAt S (evenEnd14 S hc1 x0 x1 x2) h ch
      = diagSum (evenQs S x0 h ch) (evenKs S hc1 x1 h 0) (evenKs S hc1 x1 h 1) (maxAt S (evenAfter13 S x0 x1 x2) h ch)
          (sumAt S (evenAfter14 S x0 x1 x2) h ch) ch := by
  suffices H : ∃ L13 L14, sumAt S (evenEnd14 S hc1 x0 x1 x2) h ch
        = diagSum (evenQs S x0 h ch) (evenKs S hc1 x1 h 0) (evenKs S hc1 x1 h 1)
            (maxAt S (S.arg13.view.writes (Elt Ideal) S.arg13.view.junk L13) h ch)
            (sumAt S (S.arg14.view.writes (Elt Ideal) S.arg14.view.junk L14) h ch) ch
      ∧ maxAt S (S.arg13.view.writes (Elt Ideal) S.arg13.view.junk L13) h ch = maxAt S (evenAfter13 S x0 x1 x2) h ch
      ∧ sumAt S (S.arg14.view.writes (Elt Ideal) S.arg14.view.junk L14) h ch = sumAt S (evenAfter14 S x0 x1 x2) h ch by
    obtain ⟨L13, L14, e, e13, e14⟩ := H
    rw [e, e13, e14]
  revert h ch
  refine forall4 ?_ ?_ ?_ ?_ <;> refine forall4 ?_ ?_ ?_ ?_ <;> beta_reduce <;>
  · refine ⟨?_, ?_, ?_, ?_, ?_⟩
    rotate_left 2
    · repeat (refine (load_skip _ _ _ _ _ _ (by decide)).trans ?_)
      refine (load_hit _ _ _ _ _).trans ?_
      rfl
    · repeat (refine (load_skip _ _ _ _ _ _ (by decide)).trans ?_)
      rfl
    · repeat (refine (load_skip _ _ _ _ _ _ (by decide)).trans ?_)
      rfl

/-- A chunk's accumulator at the end: one diagonal step from the loop's. -/
theorem even_acc (h ch : Fin 4) :
    accAt S (evenEnd15 S hc1 x0 x1 x2) h ch
      = diagAcc (evenQs S x0 h ch) (evenKs S hc1 x1 h 0) (evenKs S hc1 x1 h 1) (evenVs S hc1 x2 h 0) (evenVs S hc1 x2 h 1)
          (maxAt S (evenAfter13 S x0 x1 x2) h ch) (accAt S (evenAfter15 S x0 x1 x2) h ch) ch := by
  suffices H : ∃ L13 L15, accAt S (evenEnd15 S hc1 x0 x1 x2) h ch
        = diagAcc (evenQs S x0 h ch) (evenKs S hc1 x1 h 0) (evenKs S hc1 x1 h 1) (evenVs S hc1 x2 h 0) (evenVs S hc1 x2 h 1)
            (maxAt S (S.arg13.view.writes (Elt Ideal) S.arg13.view.junk L13) h ch)
            (accAt S (S.arg15.view.writes (Elt Ideal) S.arg15.view.junk L15) h ch) ch
      ∧ maxAt S (S.arg13.view.writes (Elt Ideal) S.arg13.view.junk L13) h ch = maxAt S (evenAfter13 S x0 x1 x2) h ch
      ∧ accAt S (S.arg15.view.writes (Elt Ideal) S.arg15.view.junk L15) h ch = accAt S (evenAfter15 S x0 x1 x2) h ch by
    obtain ⟨L13, L15, e, e13, e15⟩ := H
    rw [e, e13, e15]
  revert h ch
  refine forall4 ?_ ?_ ?_ ?_ <;> refine forall4 ?_ ?_ ?_ ?_ <;> beta_reduce <;>
  · refine ⟨?_, ?_, ?_, ?_, ?_⟩
    rotate_left 2
    · repeat (refine (load_skip _ _ _ _ _ _ (by decide)).trans ?_)
      refine (load_hit _ _ _ _ _).trans ?_
      rfl
    · repeat (refine (load_skip _ _ _ _ _ _ (by decide)).trans ?_)
      rfl
    · repeat (refine (load_skip _ _ _ _ _ _ (by decide)).trans ?_)
      rfl

end Cert.Attn

end
-- ==== Proof.CaseB.lean ====
/- An odd block of queries: after the loop the tile before the diagonal and the diagonal's; what their steps leave in each
   chunk of the running sum and the accumulator. -/
module

public import proofs.«01_k».proof.Proof.Steps

@[expose] public section

set_option maxRecDepth 16384
set_option maxHeartbeats 1000000

noncomputable section

namespace Cert.Attn

open Idealize.ShloMosaic Idealize.SL.Sem Cert.KernelIdeal Cert.KernelIdeal.Gen Cert.Online

attribute [local irreducible] pb_k0_t1 pb_k0_t2

variable (S : Setup) (hc0 : cond0_0 S.i) (x0 : Vec Ideal S512x512 .bf16) (x1 x2 : Vec Ideal S8192x512 .bf16)

/-- The masked queries. -/
abbrev oddQ := S.arg12.view.writes (Elt Ideal) S.arg12.view.junk (kernelRun0_B.sl.HS0_8 S.c S.arg3 S.harg3 x0)

/-- The running maximum, the running sum and the accumulator after the loop. -/
abbrev oddAfter13 := S.arg13.view.writes (Elt Ideal) S.arg13.view.junk
  (after13 S (BitVec.ofNat 32 (S.i 2).val) k0_pay1151 (S.harg4.unread x1) (S.harg5.unread x2) (oddQ S x0) (kernelRun0_B.sl.v93 S.i))
/-- The sums an odd point holds after its loops. -/
abbrev oddAfter14 := S.arg14.view.writes (Elt Ideal) S.arg14.view.junk
  (after14 S (BitVec.ofNat 32 (S.i 2).val) k0_pay1151 (S.harg4.unread x1) (S.harg5.unread x2) (oddQ S x0) (kernelRun0_B.sl.v93 S.i))
/-- The accumulators an odd point holds after its loops. -/
abbrev oddAfter15 := S.arg15.view.writes (Elt Ideal) S.arg15.view.junk
  (after15 S (BitVec.ofNat 32 (S.i 2).val) k0_pay1151 (S.harg4.unread x1) (S.harg5.unread x2) (oddQ S x0) (kernelRun0_B.sl.v93 S.i))

/-- The running sum and the accumulator at the end. -/
abbrev oddEnd14 := S.arg14.view.writes (Elt Ideal) S.arg14.view.junk (kernelRun0_B.sl.HS2_32 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 x0 x1 x2)
/-- The accumulators an odd point holds at its end. -/
abbrev oddEnd15 := S.arg15.view.writes (Elt Ideal) S.arg15.view.junk (kernelRun0_B.sl.HS3_32 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 x0 x1 x2)

/-- Half of the tile before the diagonal. -/
abbrev lastBox (h : Fin 4) (r : Fin 2) : Rect S8192x512 :=
  Rect.unit (lastOff S.i h (BitVec.ofNat 32 (256 * r.val))) S256x128.size (lastOff_inb S.i hc0 h r)

/-- Half of the diagonal's tile. -/
abbrev oddBox (h : Fin 4) (r : Fin 2) : Rect S8192x512 :=
  Rect.unit (oddOff S.i h (BitVec.ofNat 32 (256 * r.val))) S256x128.size (oddOff_inb S.i hc0 h r)

/-- What is loaded for a chunk of a head: queries, keys, values. -/
abbrev oddQs (h ch : Fin 4) : Vec Ideal S1x256x128 .bf16 := S.arg12.view.readAt (Elt Ideal) (qBox h ch).toLoadRect (oddQ S x0)
/-- The keys of the tile before an odd point's diagonal. -/
abbrev lastKs (h : Fin 4) (r : Fin 2) : Vec Ideal S256x128 .bf16 :=
  S.arg4.view.readAt (Elt Ideal) (lastBox S hc0 h r).toLoadRect (S.harg4.unread x1)
/-- The values of the tile before an odd point's diagonal. -/
abbrev lastVs (h : Fin 4) (r : Fin 2) : Vec Ideal S256x128 .bf16 :=
  S.arg5.view.readAt (Elt Ideal) (lastBox S hc0 h r).toLoadRect (S.harg5.unread x2)
/-- The keys of an odd point's diagonal tile. -/
abbrev oddKs (h : Fin 4) (r : Fin 2) : Vec Ideal S256x128 .bf16 :=
  S.arg4.view.readAt (Elt Ideal) (oddBox S hc0 h r).toLoadRect (S.harg4.unread x1)
/-- The values of an odd point's diagonal tile. -/
abbrev oddVs (h : Fin 4) (r : Fin 2) : Vec Ideal S256x128 .bf16 :=
  S.arg5.view.readAt (Elt Ideal) (oddBox S hc0 h r).toLoadRect (S.harg5.unread x2)

/-- The scores against the tile before the diagonal. -/
abbrev lastScores (h ch : Fin 4) : FVec Ideal S512x256 .f32 := scores (oddQs S x0 h ch) (lastKs S hc0 x1 h 0) (lastKs S hc0 x1 h 1)

/-- A chunk's running sum at the end: the tile before the diagonal, then the diagonal's, from the loop's. -/
theorem odd_sum (h ch : Fin 4) :
    sumAt S (oddEnd14 S hc0 x0 x1 x2) h ch
      = diagSum (oddQs S x0 h ch) (oddKs S hc0 x1 h 0) (oddKs S hc0 x1 h 1)
          (newMax (lastScores S hc0 x0 x1 h ch) (maxAt S (oddAfter13 S x0 x1 x2) h ch))
          (newSum (lastScores S hc0 x0 x1 h ch) (maxAt S (oddAfter13 S x0 x1 x2) h ch) (sumAt S (oddAfter14 S x0 x1 x2) h ch)) ch := by
  suffices H : ∃ L13 L14 M13 N13 M14, sumAt S (oddEnd14 S hc0 x0 x1 x2) h ch
        = diagSum (oddQs S x0 h ch) (oddKs S hc0 x1 h 0) (oddKs S hc0 x1 h 1)
            (maxAt S (S.arg13.view.writes (Elt Ideal) S.arg13.view.junk L13) h ch)
            (sumAt S (S.arg14.view.writes (Elt Ideal) S.arg14.view.junk L14) h ch) ch
      ∧ maxAt S (S.arg13.view.writes (Elt Ideal) S.arg13.view.junk L13) h ch
        = newMax (lastScores S hc0 x0 x1 h ch) (maxAt S (S.arg13.view.writes (Elt Ideal) S.arg13.view.junk M13) h ch)
      ∧ sumAt S (S.arg14.view.writes (Elt Ideal) S.arg14.view.junk L14) h ch
        = newSum (lastScores S hc0 x0 x1 h ch) (maxAt S (S.arg13.view.writes (Elt Ideal) S.arg13.view.junk N13) h ch)
            (sumAt S (S.arg14.view.writes (Elt Ideal) S.arg14.view.junk M14) h ch)
      ∧ maxAt S (S.arg13.view.writes (Elt Ideal) S.arg13.view.junk M13) h ch = maxAt S (oddAfter13 S x0 x1 x2) h ch
      ∧ maxAt S (S.arg13.view.writes (Elt Ideal) S.arg13.view.junk N13) h ch = maxAt S (oddAfter13 S x0 x1 x2) h ch
      ∧ sumAt S (S.arg14.view.writes (Elt Ideal) S.arg14.view.junk M14) h ch = sumAt S (oddAfter14 S x0 x1 x2) h ch by
    obtain ⟨L13, L14, M13, N13, M14, e, e13, e14, e13', e13'', e14'⟩ := H
    rw [e, e13, e14, e13', e13'', e14']
  revert h ch
  refine forall4 ?_ ?_ ?_ ?_ <;> refine forall4 ?_ ?_ ?_ ?_ <;> beta_reduce <;>
  · refine ⟨?_, ?_, ?_, ?_, ?_, ?_, ?_, ?_, ?_, ?_, ?_⟩
    rotate_left 5
    iterate 3
      · repeat (refine (load_skip _ _ _ _ _ _ (by decide)).trans ?_)
        refine (load_hit _ _ _ _ _).trans ?_
        rfl
    iterate 3
      · repeat (refine (load_skip _ _ _ _ _ _ (by decide)).trans ?_)
        rfl

/-- A chunk's accumulator at the end: the tile before the diagonal, then the diagonal's, from the loop's. -/
theorem odd_acc (h ch : Fin 4) :
    accAt S (oddEnd15 S hc0 x0 x1 x2) h ch
      = diagAcc (oddQs S x0 h ch) (oddKs S hc0 x1 h 0) (oddKs S hc0 x1 h 1) (oddVs S hc0 x2 h 0) (oddVs S hc0 x2 h 1)
          (newMax (lastScores S hc0 x0 x1 h ch) (maxAt S (oddAfter13 S x0 x1 x2) h ch))
          (newAcc (lastScores S hc0 x0 x1 h ch) (lastVs S hc0 x2 h 0) (lastVs S hc0 x2 h 1)
            (maxAt S (oddAfter13 S x0 x1 x2) h ch) (accAt S (oddAfter15 S x0 x1 x2) h ch)) ch := by
  suffices H : ∃ L13 L15 M13 N13 M15, accAt S (oddEnd15 S hc0 x0 x1 x2) h ch
        = diagAcc (oddQs S x0 h ch) (oddKs S hc0 x1 h 0) (oddKs S hc0 x1 h 1) (oddVs S hc0 x2 h 0) (oddVs S hc0 x2 h 1)
            (maxAt S (S.arg13.view.writes (Elt Ideal) S.arg13.view.junk L13) h ch)
            (accAt S (S.arg15.view.writes (Elt Ideal) S.arg15.view.junk L15) h ch) ch
      ∧ maxAt S (S.arg13.view.writes (Elt Ideal) S.arg13.view.junk L13) h ch
        = newMax (lastScores S hc0 x0 x1 h ch) (maxAt S (S.arg13.view.writes (Elt Ideal) S.arg13.view.junk M13) h ch)
      ∧ accAt S (S.arg15.view.writes (Elt Ideal) S.arg15.view.junk L15) h ch
        = newAcc (lastScores S hc0 x0 x1 h ch) (lastVs S hc0 x2 h 0) (lastVs S hc0 x2 h 1)
            (maxAt S (S.arg13.view.writes (Elt Ideal) S.arg13.view.junk N13) h ch)
            (accAt S (S.arg15.view.writes (Elt Ideal) S.arg15.view.junk M15) h ch)
      ∧ maxAt S (S.arg13.view.writes (Elt Ideal) S.arg13.view.junk M13) h ch = maxAt S (oddAfter13 S x0 x1 x2) h ch
      ∧ maxAt S (S.arg13.view.writes (Elt Ideal) S.arg13.view.junk N13) h ch = maxAt S (oddAfter13 S x0 x1 x2) h ch
      ∧ accAt S (S.arg15.view.writes (Elt Ideal) S.arg15.view.junk M15) h ch = accAt S (oddAfter15 S x0 x1 x2) h ch by
    obtain ⟨L13, L15, M13, N13, M15, e, e13, e15, e13', e13'', e15'⟩ := H
    rw [e, e13, e15, e13', e13'', e15']
  revert h ch
  refine forall4 ?_ ?_ ?_ ?_ <;> refine forall4 ?_ ?_ ?_ ?_ <;> beta_reduce <;>
  · refine ⟨?_, ?_, ?_, ?_, ?_, ?_, ?_, ?_, ?_, ?_, ?_⟩
    rotate_left 5
    iterate 3
      · repeat (refine (load_skip _ _ _ _ _ _ (by decide)).trans ?_)
        refine (load_hit _ _ _ _ _).trans ?_
        rfl
    iterate 3
      · repeat (refine (load_skip _ _ _ _ _ _ (by decide)).trans ?_)
        rfl

end Cert.Attn

end
-- ==== Proof.Ends.lean ====
/- At the end of a step every column of the running sum and the accumulator holds the keys up to its own, for an even and for
   an odd block of queries. -/
module

public import proofs.«01_k».proof.Proof.CaseA
public import proofs.«01_k».proof.Proof.CaseB

@[expose] public section

set_option maxRecDepth 16384
set_option maxHeartbeats 1000000

noncomputable section

namespace Cert.Attn

open Idealize.ShloMosaic Idealize.SL.Sem Cert.KernelIdeal Cert.KernelIdeal.Gen Cert.Online

/-- Where the second code path is taken, the point is even. -/
theorem even_of {i : grid0.Coords} (hc : cond0_1 i) : (i 2).val % 2 = 0 := by
  have h : ∀ q : Fin 16, (i 2).val = q.val → cond0_1 i → q.val % 2 = 0 := by
    intro q hq
    unfold cond0_1 k0_cond2
    rw [hq]
    clear hq
    revert q
    decide +kernel
  exact h (i 2) rfl hc

/-- Where the first code path is taken, the point is odd. -/
theorem odd_of {i : grid0.Coords} (hc : cond0_0 i) : (i 2).val % 2 = 1 := by
  have h : ∀ q : Fin 16, (i 2).val = q.val → cond0_0 i → q.val % 2 = 1 := by
    intro q hq
    unfold cond0_0 k0_cond1
    rw [hq]
    clear hq
    revert q
    decide +kernel
  exact h (i 2) rfl hc

/-- A block of keys or values as given: real numbers, by head, key and lane. -/
def Rows (x : Vec Ideal S8192x512 .bf16) (K : Fin 4 → ℕ → Fin 128 → ℝ) : Prop :=
  ∀ (j : Fin 8192) (h : Fin 4) (d : Fin 128), x (ix2 j (lane h d)) = ((K h j.val d : ℝ) : EReal)

/-- An array whose rows are real numbers is a block of keys or values. -/
theorem Rows.isBlock {x : Vec Ideal S8192x512 .bf16} {K : Fin 4 → ℕ → Fin 128 → ℝ} (H : Rows x K)
    {m : Memref sig .tc .vmem S8192x512 .bf16} (hm : m.IsWhole) : IsBlock m (hm.unread x) K := by
  intro j h d
  rw [hm.read_unread]
  exact H j h d

/-- One column at the end: some maximum with which the first `n` keys are held. -/
def Ended (K V : Fin 4 → ℕ → Fin 128 → ℝ) (Q : Fin 4 → Fin 1024 → Fin 128 → ℝ) (h ch : Fin 4) (n : ℕ) (c : Fin 256)
    (l : Vec Ideal S1x1x256 .f32) (a : Vec Ideal S1x128x256 .f32) : Prop :=
  ∃ m : Vec Ideal S1x1x256 .f32, ColHeld K V Q h ch n c m l a

section
variable {S : Setup} {x0 : Vec Ideal S512x512 .bf16} {x1 x2 : Vec Ideal S8192x512 .bf16}
  {K V : Fin 4 → ℕ → Fin 128 → ℝ} {Q : Fin 4 → Fin 1024 → Fin 128 → ℝ} (hK : Rows x1 K) (hV : Rows x2 V)
include hK hV

/-- An even block of queries. -/
theorem even_end (hc1 : cond0_1 S.i) (hQ : IsQuery S.arg12 (evenQ S x0) Q) (h ch : Fin 4) (c : Fin 256) :
    Ended K V Q h ch (512 * (S.i 2).val + (rowOf ch c + 1)) c
      (sumAt S (evenEnd14 S hc1 x0 x1 x2) h ch) (accAt S (evenEnd15 S hc1 x0 x1 x2) h ch) := by
  have hK' := hK.isBlock S.harg4
  have hV' := hV.isBlock S.harg5
  have H := after_held S (BitVec.ofNat 32 (S.i 2).val) k0_pay1151 (S.harg4.unread x1) (S.harg5.unread x2) (evenQ S x0)
    hK' hV' hQ (kernelRun0_A.sl.v93 S.i) h ch c
  have e : 1024 * ((S.i 2).val / 2) = 512 * (S.i 2).val := by have := even_of hc1; omega
  rw [e] at H
  have D := diag_held H (evenQs S x0 h ch) (evenKs S hc1 x1 h 0) (evenKs S hc1 x1 h 1) (evenVs S hc1 x2 h 0) (evenVs S hc1 x2 h 1)
    (query_at hQ h ch c)
    (block_at hK' _ _ _ h (evenOff_eq S.i h 0)) (block_at hK' _ _ _ h (evenOff_eq S.i h 1))
    (block_at hV' _ _ _ h (evenOff_eq S.i h 0)) (block_at hV' _ _ _ h (evenOff_eq S.i h 1))
  rw [even_sum, even_acc]
  exact ⟨_, D⟩

/-- An odd block of queries. -/
theorem odd_end (hc0 : cond0_0 S.i) (hQ : IsQuery S.arg12 (oddQ S x0) Q) (h ch : Fin 4) (c : Fin 256) :
    Ended K V Q h ch (512 * (S.i 2).val + (rowOf ch c + 1)) c
      (sumAt S (oddEnd14 S hc0 x0 x1 x2) h ch) (accAt S (oddEnd15 S hc0 x0 x1 x2) h ch) := by
  have hK' := hK.isBlock S.harg4
  have hV' := hV.isBlock S.harg5
  have hi := odd_of hc0
  have H := after_held S (BitVec.ofNat 32 (S.i 2).val) k0_pay1151 (S.harg4.unread x1) (S.harg5.unread x2) (oddQ S x0)
    hK' hV' hQ (kernelRun0_B.sl.v93 S.i) h ch c
  have e : 1024 * ((S.i 2).val / 2) = 512 * ((S.i 2).val - 1) := by omega
  rw [e] at H
  have hp : 0 < (S.i 2).val := by omega
  have L := full_tile H (oddQs S x0 h ch) (lastKs S hc0 x1 h 0) (lastKs S hc0 x1 h 1) (lastVs S hc0 x2 h 0) (lastVs S hc0 x2 h 1)
    (query_at hQ h ch c)
    (block_at hK' _ _ _ h (lastOff_eq S.i hp h 0)) (block_at hK' _ _ _ h (lastOff_eq S.i hp h 1))
    (block_at hV' _ _ _ h (lastOff_eq S.i hp h 0)) (block_at hV' _ _ _ h (lastOff_eq S.i hp h 1))
  have e' : 512 * ((S.i 2).val - 1) + 512 = 512 * (S.i 2).val := by omega
  rw [e'] at L
  have D := diag_held L (oddQs S x0 h ch) (oddKs S hc0 x1 h 0) (oddKs S hc0 x1 h 1) (oddVs S hc0 x2 h 0) (oddVs S hc0 x2 h 1)
    (query_at hQ h ch c)
    (block_at hK' _ _ _ h (oddOff_eq S.i h 0)) (block_at hK' _ _ _ h (oddOff_eq S.i h 1))
    (block_at hV' _ _ _ h (oddOff_eq S.i h 0)) (block_at hV' _ _ _ h (oddOff_eq S.i h 1))
  rw [odd_sum, odd_acc]
  exact ⟨_, D⟩
end

end Cert.Attn

end
-- ==== Proof.Queries.lean ====
/- The masked queries: columns 0..511 of a head hold the block's queries with lanes 64..127 zeroed, columns 512..1023 the
   same queries with lanes 0..63 zeroed. -/
module

public import proofs.«01_k».proof.Proof.Ends

@[expose] public section

set_option maxRecDepth 16384
set_option maxHeartbeats 1000000

noncomputable section

namespace Cert.Attn

open Idealize.ShloMosaic Idealize.SL.Sem Cert.KernelIdeal Cert.KernelIdeal.Gen Cert.Online

/-- What holds of two numbers holds of all numbers below two. -/
theorem forall2 {P : Fin 2 → Prop} (h0 : P 0) (h1 : P 1) : ∀ g, P g
  | 0 => h0
  | 1 => h1

/-- Queries kept on one half of the lanes, by component. -/
def masked (v : Vec Ideal S512x128 .bf16) : Fin 2 → FVec Ideal S1x512x128 .bf16
  | 0 => k0_pay1140 v
  | 1 => k0_pay1141 v

/-- The box of one component of a head. -/
def gBox (h : Fin 4) (g : Fin 2) : Rect S4x1024x128 :=
  Rect.unit ![h.val, 512 * g.val, 0] S1x512x128.size (by revert h g; decide)

/-- The box of one head's queries. -/
def headBox (h : Fin 4) : Rect S512x512 := Rect.unit ![0, 128 * h.val] S512x128.size (by revert h; decide)

section
variable (S : Setup) (x0 : Vec Ideal S512x512 .bf16)

/-- The queries an even point loads again for one component of a head. -/
theorem even_query (h : Fin 4) (g : Fin 2) :
    S.arg12.view.readAt (Elt Ideal) (gBox h g).toLoadRect (evenQ S x0)
      = masked (S.arg3.view.readAt (Elt Ideal) (headBox h).toLoadRect (S.harg3.unread x0)) g := by
  revert h g
  refine forall4 ?_ ?_ ?_ ?_ <;> refine forall2 ?_ ?_ <;> beta_reduce <;>
  · repeat (refine (load_skip _ _ _ _ _ _ (by decide)).trans ?_)
    refine (load_hit _ _ _ _ _).trans ?_
    rfl

/-- The queries an odd point loads again for one component of a head. -/
theorem odd_query (h : Fin 4) (g : Fin 2) :
    S.arg12.view.readAt (Elt Ideal) (gBox h g).toLoadRect (oddQ S x0)
      = masked (S.arg3.view.readAt (Elt Ideal) (headBox h).toLoadRect (S.harg3.unread x0)) g := by
  revert h g
  refine forall4 ?_ ?_ ?_ ?_ <;> refine forall2 ?_ ?_ <;> beta_reduce <;>
  · repeat (refine (load_skip _ _ _ _ _ _ (by decide)).trans ?_)
    refine (load_hit _ _ _ _ _).trans ?_
    rfl
end

/-- The queries as given: real numbers, by row, head and lane. -/
def IsRows (x : Vec Ideal S512x512 .bf16) (Z : Fin 4 → ℕ → Fin 128 → ℝ) : Prop :=
  ∀ (r : Fin 512) (h : Fin 4) (d : Fin 128), x (ix2 r (lane h d)) = ((Z h r.val d : ℝ) : EReal)

/-- A column of the masked queries. -/
def maskQ (Z : Fin 4 → ℕ → Fin 128 → ℝ) (h : Fin 4) (c : Fin 1024) (d : Fin 128) : ℝ :=
  if c.val / 512 = d.val / 64 then Z h (c.val % 512) d else 0

/-- The queries of one component, with the other component's lanes zero. -/
theorem masked_at (v : Vec Ideal S512x128 .bf16) (z : Fin 512 → Fin 128 → ℝ)
    (hv : ∀ r d, v (ix2 r d) = ((z r d : ℝ) : EReal)) (g : Fin 2) (r : Fin 512) (d : Fin 128) :
    masked v g (ix3 0 r d) = (((if g.val = d.val / 64 then z r d else 0 : ℝ)) : EReal) := by
  revert g
  refine forall2 ?_ ?_
  · have e : masked v 0 (ix3 0 r d)
        = Scalar.select (IntOp.cmpi .slt (BitVec.ofNat 32 d.val) 64#32) (v (ix2 r d)) (Ideal.ofBits .bf16 0x0000#16) := by
      show k0_pay1140 v (ix3 0 r d) = _
      pointwise [k0_pay1140, k0_pay1139]
    have c : IntOp.cmpi .slt (BitVec.ofNat 32 d.val) 64#32 = if 0 = d.val / 64 then 1#1 else 0#1 := by
      clear e hv; revert d; decide +kernel
    rw [e, c, hv]
    by_cases hg : 0 = d.val / 64
    · rw [if_pos hg, if_pos (show (0 : Fin 2).val = d.val / 64 from hg)]
      simp [Scalar.select]
    · rw [if_neg hg, if_neg (show ¬(0 : Fin 2).val = d.val / 64 from hg)]
      simp [Scalar.select]
  · have e : masked v 1 (ix3 0 r d)
        = Scalar.select (IntOp.cmpi .sge (BitVec.ofNat 32 d.val) 64#32) (v (ix2 r d)) (Ideal.ofBits .bf16 0x0000#16) := by
      show k0_pay1141 v (ix3 0 r d) = _
      pointwise [k0_pay1141, k0_pay1139]
    have c : IntOp.cmpi .sge (BitVec.ofNat 32 d.val) 64#32 = if 1 = d.val / 64 then 1#1 else 0#1 := by
      clear e hv; revert d; decide +kernel
    rw [e, c, hv]
    by_cases hg : 1 = d.val / 64
    · rw [if_pos hg, if_pos (show (1 : Fin 2).val = d.val / 64 from hg)]
      simp [Scalar.select]
    · rw [if_neg hg, if_neg (show ¬(1 : Fin 2).val = d.val / 64 from hg)]
      simp [Scalar.select]

/-- The stored queries of a head and a component. -/
theorem query_of (S : Setup) (x0 : Vec Ideal S512x512 .bf16) (X : S.arg12.view.ty.Contents (Elt Ideal))
    (Z : Fin 4 → ℕ → Fin 128 → ℝ) (hZ : IsRows x0 Z)
    (hX : ∀ h g, S.arg12.view.readAt (Elt Ideal) (gBox h g).toLoadRect X
      = masked (S.arg3.view.readAt (Elt Ideal) (headBox h).toLoadRect (S.harg3.unread x0)) g) :
    IsQuery S.arg12 X (maskQ Z) := by
  intro h c d
  obtain ⟨g, r, hc⟩ : ∃ (g : Fin 2) (r : Fin 512), c = ⟨512 * g.val + r.val, by omega⟩ :=
    ⟨⟨c.val / 512, by omega⟩, ⟨c.val % 512, by omega⟩, Fin.ext (by show c.val = 512 * (c.val / 512) + c.val % 512; omega)⟩
  subst hc
  have hq : ∀ (r : Fin 512) (d : Fin 128), S.arg3.view.readAt (Elt Ideal) (headBox h).toLoadRect (S.harg3.unread x0) (ix2 r d)
      = ((Z h r.val d : ℝ) : EReal) := by
    intro r d
    refine (congrArg (S.arg3.view.read (Elt Ideal) (S.harg3.unread x0)) (a₁ := (headBox h).toLoadRect.idx (ix2 r d))
      (a₂ := ix2 r (lane h d)) (funext fun a => ?_)).trans ((congrFun (S.harg3.read_unread x0) _).trans (hZ r h d))
    fin_cases a
    · exact Fin.ext (show 0 + 1 * r.val = r.val by omega)
    · exact Fin.ext (show 128 * h.val + 1 * d.val = 128 * h.val + d.val by omega)
  have e := masked_at _ (fun r d => Z h r.val d) hq g r d
  rw [← hX h g] at e
  refine (congrArg (S.arg12.view.read (Elt Ideal) X) (a₂ := (gBox h g).toLoadRect.idx (ix3 0 r d)) (funext fun a => ?_)).trans
    (e.trans ?_)
  · fin_cases a
    · exact Fin.ext (show h.val = h.val + 1 * 0 by omega)
    · exact Fin.ext (show 512 * g.val + r.val = 512 * g.val + 1 * r.val by omega)
    · exact Fin.ext (show d.val = 0 + 1 * d.val by omega)
  · have e1 : (512 * g.val + r.val) / 512 = g.val := by omega
    have e2 : (512 * g.val + r.val) % 512 = r.val := by omega
    simp only [maskQ, e1, e2]

/-- The scores of a masked column are those of its half of the lanes. -/
theorem keyDot_mask (K Z : Fin 4 → ℕ → Fin 128 → ℝ) (h : Fin 4) (g : Fin 2) (r : Fin 512) (j : ℕ) :
    keyDot (K h) (maskQ Z h ⟨512 * g.val + r.val, by omega⟩) j
      = ∑ e : Fin 64, Z h r.val ⟨64 * g.val + e.val, by omega⟩ * K h j ⟨64 * g.val + e.val, by omega⟩ := by
  have e1 : (512 * g.val + r.val) / 512 = g.val := by omega
  have e2 : (512 * g.val + r.val) % 512 = r.val := by omega
  simp only [keyDot, maskQ, e1, e2]
  refine (Finset.sum_of_injOn (fun e : Fin 64 => (⟨64 * g.val + e.val, by omega⟩ : Fin 128)) ?_ ?_ ?_ ?_).symm
  · intro a _ b _ hab
    have := Fin.mk.inj hab
    exact Fin.ext (by omega)
  · intro a _; exact Finset.mem_coe.mpr (Finset.mem_univ _)
  · intro d _ hd
    rw [if_neg, mul_zero]
    intro hg
    refine hd ⟨⟨d.val % 64, by omega⟩, Finset.mem_coe.mpr (Finset.mem_univ _), Fin.ext ?_⟩
    show 64 * g.val + d.val % 64 = d.val
    omega
  · intro e _
    have e3 : (64 * g.val + e.val) / 64 = g.val := by omega
    rw [if_pos e3.symm, mul_comm]

end Cert.Attn

end
-- ==== Proof.OutBlock.lean ====
/- The result block: for each head the accumulator over the running sum, the two components combined, and the row
   normalised. -/
module

public import proofs.«01_k».proof.Proof.Queries
public import proofs.«01_k».proof.Proof.Gen.KernelIdeal.Frame

@[expose] public section

set_option maxRecDepth 16384
set_option maxHeartbeats 1000000

noncomputable section

namespace Cert.Attn

open Idealize.ShloMosaic Idealize.SL.Sem Cert.KernelIdeal Cert.KernelIdeal.Gen Cert.Online

attribute [local irreducible] pb_k0_t1 pb_k0_t2

/-- One head of the result from its accumulator, its running sum, the lambda vectors and the gain. -/
def headOut (a : Vec Ideal S1x128x1024 .f32) (l : Vec Ideal S1x1x1024 .f32) (lq1 lk1 lq2 lk2 : Vec Ideal S1x64 .f32)
    (gs : Vec Ideal S1x128 .f32) : FVec Ideal S512x128 .bf16 :=
  k0_pay1162 (k0_pay1159 lq1 lk1) (k0_pay1160 lq2 lk2) a l gs

/-- A head's running sum, accumulator. -/
def sumBox (h : Fin 4) : Rect S4x1x1024 := Rect.unit ![h.val, 0, 0] S1x1x1024.size (by revert h; decide)
/-- Where a head's accumulator is kept. -/
def accBox (h : Fin 4) : Rect S4x128x1024 := Rect.unit ![h.val, 0, 0] S1x128x1024.size (by revert h; decide)

/-- A whole vector read. -/
abbrev vec64 (m : Memref sig .tc .vmem S1x64 .f32) (hm : m.IsWhole) (x : Vec Ideal S1x64 .f32) : Vec Ideal S1x64 .f32 :=
  m.view.readAt (Elt Ideal) (Rect.unit (s := S1x64) ![0, 0] S1x64.size inb_S1x64_S1x64_0_0).toLoadRect (hm.unread x)
/-- The gain as a point loads it. -/
abbrev vec128 (m : Memref sig .tc .vmem S1x128 .f32) (hm : m.IsWhole) (x : Vec Ideal S1x128 .f32) : Vec Ideal S1x128 .f32 :=
  m.view.readAt (Elt Ideal) (Rect.unit (s := S1x128) ![0, 0] S1x128.size inb_S1x128_S1x128_0_0).toLoadRect (hm.unread x)

section
variable (S : Setup) (x0 : Vec Ideal S512x512 .bf16) (x1 x2 : Vec Ideal S8192x512 .bf16) (x3 x4 x5 x6 : Vec Ideal S1x64 .f32)
  (x7 : Vec Ideal S1x128 .f32)

/-- One head of the result from the running sum and the accumulator at the end. -/
abbrev headFrom (f14 : S.arg14.view.ty.Contents (Elt Ideal)) (f15 : S.arg15.view.ty.Contents (Elt Ideal)) (h : Fin 4) :
    FVec Ideal S512x128 .bf16 :=
  headOut (S.arg15.view.readAt (Elt Ideal) (accBox h).toLoadRect f15) (S.arg14.view.readAt (Elt Ideal) (sumBox h).toLoadRect f14)
    (vec64 S.arg6 S.harg6 x3) (vec64 S.arg7 S.harg7 x4) (vec64 S.arg8 S.harg8 x5) (vec64 S.arg9 S.harg9 x6)
    (vec128 S.arg10 S.harg10 x7)

/-- The result block of an even block of queries. -/
def evenOut (hc0 : ¬cond0_0 S.i) (hc1 : cond0_1 S.i) : Vec Ideal S512x512 .bf16 :=
  out0_A_8 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 hc1 x0 x1 x2 x3 x4 x5 x6 x7

/-- The rows an even point stores for a head. -/
theorem even_out (hc0 : ¬cond0_0 S.i) (hc1 : cond0_1 S.i) (h : Fin 4) :
    VO0_8.readAt (Elt Ideal) (headBox h).toLoadRect (VO0_8.writes (Elt Ideal) VO0_8.junk
        (kernelRun0_A S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 hc1 x0 x1 x2 x3 x4 x5 x6 x7).1)
      = headFrom S x3 x4 x5 x6 x7 (evenEnd14 S hc1 x0 x1 x2) (evenEnd15 S hc1 x0 x1 x2) h := by
  unfold kernelRun0_A
  dsimp only
  revert h
  refine forall4 ?_ ?_ ?_ ?_ <;> beta_reduce <;>
  · repeat (refine (load_skip _ _ _ _ _ _ (by decide)).trans ?_)
    refine (load_hit _ _ _ _ _).trans ?_
    rfl

/-- An even point's block at an index. -/
theorem even_out_at (hc0 : ¬cond0_0 S.i) (hc1 : cond0_1 S.i) (h : Fin 4) (r : Fin 512) (d : Fin 128) :
    evenOut S x0 x1 x2 x3 x4 x5 x6 x7 hc0 hc1 (ix2 r (lane h d))
      = headFrom S x3 x4 x5 x6 x7 (evenEnd14 S hc1 x0 x1 x2) (evenEnd15 S hc1 x0 x1 x2) h (ix2 r d) := by
  rw [← even_out S x0 x1 x2 x3 x4 x5 x6 x7 hc0 hc1 h]
  refine congrArg (VO0_8.read (Elt Ideal) _) (a₂ := (headBox h).toLoadRect.idx (ix2 r d)) (funext fun a => ?_)
  fin_cases a
  · exact Fin.ext (show r.val = 0 + 1 * r.val by omega)
  · exact Fin.ext (show 128 * h.val + d.val = 128 * h.val + 1 * d.val by omega)

/-- The result block of an odd block of queries. -/
def oddOut (hc0 : cond0_0 S.i) (hc1 : ¬cond0_1 S.i) : Vec Ideal S512x512 .bf16 :=
  out0_B_8 S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 hc1 x0 x1 x2 x3 x4 x5 x6 x7

/-- The rows an odd point stores for a head. -/
theorem odd_out (hc0 : cond0_0 S.i) (hc1 : ¬cond0_1 S.i) (h : Fin 4) :
    VO0_8.readAt (Elt Ideal) (headBox h).toLoadRect (VO0_8.writes (Elt Ideal) VO0_8.junk
        (kernelRun0_B S.c S.i S.arg3 S.harg3 S.arg4 S.harg4 S.arg5 S.harg5 S.arg6 S.harg6 S.arg7 S.harg7 S.arg8 S.harg8 S.arg9 S.harg9 S.arg10 S.harg10 S.arg11 S.harg11 S.arg12 S.harg12 S.arg13 S.harg13 S.arg14 S.harg14 S.arg15 S.harg15 hc0 hc1 x0 x1 x2 x3 x4 x5 x6 x7).1)
      = headFrom S x3 x4 x5 x6 x7 (oddEnd14 S hc0 x0 x1 x2) (oddEnd15 S hc0 x0 x1 x2) h := by
  unfold kernelRun0_B
  dsimp only
  revert h
  refine forall4 ?_ ?_ ?_ ?_ <;> beta_reduce <;>
  · repeat (refine (load_skip _ _ _ _ _ _ (by decide)).trans ?_)
    refine (load_hit _ _ _ _ _).trans ?_
    rfl

/-- An odd point's block at an index. -/
theorem odd_out_at (hc0 : cond0_0 S.i) (hc1 : ¬cond0_1 S.i) (h : Fin 4) (r : Fin 512) (d : Fin 128) :
    oddOut S x0 x1 x2 x3 x4 x5 x6 x7 hc0 hc1 (ix2 r (lane h d))
      = headFrom S x3 x4 x5 x6 x7 (oddEnd14 S hc0 x0 x1 x2) (oddEnd15 S hc0 x0 x1 x2) h (ix2 r d) := by
  rw [← odd_out S x0 x1 x2 x3 x4 x5 x6 x7 hc0 hc1 h]
  refine congrArg (VO0_8.read (Elt Ideal) _) (a₂ := (headBox h).toLoadRect.idx (ix2 r d)) (funext fun a => ?_)
  fin_cases a
  · exact Fin.ext (show r.val = 0 + 1 * r.val by omega)
  · exact Fin.ext (show 128 * h.val + d.val = 128 * h.val + 1 * d.val by omega)
end

end Cert.Attn

end
-- ==== Proof.OutAt.lean ====
/- One head of the result at a row and a lane. -/
module

public import proofs.«01_k».proof.Proof.OutBlock

@[expose] public section

set_option maxRecDepth 16384
set_option maxHeartbeats 1000000

noncomputable section

namespace Cert.Attn

open Idealize.ShloMosaic Idealize.SL.Sem Cert.KernelIdeal Cert.KernelIdeal.Gen Cert.Online

/-- The factor of the second component, from its four vectors. -/
def lamOf (lq1 lk1 lq2 lk2 : Fin 64 → EReal) : EReal :=
  Ideal.exp (∑ e, lq1 e * lk1 e) - Ideal.exp (∑ e, lq2 e * lk2 e) + Ideal.ofBits .f32 0x3E4CCCCD#32

/-- A row normalised by its root mean square, times the gain and a constant. -/
def normed (T : Fin 128 → EReal) (g : Fin 128 → EReal) (d : Fin 128) : EReal :=
  T d * Ideal.rsqrt (Ideal.div (∑ e, T e * T e) (Ideal.ofBits .f32 0x43000000#32) + Ideal.ofBits .f32 0x358637BD#32) * g d
    * Ideal.ofBits .f32 0x3F4CCCCD#32

/-- A head's written rows at an index. -/
theorem headOut_at (a : Vec Ideal S1x128x1024 .f32) (l : Vec Ideal S1x1x1024 .f32) (lq1 lk1 lq2 lk2 : Vec Ideal S1x64 .f32)
    (gs : Vec Ideal S1x128 .f32) (r : Fin 512) (d : Fin 128) :
    headOut a l lq1 lk1 lq2 lk2 gs (ix2 r d)
      = normed (fun d => a (ix3 0 d ⟨r.val, by omega⟩) * Ideal.div 1 (l (ix3 0 0 ⟨r.val, by omega⟩))
          - lamOf (fun e => lq1 (ix2 0 e)) (fun e => lk1 (ix2 0 e)) (fun e => lq2 (ix2 0 e)) (fun e => lk2 (ix2 0 e))
            * (a (ix3 0 d ⟨512 + r.val, by omega⟩) * Ideal.div 1 (l (ix3 0 0 ⟨512 + r.val, by omega⟩))))
          (fun d => gs (ix2 0 d)) d := by
  pointwise [headOut, k0_pay1162, k0_pay1161, k0_pay1160, k0_pay1159]
  rfl

end Cert.Attn

end
-- ==== Proof.Block.lean ====
/- The result block in terms of the queries, keys and values of the block: for an even and for an odd block of queries the
   same equation. -/
module

public import proofs.«01_k».proof.Proof.OutAt

@[expose] public section

set_option maxRecDepth 16384
set_option maxHeartbeats 1000000

noncomputable section

namespace Cert.Attn

open Idealize.ShloMosaic Idealize.SL.Sem Cert.KernelIdeal Cert.KernelIdeal.Gen Cert.Online

/-- One row and head of differential attention over the first `n` keys: the difference of two averages of the values,
    normalised. -/
def attnRow (s0 s1 : ℕ → ℝ) (v : Fin 128 → ℕ → ℝ) (n : ℕ) (lam : EReal) (gs : Fin 128 → EReal) (d : Fin 128) : EReal :=
  normed (fun d => ((wavg s0 (v d) n : ℝ) : EReal) - lam * ((wavg s1 (v d) n : ℝ) : EReal)) gs d

/-- The score of a row against a key in one component. -/
def halfDot (Z : ℕ → Fin 128 → ℝ) (K : ℕ → Fin 128 → ℝ) (r : ℕ) (g : Fin 2) (j : ℕ) : ℝ :=
  ∑ e : Fin 64, Z r ⟨64 * g.val + e.val, by omega⟩ * K j ⟨64 * g.val + e.val, by omega⟩

section
variable {S : Setup} {K V Z : Fin 4 → ℕ → Fin 128 → ℝ} {n : ℕ}

/-- The accumulator over the running sum, at one column. -/
theorem quot_at {f14 : S.arg14.view.ty.Contents (Elt Ideal)} {f15 : S.arg15.view.ty.Contents (Elt Ideal)}
    (H : ∀ h ch c, Ended K V (maskQ Z) h ch (n + (rowOf ch c + 1)) c (sumAt S f14 h ch) (accAt S f15 h ch))
    (h : Fin 4) (g : Fin 2) (r : Fin 512) (col' : Fin 1024) (hcol : col'.val = 512 * g.val + r.val) (d : Fin 128) :
    S.arg15.view.readAt (Elt Ideal) (accBox h).toLoadRect f15 (ix3 0 d col')
        * Ideal.div 1 (S.arg14.view.readAt (Elt Ideal) (sumBox h).toLoadRect f14 (ix3 0 0 col'))
      = ((wavg (halfDot (Z h) (K h) r.val g) (fun j => V h j d) (n + (r.val + 1)) : ℝ) : EReal) := by
  obtain ⟨m, E⟩ := H h ⟨2 * g.val + r.val / 256, by omega⟩ ⟨r.val % 256, by omega⟩
  have q := (E d).quot (by omega)
  have hr : rowOf (⟨2 * g.val + r.val / 256, by omega⟩ : Fin 4) (⟨r.val % 256, by omega⟩ : Fin 256) = r.val := by
    show 256 * ((2 * g.val + r.val / 256) % 2) + r.val % 256 = r.val
    omega
  have hc : col (⟨2 * g.val + r.val / 256, by omega⟩ : Fin 4) (⟨r.val % 256, by omega⟩ : Fin 256)
      = ⟨512 * g.val + r.val, by omega⟩ := Fin.ext (by
    show 256 * (2 * g.val + r.val / 256) + r.val % 256 = 512 * g.val + r.val
    omega)
  have hs : keyDot (K h) (maskQ Z h ⟨512 * g.val + r.val, by omega⟩) = halfDot (Z h) (K h) r.val g :=
    funext fun j => keyDot_mask K Z h g r j
  rw [hr, hc, hs] at q
  refine Eq.trans ?_ q
  congr 1
  · refine congrArg (S.arg15.view.read (Elt Ideal) f15) (funext fun a => ?_)
    fin_cases a
    · exact Fin.ext (show h.val + 1 * 0 = h.val + 1 * 0 from rfl)
    · exact Fin.ext (show 0 + 1 * d.val = 0 + 1 * d.val from rfl)
    · exact Fin.ext (show 0 + 1 * col'.val = 256 * (2 * g.val + r.val / 256) + 1 * (r.val % 256) by omega)
  · refine congrArg (fun y => Ideal.div 1 y) (congrArg (S.arg14.view.read (Elt Ideal) f14) (funext fun a => ?_))
    fin_cases a
    · exact Fin.ext (show h.val + 1 * 0 = h.val + 1 * 0 from rfl)
    · rfl
    · exact Fin.ext (show 0 + 1 * col'.val = 256 * (2 * g.val + r.val / 256) + 1 * (r.val % 256) by omega)

/-- A loaded lambda vector at an index. -/
theorem vec64_at (m : Memref sig .tc .vmem S1x64 .f32) (hm : m.IsWhole) (x : Vec Ideal S1x64 .f32) (e : Fin 64) :
    vec64 m hm x (ix2 0 e) = x (ix2 0 e) := by
  refine (congrArg (m.view.read (Elt Ideal) (hm.unread x)) (a₂ := ix2 0 e) (funext fun a => ?_)).trans
    (congrFun (hm.read_unread x) _)
  fin_cases a
  · rfl
  · exact Fin.ext (show 0 + 1 * e.val = e.val by omega)

/-- The loaded gain at an index. -/
theorem vec128_at (m : Memref sig .tc .vmem S1x128 .f32) (hm : m.IsWhole) (x : Vec Ideal S1x128 .f32) (e : Fin 128) :
    vec128 m hm x (ix2 0 e) = x (ix2 0 e) := by
  refine (congrArg (m.view.read (Elt Ideal) (hm.unread x)) (a₂ := ix2 0 e) (funext fun a => ?_)).trans
    (congrFun (hm.read_unread x) _)
  fin_cases a
  · rfl
  · exact Fin.ext (show 0 + 1 * e.val = e.val by omega)

/-- The factor of the second component from the four vectors as given. -/
abbrev lamVec (x3 x4 x5 x6 : Vec Ideal S1x64 .f32) : EReal :=
  lamOf (fun e => x3 (ix2 0 e)) (fun e => x4 (ix2 0 e)) (fun e => x5 (ix2 0 e)) (fun e => x6 (ix2 0 e))

variable {x3 x4 x5 x6 : Vec Ideal S1x64 .f32} {x7 : Vec Ideal S1x128 .f32}

/-- A head's rows, from the finished sums and accumulators. -/
theorem head_at {f14 : S.arg14.view.ty.Contents (Elt Ideal)} {f15 : S.arg15.view.ty.Contents (Elt Ideal)}
    (H : ∀ h ch c, Ended K V (maskQ Z) h ch (n + (rowOf ch c + 1)) c (sumAt S f14 h ch) (accAt S f15 h ch))
    (h : Fin 4) (r : Fin 512) (d : Fin 128) :
    headFrom S x3 x4 x5 x6 x7 f14 f15 h (ix2 r d)
      = attnRow (halfDot (Z h) (K h) r.val 0) (halfDot (Z h) (K h) r.val 1) (fun d j => V h j d) (n + (r.val + 1))
          (lamVec x3 x4 x5 x6) (fun d => x7 (ix2 0 d)) d := by
  refine (headOut_at _ _ _ _ _ _ _ r d).trans ?_
  rw [attnRow]
  congr 1
  · funext d
    rw [quot_at H h 0 r ⟨r.val, by omega⟩ (by simp) d, quot_at H h 1 r ⟨512 + r.val, by omega⟩ (by simp) d]
    simp only [vec64_at]
  · funext d
    exact vec128_at _ _ _ _

variable {x0 : Vec Ideal S512x512 .bf16} {x1 x2 : Vec Ideal S8192x512 .bf16}
  (hZ : IsRows x0 Z) (hK : Rows x1 K) (hV : Rows x2 V)
include hZ hK hV

/-- An even block of queries. -/
theorem even_block (hc0 : ¬cond0_0 S.i) (hc1 : cond0_1 S.i) (h : Fin 4) (r : Fin 512) (d : Fin 128) :
    evenOut S x0 x1 x2 x3 x4 x5 x6 x7 hc0 hc1 (ix2 r (lane h d))
      = attnRow (halfDot (Z h) (K h) r.val 0) (halfDot (Z h) (K h) r.val 1) (fun d j => V h j d)
          (512 * (S.i 2).val + (r.val + 1)) (lamVec x3 x4 x5 x6) (fun d => x7 (ix2 0 d)) d := by
  rw [even_out_at]
  exact head_at (even_end hK hV hc1 (query_of S x0 _ Z hZ (even_query S x0))) h r d

/-- An odd block of queries. -/
theorem odd_block (hc0 : cond0_0 S.i) (hc1 : ¬cond0_1 S.i) (h : Fin 4) (r : Fin 512) (d : Fin 128) :
    oddOut S x0 x1 x2 x3 x4 x5 x6 x7 hc0 hc1 (ix2 r (lane h d))
      = attnRow (halfDot (Z h) (K h) r.val 0) (halfDot (Z h) (K h) r.val 1) (fun d j => V h j d)
          (512 * (S.i 2).val + (r.val + 1)) (lamVec x3 x4 x5 x6) (fun d => x7 (ix2 0 d)) d := by
  rw [odd_out_at]
  exact head_at (odd_end hK hV hc0 (query_of S x0 _ Z hZ (odd_query S x0))) h r d
end

end Cert.Attn

end
-- ==== Proof.Array.lean ====
/- The result array of the kernel as one function of its arguments. -/
module

public import proofs.«01_k».proof.Proof.Block
public import proofs.«01_k».proof.Proof.Gen.KernelIdeal.Value

@[expose] public section

set_option maxRecDepth 16384
set_option maxHeartbeats 200000

noncomputable section

namespace Cert.Attn

open Idealize.ShloMosaic Idealize.ShloMosaic.TcCoe Idealize.SL.Sem Cert.KernelIdeal Cert.KernelIdeal.Gen Cert.KernelIdeal.Value
  Cert.Online

/-- An entry of the projected array as a real number. -/
def entry (x : Vec Ideal S16384x4096 .bf16) (R C : ℕ) : ℝ :=
  if h : R < 16384 ∧ C < 4096 then EReal.toReal (x (ix2 ⟨R, h.1⟩ ⟨C, h.2⟩)) else 0

/-- The queries, keys and values are real numbers. -/
def Finite (x : Vec Ideal S16384x4096 .bf16) : Prop :=
  ∀ (R : Fin 16384) (C : Fin 4096), C.val < 3072 → ∃ z : ℝ, x (ix2 R C) = (z : EReal)

/-- An entry of a finite array is the real number `entry` names. -/
theorem Finite.entry {x : Vec Ideal S16384x4096 .bf16} (hx : Finite x) (R : Fin 16384) (C : Fin 4096) (hC : C.val < 3072) :
    x (ix2 R C) = ((entry x R.val C.val : ℝ) : EReal) := by
  obtain ⟨z, hz⟩ := hx R C hC
  rw [Attn.entry, dif_pos ⟨R.isLt, C.isLt⟩, hz, EReal.toReal_coe]

/-- The score of row `R` against key `j` of its sequence, in head `hh` and component `g`. -/
def scoreOf (x : Vec Ideal S16384x4096 .bf16) (R hh : ℕ) (g : Fin 2) (j : ℕ) : ℝ :=
  ∑ e : Fin 64, entry x R (128 * hh + (64 * g.val + e.val)) * entry x (8192 * (R / 8192) + j) (1024 + 128 * hh + (64 * g.val + e.val))

/-- The value of key `j` of row `R`'s sequence, in head `hh` and lane `d`. -/
def valueOf (x : Vec Ideal S16384x4096 .bf16) (R hh : ℕ) (d : Fin 128) (j : ℕ) : ℝ :=
  entry x (8192 * (R / 8192) + j) (2048 + 128 * hh + d.val)

/-- One entry of the result: row, head, lane. -/
def resultAt (x : Vec Ideal S16384x4096 .bf16) (l1 l2 l3 l4 : Vec Ideal S1x64 .f32) (gs : Vec Ideal S1x128 .f32) (R hh : ℕ)
    (d : Fin 128) : EReal :=
  attnRow (scoreOf x R hh 0) (scoreOf x R hh 1) (valueOf x R hh) (R % 8192 + 1) (lamVec l1 l2 l3 l4) (fun d => gs (ix2 0 d)) d

/-- The result array. -/
def result (x : Vec Ideal S16384x4096 .bf16) (l1 l2 l3 l4 : Vec Ideal S1x64 .f32) (gs : Vec Ideal S1x128 .f32) :
    Vec Ideal S16384x1024 .bf16 := fun i =>
  resultAt x l1 l2 l3 l4 gs (i 0).val ((i 1).val / 128) ⟨(i 1).val % 128, Nat.mod_lt _ (by decide)⟩

/-! ## Where each grid point reads and writes -/

/-- There are 64 grid points, and a point's query tile is its remainder by 16. -/
theorem point_at : ∀ t : Fin cfg0.N, t.val < 64 ∧ (grid0.coords t 2).val = t.val % 16 :=
  (by decide +kernel : ∀ t : Fin grid0.N, t.val < 64 ∧ (grid0.coords t 2).val = t.val % 16)

/-- Which block of the first array a grid point works on. -/
theorem index0 : ∀ t : Fin cfg0.N, win0_0.index t (0 : Fin 2) = 16 * (t.val / 32) + t.val % 16 ∧ win0_0.index t (1 : Fin 2) = t.val / 16 % 2 :=
  (by decide +kernel : ∀ t : Fin grid0.N, _)
/-- Which block of the second array a grid point works on. -/
theorem index1 : ∀ t : Fin cfg0.N, win0_1.index t (0 : Fin 2) = t.val / 32 ∧ win0_1.index t (1 : Fin 2) = 2 + t.val / 16 % 2 :=
  (by decide +kernel : ∀ t : Fin grid0.N, _)
/-- Which block of the third array a grid point works on. -/
theorem index2 : ∀ t : Fin cfg0.N, win0_2.index t (0 : Fin 2) = t.val / 32 ∧ win0_2.index t (1 : Fin 2) = 4 + t.val / 16 % 2 :=
  (by decide +kernel : ∀ t : Fin grid0.N, _)
/-- Which block of the ninth array a grid point works on. -/
theorem index8 : ∀ t : Fin cfg0.N, win0_8.index t (0 : Fin 2) = 16 * (t.val / 32) + t.val % 16 ∧ win0_8.index t (1 : Fin 2) = t.val / 16 % 2 :=
  (by decide +kernel : ∀ t : Fin grid0.N, _)
/-- Which block of the fourth array a grid point works on. -/
theorem index3 : ∀ t : Fin cfg0.N, win0_3.index t (0 : Fin 2) = 0 ∧ win0_3.index t (1 : Fin 2) = 0 :=
  (by decide +kernel : ∀ t : Fin grid0.N, _)
/-- Which block of the fifth array a grid point works on. -/
theorem index4 : ∀ t : Fin cfg0.N, win0_4.index t (0 : Fin 2) = 0 ∧ win0_4.index t (1 : Fin 2) = 0 :=
  (by decide +kernel : ∀ t : Fin grid0.N, _)
/-- Which block of the sixth array a grid point works on. -/
theorem index5 : ∀ t : Fin cfg0.N, win0_5.index t (0 : Fin 2) = 0 ∧ win0_5.index t (1 : Fin 2) = 0 :=
  (by decide +kernel : ∀ t : Fin grid0.N, _)
/-- Which block of the seventh array a grid point works on. -/
theorem index6 : ∀ t : Fin cfg0.N, win0_6.index t (0 : Fin 2) = 0 ∧ win0_6.index t (1 : Fin 2) = 0 :=
  (by decide +kernel : ∀ t : Fin grid0.N, _)
/-- Which block of the eighth array a grid point works on. -/
theorem index7 : ∀ t : Fin cfg0.N, win0_7.index t (0 : Fin 2) = 0 ∧ win0_7.index t (1 : Fin 2) = 0 :=
  (by decide +kernel : ∀ t : Fin grid0.N, _)

section
variable (m : (ℓ : Loc nD τ sig) → Buf (Elt Ideal) ℓ) (c : Dev nD) (t : Fin cfg0.N)

/-- The block of queries at a point. -/
theorem block0 (r : Fin 512) (C : Fin 512) :
    iblk m c 0 t (ix2 r C) = V m c main_arg0 (ix2 ⟨512 * (16 * (t.val / 32) + t.val % 16) + r.val, by have := (point_at t).1; omega⟩
      ⟨512 * (t.val / 16 % 2) + C.val, by omega⟩) := by
  obtain ⟨e0, e1⟩ := index0 t
  show V m c main_arg0 (((cfg0.win 0).blk t).view.emb (ix2 r C)) = _
  refine congrArg (V m c main_arg0) (funext fun a => Fin.ext ?_)
  match a with
  | ⟨0, _⟩ => show win0_0.index t (0 : Fin 2) * 512 + 1 * r.val = 512 * (16 * (t.val / 32) + t.val % 16) + r.val; omega
  | ⟨1, _⟩ => show win0_0.index t (1 : Fin 2) * 512 + 1 * C.val = 512 * (t.val / 16 % 2) + C.val; omega

/-- The block of keys at a point. -/
theorem block1 (j : Fin 8192) (C : Fin 512) :
    iblk m c 1 t (ix2 j C) = V m c main_arg0 (ix2 ⟨8192 * (t.val / 32) + j.val, by have := (point_at t).1; omega⟩
      ⟨1024 + 512 * (t.val / 16 % 2) + C.val, by omega⟩) := by
  obtain ⟨e0, e1⟩ := index1 t
  show V m c main_arg0 (((cfg0.win 1).blk t).view.emb (ix2 j C)) = _
  refine congrArg (V m c main_arg0) (funext fun a => Fin.ext ?_)
  match a with
  | ⟨0, _⟩ => show win0_1.index t (0 : Fin 2) * 8192 + 1 * j.val = 8192 * (t.val / 32) + j.val; omega
  | ⟨1, _⟩ => show win0_1.index t (1 : Fin 2) * 512 + 1 * C.val = 1024 + 512 * (t.val / 16 % 2) + C.val; omega

/-- The block of values at a point. -/
theorem block2 (j : Fin 8192) (C : Fin 512) :
    iblk m c 2 t (ix2 j C) = V m c main_arg0 (ix2 ⟨8192 * (t.val / 32) + j.val, by have := (point_at t).1; omega⟩
      ⟨2048 + 512 * (t.val / 16 % 2) + C.val, by omega⟩) := by
  obtain ⟨e0, e1⟩ := index2 t
  show V m c main_arg0 (((cfg0.win 2).blk t).view.emb (ix2 j C)) = _
  refine congrArg (V m c main_arg0) (funext fun a => Fin.ext ?_)
  match a with
  | ⟨0, _⟩ => show win0_2.index t (0 : Fin 2) * 8192 + 1 * j.val = 8192 * (t.val / 32) + j.val; omega
  | ⟨1, _⟩ => show win0_2.index t (1 : Fin 2) * 512 + 1 * C.val = 2048 + 512 * (t.val / 16 % 2) + C.val; omega

/-- A point is given the whole first lambda vector. -/
theorem block3 : iblk m c 3 t = V m c main_arg1 := by
  obtain ⟨e0, e1⟩ := index3 t
  funext j
  show V m c main_arg1 (((cfg0.win 3).blk t).view.emb j) = V m c main_arg1 j
  refine congrArg (V m c main_arg1) (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- A point is given the whole second lambda vector. -/
theorem block4 : iblk m c 4 t = V m c main_arg2 := by
  obtain ⟨e0, e1⟩ := index4 t
  funext j
  show V m c main_arg2 (((cfg0.win 4).blk t).view.emb j) = V m c main_arg2 j
  refine congrArg (V m c main_arg2) (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- A point is given the whole third lambda vector. -/
theorem block5 : iblk m c 5 t = V m c main_arg3 := by
  obtain ⟨e0, e1⟩ := index5 t
  funext j
  show V m c main_arg3 (((cfg0.win 5).blk t).view.emb j) = V m c main_arg3 j
  refine congrArg (V m c main_arg3) (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega

/-- A point is given the whole fourth lambda vector. -/
theorem block6 : iblk m c 6 t = V m c main_arg4 := by
  obtain ⟨e0, e1⟩ := index6 t
  funext j
  show V m c main_arg4 (((cfg0.win 6).blk t).view.emb j) = V m c main_arg4 j
  refine congrArg (V m c main_arg4) (funext fun a => Fin.ext ?_)
  match a with
  | ⟨0, _⟩ => show win0_6.index t (0 : Fin 2) * 1 + 1 * (j 0).val = (j 0).val; omega
  | ⟨1, _⟩ => show win0_6.index t (1 : Fin 2) * 64 + 1 * (j 1).val = (j 1).val; omega

/-- A point is given the whole gain. -/
theorem block7 : iblk m c 7 t = V m c main_arg5 := by
  obtain ⟨e0, e1⟩ := index7 t
  funext j
  show V m c main_arg5 (((cfg0.win 7).blk t).view.emb j) = V m c main_arg5 j
  refine congrArg (V m c main_arg5) (funext fun a => Fin.ext ?_)
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- A point with the memories the kernel is called on there. -/
abbrev setupAt : Setup :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, scM0_0, Memref.isWhole_whole _, scM0_1, Memref.isWhole_whole _, scM0_2, Memref.isWhole_whole _, scM0_3, Memref.isWhole_whole _⟩

/-- The result array from the arguments as the kernel finds them. -/
abbrev resultV : Vec Ideal S16384x1024 .bf16 :=
  result (V m c main_arg0) (V m c main_arg1) (V m c main_arg2) (V m c main_arg3) (V m c main_arg4) (V m c main_arg5)

/-- The queries, keys and values of a point. -/
def pointZ (h : Fin 4) (r : ℕ) (d : Fin 128) : ℝ :=
  entry (V m c main_arg0) (512 * (16 * (t.val / 32) + t.val % 16) + r) (512 * (t.val / 16 % 2) + (128 * h.val + d.val))
/-- The keys a grid point sees. -/
def pointK (h : Fin 4) (j : ℕ) (d : Fin 128) : ℝ :=
  entry (V m c main_arg0) (8192 * (t.val / 32) + j) (1024 + 512 * (t.val / 16 % 2) + (128 * h.val + d.val))
/-- The values a grid point sees. -/
def pointV (h : Fin 4) (j : ℕ) (d : Fin 128) : ℝ :=
  entry (V m c main_arg0) (8192 * (t.val / 32) + j) (2048 + 512 * (t.val / 16 % 2) + (128 * h.val + d.val))

/-- What a point computes is its block of the result array. -/
theorem point_result (r : Fin 512) (h : Fin 4) (d : Fin 128) :
    attnRow (halfDot (pointZ m c t h) (pointK m c t h) r.val 0) (halfDot (pointZ m c t h) (pointK m c t h) r.val 1) (fun d j => pointV m c t h j d)
        (512 * (grid0.coords t 2).val + (r.val + 1))
        (lamVec (iblk m c 3 t) (iblk m c 4 t) (iblk m c 5 t) (iblk m c 6 t)) (fun d => iblk m c 7 t (ix2 0 d)) d
      = resultV m c (((cfg0.win 8).blk t).view.emb (ix2 r (lane h d))) := by
  obtain ⟨ht, e2⟩ := point_at t
  obtain ⟨e0, e1⟩ := index8 t
  have i0 : ((((cfg0.win 8).blk t).view.emb (ix2 r (lane h d))) 0).val = 512 * (16 * (t.val / 32) + t.val % 16) + r.val := by
    show win0_8.index t (0 : Fin 2) * 512 + 1 * r.val = _
    omega
  have i1 : ((((cfg0.win 8).blk t).view.emb (ix2 r (lane h d))) 1).val = 512 * (t.val / 16 % 2) + (128 * h.val + d.val) := by
    show win0_8.index t (1 : Fin 2) * 512 + 1 * (128 * h.val + d.val) = _
    omega
  generalize ((cfg0.win 8).blk t).view.emb (ix2 r (lane h d)) = i at i0 i1
  have a1 : (i 1).val / 128 = 4 * (t.val / 16 % 2) + h.val := by omega
  have a2 : (⟨(i 1).val % 128, Nat.mod_lt _ (by decide)⟩ : Fin 128) = d := Fin.ext (by show (i 1).val % 128 = d.val; omega)
  have a3 : (i 0).val / 8192 = t.val / 32 := by omega
  have a4 : (i 0).val % 8192 + 1 = 512 * (t.val % 16) + (r.val + 1) := by omega
  have hs : ∀ g, halfDot (pointZ m c t h) (pointK m c t h) r.val g = scoreOf (V m c main_arg0) (i 0).val ((i 1).val / 128) g := by
    intro g
    funext j
    rw [halfDot, scoreOf, a1, a3, i0]
    refine Finset.sum_congr rfl fun e _ => congrArg₂ (· * ·) (congrArg (entry _ _) ?_) (congrArg (entry _ _) ?_)
    · show 512 * (t.val / 16 % 2) + (128 * h.val + (64 * g.val + e.val)) = 128 * (4 * (t.val / 16 % 2) + h.val) + (64 * g.val + e.val)
      omega
    · show 1024 + 512 * (t.val / 16 % 2) + (128 * h.val + (64 * g.val + e.val))
        = 1024 + 128 * (4 * (t.val / 16 % 2) + h.val) + (64 * g.val + e.val)
      omega
  have hv : (fun (d : Fin 128) (j : ℕ) => pointV m c t h j d) = valueOf (V m c main_arg0) (i 0).val ((i 1).val / 128) := by
    funext d j
    rw [valueOf, a1, a3, pointV]
    congr 1
    omega
  rw [hs, hs, hv, block3, block4, block5, block6, block7, e2]
  show _ = resultAt _ _ _ _ _ _ _ _ _
  rw [resultAt, a2, a4]

/-- What a point writes back, at an index. -/
theorem flushed_odd (hp : t.val % 2 = 1) (hn : ¬t.val % 2 = 0) (j : S512x512.Idx) :
    (dats m 0 c).flushed 8 t j
      = oddOut (setupAt c t) (iblk m c 0 t) (iblk m c 1 t) (iblk m c 2 t) (iblk m c 3 t) (iblk m c 4 t) (iblk m c 5 t)
          (iblk m c 6 t) (iblk m c 7 t) ((hcond0_0 t).mpr hp) (fun h => hn ((hcond0_1 t).mp h)) j := by
  rw [flushed8_B m c t hp hn, oddOut]
  rfl

/-- What an even grid point writes back. -/
theorem flushed_even (hp : ¬t.val % 2 = 1) (hn : t.val % 2 = 0) (j : S512x512.Idx) :
    (dats m 0 c).flushed 8 t j
      = evenOut (setupAt c t) (iblk m c 0 t) (iblk m c 1 t) (iblk m c 2 t) (iblk m c 3 t) (iblk m c 4 t) (iblk m c 5 t)
          (iblk m c 6 t) (iblk m c 7 t) (fun h => hp ((hcond0_0 t).mp h)) ((hcond0_1 t).mpr hn) j := by
  rw [flushed8_A m c t hp hn, evenOut]
  rfl

/-- What a point writes back is its block of the result array. -/
theorem flushed_eq (hx : Finite (V m c main_arg0)) :
    (dats m 0 c).flushed 8 t = ((cfg0.win 8).blk t).view.read (Elt Ideal) (resultV m c) := by
  obtain ⟨ht, e2⟩ := point_at t
  have hZ : IsRows (iblk m c 0 t) (pointZ m c t) := by
    intro r h d
    rw [pointZ, block0, hx.entry _ _ (by show 512 * (t.val / 16 % 2) + (128 * h.val + d.val) < 3072; omega)]
  have hK : Rows (iblk m c 1 t) (pointK m c t) := by
    intro j h d
    rw [pointK, block1, hx.entry _ _ (by show 1024 + 512 * (t.val / 16 % 2) + (128 * h.val + d.val) < 3072; omega)]
  have hV : Rows (iblk m c 2 t) (pointV m c t) := by
    intro j h d
    rw [pointV, block2, hx.entry _ _ (by show 2048 + 512 * (t.val / 16 % 2) + (128 * h.val + d.val) < 3072; omega)]
  suffices H : ∀ (r : Fin 512) (h : Fin 4) (d : Fin 128),
      (dats m 0 c).flushed 8 t (ix2 r (lane h d)) = resultV m c (((cfg0.win 8).blk t).view.emb (ix2 r (lane h d))) by
    funext j
    have hj : j = ix2 (j 0) (lane ⟨(j 1).val / 128, by have : (j 1).val < 512 := (j 1).isLt; omega⟩ ⟨(j 1).val % 128, by omega⟩) := by
      funext a
      match a with
      | ⟨0, _⟩ => rfl
      | ⟨1, _⟩ => exact Fin.ext (show (j 1).val = 128 * ((j 1).val / 128) + (j 1).val % 128 by omega)
    rw [hj]
    exact H _ _ _
  intro r h d
  by_cases hp : t.val % 2 = 1
  · have hn : ¬t.val % 2 = 0 := by omega
    rw [flushed_odd m c t hp hn]
    refine (odd_block (S := setupAt c t) hZ hK hV ((hcond0_0 t).mpr hp) (fun h => hn ((hcond0_1 t).mp h)) h r d).trans ?_
    exact point_result m c t r h d
  · have hn : t.val % 2 = 0 := by omega
    rw [flushed_even m c t hp hn]
    refine (even_block (S := setupAt c t) hZ hK hV (fun h => hp ((hcond0_0 t).mp h)) ((hcond0_1 t).mpr hn) h r d).trans ?_
    exact point_result m c t r h d
end

/-- Every index of the result array is in some point's block. -/
theorem covered (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  have hN : cfg0.N = 64 := (by decide +kernel : grid0.N = 64)
  refine ⟨⟨32 * ((i 0).val / 8192) + 16 * ((i 1).val / 512) + (i 0).val / 512 % 16, by omega⟩, flush0_8 _, ?_⟩
  have h := ((cfg0.win 8).blk (⟨32 * ((i 0).val / 8192) + 16 * ((i 1).val / 512) + (i 0).val / 512 % 16, by omega⟩ : Fin cfg0.N)).view.emb_mem_set
    (ix2 (⟨(i 0).val % 512, by omega⟩ : Fin 512) (⟨(i 1).val % 512, by omega⟩ : Fin 512))
  refine (congrArg (· ∈ _) (funext fun a => Fin.ext ?_)).mp h
  obtain ⟨e0, e1⟩ := index8 (⟨32 * ((i 0).val / 8192) + 16 * ((i 1).val / 512) + (i 0).val / 512 % 16, by omega⟩ : Fin cfg0.N)
  match a with
  | ⟨0, _⟩ => show win0_8.index _ (0 : Fin 2) * 512 + 1 * ((i 0).val % 512) = (i 0).val; rw [e0]; dsimp only; omega
  | ⟨1, _⟩ => show win0_8.index _ (1 : Fin 2) * 512 + 1 * ((i 1).val % 512) = (i 1).val; rw [e1]; dsimp only; omega

/-- The result array after the run. -/
theorem kernel_result (m : (ℓ : Loc nD τ sig) → Buf (Elt Ideal) ℓ) (c : Dev nD)
    (hx : Finite (m ((c : Thread nD τ).loc main_arg0))) :
    (dats m 0 c).arrAt 8 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [← V_main_arg0 m c] at hx
  refine ((dats m 0 c).arrAt_eq_of_cover 8 (resultV m c) (fun t _ => flushed_eq m c t hx) covered).trans ?_
  rw [resultV, V_main_arg0, V_main_arg1, V_main_arg2, V_main_arg3, V_main_arg4, V_main_arg5]

end Cert.Attn

end
-- ==== Proof.RefReads.lean ====
/- What each stage of the reference holds at an index. -/
module

public import proofs.«01_k».proof.Proof.Array
public import proofs.«01_k».proof.Proof.Gen.ReferenceIdeal.Read

@[expose] public section

set_option maxRecDepth 16384
set_option maxHeartbeats 400000

noncomputable section

namespace Cert.Attn

open Idealize.ShloMosaic Idealize.SL.Sem Cert.ReferenceIdeal Cert.ReferenceIdeal.Gen Cert.ReferenceIdeal.Read Cert.Online

variable (x : Vec Ideal S16384x4096 .bf16) (x1 x2 x3 x4 : Vec Ideal S1x64 .f32) (gs : Vec Ideal S1x128 .f32)

/-! ## The scores -/

/-- A query, scaled by `8 · log 2`. -/
theorem q_at (b : Fin 2) (r : Fin 8192) (h : Fin 8) (g : Fin 2) (e : Fin 64) :
    val_main_v7 (F := Ideal) x (ix5 b r h g e)
      = x (ix2 ⟨b.val * 8192 + r.val, by omega⟩ ⟨h.val * 128 + g.val * 64 + e.val, by omega⟩)
        * (Ideal.ofBits .f32 0x41000000#32 * Ideal.log (Ideal.ofBits .f32 0x40000000#32)) := by
  pointwise [val_main_v7, val_main_v6, val_main_v5, val_main_v4, val_main_v3, val_main_v2, val_main_v1, val_main_v0,
    val_main_cst, val_main_cst_0]

/-- A key. -/
theorem k_at (b : Fin 2) (r : Fin 8192) (h : Fin 8) (g : Fin 2) (e : Fin 64) :
    val_main_v9 (F := Ideal) x (ix5 b r h g e)
      = x (ix2 ⟨b.val * 8192 + r.val, by omega⟩ ⟨1024 + (h.val * 128 + g.val * 64 + e.val), by omega⟩) := by
  pointwise [val_main_v9, val_main_v8, val_main_v1, val_main_v0]

/-- A value. -/
theorem v_at (b : Fin 2) (r : Fin 8192) (h : Fin 8) (d : Fin 128) :
    val_main_v11 (F := Ideal) x (ix4 b r h d)
      = x (ix2 ⟨b.val * 8192 + r.val, by omega⟩ ⟨2048 + (h.val * 128 + d.val), by omega⟩) := by
  pointwise [val_main_v11, val_main_v10, val_main_v1, val_main_v0]

/-- A scaled score. -/
theorem s_at (b : Fin 2) (h : Fin 8) (g : Fin 2) (r j : Fin 8192) :
    val_main_v22 (F := Ideal) x (ix5 b h g r j)
      = (∑ e, val_main_v7 (F := Ideal) x (ix5 b r h g e) * val_main_v9 (F := Ideal) x (ix5 b j h g e))
        * Ideal.ofBits .f32 0x3E000000#32 := by
  pointwise [val_main_v22, val_main_v21, val_main_v20, val_main_cst_4]

/-- A masked score. -/
theorem m_at (b : Fin 2) (h : Fin 8) (g : Fin 2) (r j : Fin 8192) :
    val_main_v29 (F := Ideal) x (ix5 b h g r j)
      = Scalar.select (IntOp.cmpi .sle (BitVec.ofNat 32 j.val) (BitVec.ofNat 32 r.val))
          (val_main_v22 (F := Ideal) x (ix5 b h g r j)) (Ideal.ofBits .f32 0xFF800000#32) := by
  pointwise [val_main_v29, val_main_call0_v1, val_main_call0_v2, val_main_call0_v0, val_main_v28, val_main_v27, val_main_v26,
    val_main_v25, val_main_v24, val_main_v23, val_main_cst_5]
  rfl

/-! ## The softmax -/

/-- The largest entry of a row. -/
theorem max_row (y : (⟨S2x8x2x8192x8192, .f32⟩ : BufTy).Contents (Elt Ideal)) (b : Fin 2) (h : Fin 8) (g : Fin 2)
    (r : Fin 8192) :
    Host.reduce FloatOps.maximumf y (constant S_ .f32 0xFF800000#32) reducesTo_S2x8x2x8192x8192_S2x8x2x8192_d4 h_S_ (ix4 b h g r)
      = Finset.univ.fold max (Ideal.ofBits .f32 0xFF800000#32) (fun j => y (ix5 b h g r j)) := by
  pointwise []

/-- The largest masked score of a row. -/
theorem max_at (b : Fin 2) (h : Fin 8) (g : Fin 2) (r : Fin 8192) :
    val_main_v32 (F := Ideal) x (ix4 b h g r)
      = max (Ideal.ofBits .f32 0xFF800000#32)
          (Finset.univ.fold max (Ideal.ofBits .f32 0xFF800000#32) fun j => val_main_v29 (F := Ideal) x (ix5 b h g r j)) := by
  rw [val_main_v32_apply, val_main_v31_apply, ← max_row]
  rfl

/-- A weight. -/
theorem p_at (b : Fin 2) (h : Fin 8) (g : Fin 2) (r j : Fin 8192) :
    val_main_v40 (F := Ideal) x (ix5 b h g r j)
      = Ideal.div (Ideal.exp (val_main_v29 (F := Ideal) x (ix5 b h g r j) - val_main_v32 (F := Ideal) x (ix4 b h g r)))
          (∑ q, Ideal.exp (val_main_v29 (F := Ideal) x (ix5 b h g r q) - val_main_v32 (F := Ideal) x (ix4 b h g r))) := by
  pointwise [val_main_v40, val_main_v39, val_main_v38, val_main_v37, val_main_v36, val_main_v35, val_main_v34, val_main_v33,
    val_main_cst_8]

/-! ## The two components and the values -/

/-- The weight of the second component. -/
theorem lam_at : val_main_v19 (F := Ideal) x1 x2 x3 x4 ix0
    = Ideal.exp (∑ a : Fin 1, ∑ e : Fin 64, x1 (ix2 a e) * x2 (ix2 a e)) - Ideal.exp (∑ a : Fin 1, ∑ e : Fin 64, x3 (ix2 a e) * x4 (ix2 a e))
      + Ideal.ofBits .f32 0x3E4CCCCD#32 := by
  pointwise [val_main_v19, val_main_v18, val_main_v17, val_main_v16, val_main_v15, val_main_v14, val_main_v13, val_main_v12,
    val_main_cst_1, val_main_cst_2, val_main_cst_3]

/-- The first component of the weights. -/
theorem comp0_at (b : Fin 2) (h : Fin 8) (r j : Fin 8192) :
    val_main_v42 (F := Ideal) x (ix4 b h r j) = val_main_v40 (F := Ideal) x (ix5 b h 0 r j) := by
  rw [val_main_v42_apply, val_main_v41_apply]
  refine congrArg _ (funext fun a => Fin.ext ?_)
  match a with
  | ⟨0, _⟩ => show (((b.val * 8 + h.val) * 8192 + r.val) * 8192 + j.val) / 536870912 = b.val; omega
  | ⟨1, _⟩ => show (((b.val * 8 + h.val) * 8192 + r.val) * 8192 + j.val) / 67108864 % 8 = h.val; omega
  | ⟨2, _⟩ => rfl
  | ⟨3, _⟩ => show (((b.val * 8 + h.val) * 8192 + r.val) * 8192 + j.val) / 8192 % 8192 = r.val; omega
  | ⟨4, _⟩ => show (((b.val * 8 + h.val) * 8192 + r.val) * 8192 + j.val) % 8192 = j.val; omega

/-- The second component of the weights. -/
theorem comp1_at (b : Fin 2) (h : Fin 8) (r j : Fin 8192) :
    val_main_v44 (F := Ideal) x (ix4 b h r j) = val_main_v40 (F := Ideal) x (ix5 b h 1 r j) := by
  rw [val_main_v44_apply, val_main_v43_apply]
  refine congrArg _ (funext fun a => Fin.ext ?_)
  match a with
  | ⟨0, _⟩ => show (((b.val * 8 + h.val) * 8192 + r.val) * 8192 + j.val) / 536870912 = b.val; omega
  | ⟨1, _⟩ => show (((b.val * 8 + h.val) * 8192 + r.val) * 8192 + j.val) / 67108864 % 8 = h.val; omega
  | ⟨2, _⟩ => rfl
  | ⟨3, _⟩ => show (((b.val * 8 + h.val) * 8192 + r.val) * 8192 + j.val) / 8192 % 8192 = r.val; omega
  | ⟨4, _⟩ => show (((b.val * 8 + h.val) * 8192 + r.val) * 8192 + j.val) % 8192 = j.val; omega

/-- The difference of the two components of the weights. -/
theorem a_at (b : Fin 2) (h : Fin 8) (r j : Fin 8192) :
    val_main_v47 (F := Ideal) x x1 x2 x3 x4 (ix4 b h r j)
      = val_main_v40 (F := Ideal) x (ix5 b h 0 r j)
        - val_main_v19 (F := Ideal) x1 x2 x3 x4 ix0 * val_main_v40 (F := Ideal) x (ix5 b h 1 r j) := by
  rw [val_main_v47_apply, val_main_v46_apply, val_main_v45_apply, comp0_at, comp1_at,
    show idx_main_v45 (ix4 b h r j) = ix0 from funext fun a => a.elim0]
  rfl

/-- A row's average of the values. -/
theorem o_at (b : Fin 2) (r : Fin 8192) (h : Fin 8) (d : Fin 128) :
    val_main_v49 (F := Ideal) x x1 x2 x3 x4 (ix4 b r h d)
      = ∑ j, val_main_v11 (F := Ideal) x (ix4 b j h d) * val_main_v47 (F := Ideal) x x1 x2 x3 x4 (ix4 b h r j) := by
  pointwise [val_main_v49, val_main_v48]

/-- The result, from the averages of the row's head. -/
theorem out_at (i : S16384x1024.Idx) (T : Fin 128 → EReal)
    (hT : ∀ d, val_main_v49 (F := Ideal) x x1 x2 x3 x4 (ix4 ⟨(i 0).val / 8192, by have h := (i 0).isLt; change _ < 16384 at h; omega⟩
      ⟨(i 0).val % 8192, by omega⟩ ⟨(i 1).val / 128, by have h := (i 1).isLt; change _ < 1024 at h; omega⟩ d) = T d) :
    val_main_v67 (F := Ideal) x x1 x2 x3 x4 gs i = normed T (fun d => gs (ix2 0 d)) ⟨(i 1).val % 128, by omega⟩ := by
  pointwise [val_main_v67, val_main_v66, val_main_v65, val_main_v64, val_main_v63, val_main_v62, val_main_v61, val_main_v60,
    val_main_v59, val_main_v58, val_main_v57, val_main_v56, val_main_v55, val_main_v54, val_main_v53, val_main_v52, val_main_v51,
    val_main_v50, val_main_cst_9, val_main_cst_10, val_main_cst_11, val_main_cst_12]
  simp only [hT]
  rfl

end Cert.Attn

end
-- ==== Proof.RefResult.lean ====
/- What the reference computes: the result of `Array`, when the queries, keys, values and the four
   vectors of the second component's weight are real numbers. -/
module

public import proofs.«01_k».proof.Proof.RefReads

@[expose] public section

set_option maxRecDepth 16384
set_option maxHeartbeats 400000

noncomputable section

namespace Cert.Attn

open Idealize.ShloMosaic Idealize.SL.Sem Cert.ReferenceIdeal Cert.ReferenceIdeal.Gen Cert.ReferenceIdeal.Read Cert.Online

/-! ## The constants -/

/-- The literal eight. -/
theorem eight_bits : Ideal.ofBits .f32 0x41000000#32 = ((8 : ℝ) : EReal) := by
  simp [Ideal.ofBits, Ideal.ieee, -EReal.coe_mul]; norm_num
/-- The literal two. -/
theorem two_bits : Ideal.ofBits .f32 0x40000000#32 = ((2 : ℝ) : EReal) := by
  simp [Ideal.ofBits, Ideal.ieee, -EReal.coe_mul]; norm_num
/-- The literal one eighth. -/
theorem eighth_bits : Ideal.ofBits .f32 0x3E000000#32 = ((1 / 8 : ℝ) : EReal) := by
  simp [Ideal.ofBits, Ideal.ieee, -EReal.coe_mul]; norm_num
/-- The start of lambda is a real number. -/
theorem init_bits : ∃ z : ℝ, Ideal.ofBits .f32 0x3E4CCCCD#32 = (z : EReal) := by
  simp [Ideal.ofBits, Ideal.ieee, -EReal.coe_mul]

/-- The logarithm of two is a real number. -/
theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- A choice on whether key `j` is at or before row `r`. -/
theorem choose_le (j r : Fin 8192) (p q : EReal) :
    Scalar.select (IntOp.cmpi .sle (BitVec.ofNat 32 j.val) (BitVec.ofNat 32 r.val)) p q = if j.val < r.val + 1 then p else q := by
  have e : (BitVec.ofNat 32 j.val).sle (BitVec.ofNat 32 r.val) = decide (j.val < r.val + 1) := by
    rw [BitVec.sle_eq_decide, BitVec.toInt_eq_toNat_of_lt, BitVec.toInt_eq_toNat_of_lt, BitVec.toNat_ofNat, BitVec.toNat_ofNat]
    · congr 1
      rw [Nat.mod_eq_of_lt (by omega), Nat.mod_eq_of_lt (by omega)]
      simp
    · rw [BitVec.toNat_ofNat]; omega
    · rw [BitVec.toNat_ofNat]; omega
  simp only [Scalar.select, IntOp.cmpi, e]
  by_cases h : j.val < r.val + 1 <;> simp [h]

variable {x : Vec Ideal S16384x4096 .bf16} (hx : Finite x)

include hx

/-! ## The weights -/

/-- A scaled score: the score of `Array` times `log 2`. -/
theorem ref_score (b : Fin 2) (h : Fin 8) (g : Fin 2) (r j : Fin 8192) :
    val_main_v22 (F := Ideal) x (ix5 b h g r j)
      = ((Real.log 2 * scoreOf x (b.val * 8192 + r.val) h.val g j.val : ℝ) : EReal) := by
  have e (k : Fin 64) : val_main_v7 (F := Ideal) x (ix5 b r h g k) * val_main_v9 (F := Ideal) x (ix5 b j h g k)
      = ((8 * Real.log 2 * (entry x (b.val * 8192 + r.val) (128 * h.val + (64 * g.val + k.val))
          * entry x (8192 * ((b.val * 8192 + r.val) / 8192) + j.val) (1024 + 128 * h.val + (64 * g.val + k.val))) : ℝ) : EReal) := by
    rw [q_at, k_at, hx.entry _ _ (by show h.val * 128 + g.val * 64 + k.val < 3072; omega),
      hx.entry _ _ (by show 1024 + (h.val * 128 + g.val * 64 + k.val) < 3072; omega), eight_bits, two_bits, log_two,
      ← EReal.coe_mul, ← EReal.coe_mul, ← EReal.coe_mul]
    show ((entry x (b.val * 8192 + r.val) (h.val * 128 + g.val * 64 + k.val) * (8 * Real.log 2)
      * entry x (b.val * 8192 + j.val) (1024 + (h.val * 128 + g.val * 64 + k.val)) : ℝ) : EReal) = _
    rw [show h.val * 128 + g.val * 64 + k.val = 128 * h.val + (64 * g.val + k.val) by omega,
      show b.val * 8192 + j.val = 8192 * ((b.val * 8192 + r.val) / 8192) + j.val by omega,
      show 1024 + (128 * h.val + (64 * g.val + k.val)) = 1024 + 128 * h.val + (64 * g.val + k.val) by omega]
    congr 1; ring
  rw [s_at, sum_real _ _ _ fun k _ => e k, eighth_bits, ← EReal.coe_mul, ← Finset.mul_sum, scoreOf]
  congr 1; ring

/-- A masked score. -/
theorem ref_masked (b : Fin 2) (h : Fin 8) (g : Fin 2) (r j : Fin 8192) :
    val_main_v29 (F := Ideal) x (ix5 b h g r j)
      = score (fun k => Real.log 2 * scoreOf x (b.val * 8192 + r.val) h.val g k) 0 (r.val + 1) j.val := by
  rw [m_at, choose_le, ref_score hx, negInf_bits, score, zero_add]

/-- A weight. -/
theorem ref_weight (b : Fin 2) (h : Fin 8) (g : Fin 2) (r j : Fin 8192) :
    val_main_v40 (F := Ideal) x (ix5 b h g r j)
      = (((if j.val < r.val + 1 then pw (scoreOf x (b.val * 8192 + r.val) h.val g j.val)
            / wsum (scoreOf x (b.val * 8192 + r.val) h.val g) (r.val + 1) else 0 : ℝ)) : EReal) := by
  rw [p_at]
  refine softmax_weight (scoreOf x (b.val * 8192 + r.val) h.val g) (r.val + 1) 8192 (Nat.succ_pos _) r.isLt
    (fun q => val_main_v29 (F := Ideal) x (ix5 b h g r q)) (fun q => ref_masked hx b h g r q) _ ?_ j
  rw [max_at, negInf_bits, fold_sup, max_eq_right bot_le]

/-! ## The averages -/

/-- A value. -/
theorem ref_value (b : Fin 2) (r j : Fin 8192) (h : Fin 8) (d : Fin 128) :
    val_main_v11 (F := Ideal) x (ix4 b j h d) = ((valueOf x (b.val * 8192 + r.val) h.val d j.val : ℝ) : EReal) := by
  rw [v_at, hx.entry _ _ (by show 2048 + (h.val * 128 + d.val) < 3072; omega), valueOf,
    show 2048 + 128 * h.val + d.val = 2048 + (h.val * 128 + d.val) by omega,
    show 8192 * ((b.val * 8192 + r.val) / 8192) + j.val = b.val * 8192 + j.val by omega]

variable {l1 l2 l3 l4 : Vec Ideal S1x64 .f32}

/-- A row's average of the values, under a real weight of the second component. -/
theorem ref_average (lam : ℝ) (hl : val_main_v19 (F := Ideal) l1 l2 l3 l4 ix0 = (lam : EReal)) (b : Fin 2) (r : Fin 8192)
    (h : Fin 8) (d : Fin 128) :
    val_main_v49 (F := Ideal) x l1 l2 l3 l4 (ix4 b r h d)
      = ((wavg (scoreOf x (b.val * 8192 + r.val) h.val 0) (valueOf x (b.val * 8192 + r.val) h.val d) (r.val + 1) : ℝ) : EReal)
        - (lam : EReal)
          * ((wavg (scoreOf x (b.val * 8192 + r.val) h.val 1) (valueOf x (b.val * 8192 + r.val) h.val d) (r.val + 1) : ℝ) : EReal) := by
  rw [o_at, ← EReal.coe_mul, ← EReal.coe_sub, ← diff_avg _ _ _ lam (r.val + 1) 8192 r.isLt]
  refine sum_real _ _ _ fun j _ => ?_
  rw [ref_value hx b r, a_at, ref_weight hx, ref_weight hx, hl, ← EReal.coe_mul, ← EReal.coe_sub, ← EReal.coe_mul, mul_comm]

omit hx in
/-- The weight of the second component, as the kernel computes it. -/
theorem ref_lam : val_main_v19 (F := Ideal) l1 l2 l3 l4 ix0 = lamVec l1 l2 l3 l4 := by
  rw [lam_at, Fin.sum_univ_one, Fin.sum_univ_one]
  rfl

omit hx in
/-- The weight of the second component is a real number when its vectors are. -/
theorem lam_real (h1 : ∀ e, ∃ z : ℝ, l1 (ix2 0 e) = (z : EReal)) (h2 : ∀ e, ∃ z : ℝ, l2 (ix2 0 e) = (z : EReal))
    (h3 : ∀ e, ∃ z : ℝ, l3 (ix2 0 e) = (z : EReal)) (h4 : ∀ e, ∃ z : ℝ, l4 (ix2 0 e) = (z : EReal)) :
    ∃ z : ℝ, lamVec l1 l2 l3 l4 = (z : EReal) := by
  choose f1 h1 using h1
  choose f2 h2 using h2
  choose f3 h3 using h3
  choose f4 h4 using h4
  obtain ⟨z, hz⟩ := init_bits
  refine ⟨Real.exp (∑ e, f1 e * f2 e) - Real.exp (∑ e, f3 e * f4 e) + z, ?_⟩
  rw [EReal.coe_add, EReal.coe_sub, ← hz, ← exp_real, ← exp_real,
    ← sum_real Finset.univ (fun e => l1 (ix2 0 e) * l2 (ix2 0 e)) (fun e => f1 e * f2 e) (fun e _ => by rw [h1, h2, EReal.coe_mul]),
    ← sum_real Finset.univ (fun e => l3 (ix2 0 e) * l4 (ix2 0 e)) (fun e => f3 e * f4 e) (fun e _ => by rw [h3, h4, EReal.coe_mul])]
  rfl

/-- The reference's result is the result of `Array`. -/
theorem reference_result (gs : Vec Ideal S1x128 .f32) (lam : ℝ) (hl : lamVec l1 l2 l3 l4 = (lam : EReal)) :
    val_main_v67 (F := Ideal) x l1 l2 l3 l4 gs = result x l1 l2 l3 l4 gs := by
  funext i
  have h0 : (i 0).val < 16384 := (i 0).isLt
  have h1 : (i 1).val < 1024 := (i 1).isLt
  refine out_at x l1 l2 l3 l4 gs i (fun d => ((wavg (scoreOf x (i 0).val ((i 1).val / 128) 0)
      (valueOf x (i 0).val ((i 1).val / 128) d) ((i 0).val % 8192 + 1) : ℝ) : EReal)
    - lamVec l1 l2 l3 l4 * ((wavg (scoreOf x (i 0).val ((i 1).val / 128) 1)
      (valueOf x (i 0).val ((i 1).val / 128) d) ((i 0).val % 8192 + 1) : ℝ) : EReal)) fun d => ?_
  rw [ref_average hx lam (ref_lam.trans hl), hl]
  show (((wavg (scoreOf x ((i 0).val / 8192 * 8192 + (i 0).val % 8192) ((i 1).val / 128) 0)
      (valueOf x ((i 0).val / 8192 * 8192 + (i 0).val % 8192) ((i 1).val / 128) d) ((i 0).val % 8192 + 1) : ℝ) : EReal)
    - (lam : EReal) * ((wavg (scoreOf x ((i 0).val / 8192 * 8192 + (i 0).val % 8192) ((i 1).val / 128) 1)
      (valueOf x ((i 0).val / 8192 * 8192 + (i 0).val % 8192) ((i 1).val / 128) d) ((i 0).val % 8192 + 1) : ℝ) : EReal)) = _
  rw [show (i 0).val / 8192 * 8192 + (i 0).val % 8192 = (i 0).val by omega]

end Cert.Attn

end
-- ==== Proof.Precondition.lean ====
/- What the precondition says: the queries, keys and values and the four vectors of the second
   component's weight are real numbers. -/
module

public import proofs.«01_k».proof.Proof.Array
public import proofs.«01_k».proof.Proof.Gen.Pre_finite
public import Idealize.ShloMosaic.Lib.ReduceAll
public import Idealize.ShloMosaic.Lib.Pointwise

@[expose] public section

set_option maxRecDepth 16384
set_option maxHeartbeats 400000

noncomputable section

namespace Cert.Attn

open Idealize.ShloMosaic Idealize.SL.Sem Cert.Pre_finite Cert.Pre_finite.Gen

/-- The literal infinity. -/
theorem inf_bits : Ideal.ofBits .f32 0x7F800000#32 = (⊤ : EReal) := by simp [Ideal.ofBits, Ideal.ieee]

/-- A number whose absolute value is below infinity is real. -/
theorem real_of_abs (z : EReal) (h : Ideal.cmp .olt (max z (-z)) (Ideal.ofBits .f32 0x7F800000#32) = 1#1) :
    ∃ t : ℝ, z = (t : EReal) := by
  rw [inf_bits] at h
  have h' : max z (-z) < ⊤ := by
    by_contra hn
    rw [show Ideal.cmp .olt (max z (-z)) ⊤ = BitVec.ofBool (decide (max z (-z) < ⊤)) from rfl, decide_eq_false hn] at h
    exact absurd h (by decide)
  induction z using EReal.rec with
  | bot => exact absurd h' (by simp)
  | coe t => exact ⟨t, rfl⟩
  | top => exact absurd h' (by simp)

instance : Subsingleton S_.Idx := ⟨fun a b => funext fun k => k.elim0⟩

/-- The test of one vector. -/
theorem vector_real (l : FVec Ideal S1x64 .f32)
    (h : Host.reduce IntOp.andi (cmpf .olt (Host.absf l) (broadcastInDim S1x64 ![] bcast_S_S1x64 (constant S_ .f32 0x7F800000#32)))
      (constantI S_ 1 1#1) reducesTo_S1x64_S_d0_1 h_S_ ix0 = 1#1) (e : Fin 64) : ∃ z : ℝ, l (ix2 0 e) = (z : EReal) :=
  real_of_abs _ (Host.reduce_andi_all _ _ _ _ _ h (ix2 0 e))

/-- The test of the queries, keys and values. -/
theorem columns_real (x : FVec Ideal S16384x4096 .bf16)
    (h : Host.reduce IntOp.andi (cmpf .olt (Host.absf (extf .f32
        (extractStridedSlice S16384x3072 ![0, 0] x slices_S16384x4096_S16384x3072_0_0) bitsLt_bf16_f32))
        (broadcastInDim S16384x3072 ![] bcast_S_S16384x3072 (constant S_ .f32 0x7F800000#32)))
      (constantI S_ 1 1#1) reducesTo_S16384x3072_S_d0_1 h_S_ ix0 = 1#1) : Finite x := by
  intro R C hC
  have e := Host.reduce_andi_all _ _ _ _ _ h (ix2 R ⟨C.val, hC⟩)
  have e' : extractStridedSlice S16384x3072 ![0, 0] x slices_S16384x4096_S16384x3072_0_0 (ix2 R ⟨C.val, hC⟩) = x (ix2 R C) := by
    pointwise []
  rw [← e']
  exact real_of_abs _ e

/-- The precondition, read. -/
theorem finite_reads (x : FVec Ideal S16384x4096 .bf16) (l1 l2 l3 l4 : FVec Ideal S1x64 .f32) (gs : FVec Ideal S1x128 .f32)
    (h : Cert.Pre_finite.fn (F := Ideal) x l1 l2 l3 l4 gs = fun _ => 1#1) :
    Finite x ∧ (∀ e, ∃ z : ℝ, l1 (ix2 0 e) = (z : EReal)) ∧ (∀ e, ∃ z : ℝ, l2 (ix2 0 e) = (z : EReal))
      ∧ (∀ e, ∃ z : ℝ, l3 (ix2 0 e) = (z : EReal)) ∧ (∀ e, ∃ z : ℝ, l4 (ix2 0 e) = (z : EReal)) := by
  obtain ⟨h, h4⟩ := IntOp.andi_eq_one.1 (congrFun h ix0)
  obtain ⟨h, h3⟩ := IntOp.andi_eq_one.1 h
  obtain ⟨h, h2⟩ := IntOp.andi_eq_one.1 h
  obtain ⟨h0, h1⟩ := IntOp.andi_eq_one.1 h
  exact ⟨columns_real x h0, vector_real l1 h1, vector_real l2 h2, vector_real l3 h3, vector_real l4 h4⟩

end Cert.Attn

end
-- ==== Proof.ProjPoint.lean ====
/- What one grid point of the projection computes: the normalised rows and their products with the blocks of weights. -/
module

public import proofs.«01_k».proof.Proof.Gen.Kernel2Ideal
public import proofs.«01_k».proof.Proof.Gen.Kernel2Ideal.Skeleton
public import Idealize.ShloMosaic.Lib.Pointwise

@[expose] public section

set_option maxRecDepth 16384
set_option maxHeartbeats 400000

noncomputable section

namespace Cert.Proj

open Idealize.ShloMosaic Idealize.SL.Sem Cert.Kernel2Ideal Cert.Kernel2Ideal.Gen

/-- A row divided by its root mean square, times the gain. -/
def normed (x g : Fin 1024 → EReal) (e : Fin 1024) : EReal :=
  x e * Ideal.rsqrt (Ideal.div (∑ k, x k * x k) (Ideal.ofBits .f32 0x44800000#32) + Ideal.ofBits .f32 0x358637BD#32) * g e

/-- The normalised rows of a block. -/
theorem norm_at (x : Vec Ideal S256x1024 .f32) (g : Vec Ideal S1x1024 .f32) (r : Fin 256) (e : Fin 1024) :
    k0_pay1 x g (ix2 r e) = normed (fun k => x (ix2 r k)) (fun k => g (ix2 0 k)) e := by
  pointwise [k0_pay1, normed]

/-- The product of the rows with a block of weights. -/
theorem dot_at (h : Vec Ideal S256x1024 .bf16) (w : Vec Ideal S1x1024x1024 .bf16) (r : Fin 256) (C : Fin 1024) :
    k0_pay2 h w (ix2 r C) = ∑ e, h (ix2 r e) * w (ix3 0 e C) := by
  pointwise [k0_pay2]

/-- The product of the transposed weights with the rows. -/
theorem dot_turned_at (w : Vec Ideal S1024x1024 .bf16) (h : Vec Ideal S256x1024 .bf16) (d : Fin 1024) (r : Fin 256) :
    k0_pay12 w h (ix3 0 d r) = ∑ e, w (ix2 d e) * h (ix2 r e) := by
  pointwise [k0_pay12]

/-! The products are one function of the rows and the block of weights. -/

/-- This function of a block is the product of the rows with a block of weights. -/
theorem pay3_eq (h : Vec Ideal S256x1024 .bf16) (w : Vec Ideal S1x1024x1024 .bf16) : k0_pay3 h w = k0_pay2 h w := rfl
/-- This function of a block is the product of the rows with a block of weights. -/
theorem pay4_eq (h : Vec Ideal S256x1024 .bf16) (w : Vec Ideal S1x1024x1024 .bf16) : k0_pay4 h w = k0_pay2 h w := rfl
/-- This function of a block is the product of the rows with a block of weights. -/
theorem pay5_eq (h : Vec Ideal S256x1024 .bf16) (w : Vec Ideal S1x1024x1024 .bf16) : k0_pay5 h w = k0_pay2 h w := rfl
/-- This function of a block is the product of the rows with a block of weights. -/
theorem pay6_eq (h : Vec Ideal S256x1024 .bf16) (w : Vec Ideal S1x1024x1024 .bf16) : k0_pay6 h w = k0_pay2 h w := rfl
/-- This function of a block is the product of the rows with a block of weights. -/
theorem pay7_eq (h : Vec Ideal S256x1024 .bf16) (w : Vec Ideal S1x1024x1024 .bf16) : k0_pay7 h w = k0_pay2 h w := rfl
/-- This function of a block is the product of the rows with a block of weights. -/
theorem pay8_eq (h : Vec Ideal S256x1024 .bf16) (w : Vec Ideal S1x1024x1024 .bf16) : k0_pay8 h w = k0_pay2 h w := rfl
/-- This function of a block is the product of the rows with a block of weights. -/
theorem pay9_eq (h : Vec Ideal S256x1024 .bf16) (w : Vec Ideal S1x1024x1024 .bf16) : k0_pay9 h w = k0_pay2 h w := rfl
/-- This function of a block is the product of the rows with a block of weights. -/
theorem pay10_eq (h : Vec Ideal S256x1024 .bf16) (w : Vec Ideal S1x1024x1024 .bf16) : k0_pay10 h w = k0_pay2 h w := rfl
/-- This function of a block is the product of the rows with a block of weights. -/
theorem pay11_eq (h : Vec Ideal S256x1024 .bf16) (w : Vec Ideal S1x1024x1024 .bf16) : k0_pay11 h w = k0_pay2 h w := rfl

end Cert.Proj

end
-- ==== Proof.ProjBlock.lean ====
/- What one grid point of the projection leaves in its four result blocks. -/
module

public import proofs.«01_k».proof.Proof.Load
public import proofs.«01_k».proof.Proof.ProjPoint
public import proofs.«01_k».proof.Proof.Gen.Kernel2Ideal.Frame

@[expose] public section

set_option maxRecDepth 16384
set_option maxHeartbeats 400000

noncomputable section

namespace Cert.Proj

open Idealize.ShloMosaic Idealize.SL.Sem Cert.Kernel2Ideal Cert.Kernel2Ideal.Gen

/-- A grid point and the memories its kernel is called on: the rows, the gain, the stacked weights, the transposed key
    weights, the four result blocks, and the scratch of the normalised rows. -/
structure Point where
  c : Dev nD
  i : grid0.Coords
  arg1 : Memref sig .tc .vmem S256x1024 .f32
  harg1 : arg1.IsWhole
  arg2 : Memref sig .tc .vmem S1x1024 .f32
  harg2 : arg2.IsWhole
  arg3 : Memref sig .tc .vmem S9x1024x1024 .bf16
  harg3 : arg3.IsWhole
  arg4 : Memref sig .tc .vmem S1024x1024 .bf16
  harg4 : arg4.IsWhole
  arg5 : Memref sig .tc .vmem S256x5120 .f32
  harg5 : arg5.IsWhole
  arg6 : Memref sig .tc .vmem S256x4096 .bf16
  harg6 : arg6.IsWhole
  arg7 : Memref sig .tc .vmem S1x1024x256 .f32
  harg7 : arg7.IsWhole
  arg8 : Memref sig .tc .vmem S256x1024 .f32
  harg8 : arg8.IsWhole
  arg9 : Memref sig .tc .vmem S256x1024 .bf16
  harg9 : arg9.IsWhole

variable (S : Point) (x0 : Vec Ideal S256x1024 .f32) (x1 : Vec Ideal S1x1024 .f32) (x2 : Vec Ideal S9x1024x1024 .bf16)
  (x3 : Vec Ideal S1024x1024 .bf16)

/-! ## What a point loads -/

/-- The rows as loaded. -/
abbrev rowsIn : Vec Ideal S256x1024 .f32 :=
  S.arg1.view.readAt (Elt Ideal) (Rect.unit (s := S256x1024) ![0, 0] S256x1024.size inb_S256x1024_S256x1024_0_0).toLoadRect (S.harg1.unread x0)
/-- The gain as loaded. -/
abbrev gainIn : Vec Ideal S1x1024 .f32 :=
  S.arg2.view.readAt (Elt Ideal) (Rect.unit (s := S1x1024) ![0, 0] S1x1024.size inb_S1x1024_S1x1024_0_0).toLoadRect (S.harg2.unread x1)
/-- The normalised rows. -/
abbrev rowsN : Vec Ideal S256x1024 .bf16 := k0_pay1 (rowsIn S x0) (gainIn S x1)
/-- A block of the stacked weights. -/
def stackBox (k : Fin 9) : Rect S9x1024x1024 := Rect.unit ![k.val, 0, 0] S1x1024x1024.size (by revert k; decide)
/-- Block `k` of the stacked weights, as a point loads it. -/
abbrev stackIn (k : Fin 9) : Vec Ideal S1x1024x1024 .bf16 :=
  S.arg3.view.readAt (Elt Ideal) (stackBox k).toLoadRect (S.harg3.unread x2)
/-- The transposed key weights as loaded. -/
abbrev turnedIn : Vec Ideal S1024x1024 .bf16 :=
  S.arg4.view.readAt (Elt Ideal) (Rect.unit (s := S1024x1024) ![0, 0] S1024x1024.size inb_S1024x1024_S1024x1024_0_0).toLoadRect (S.harg4.unread x3)

/-- The loaded rows at an index. -/
theorem rowsIn_at (r : Fin 256) (e : Fin 1024) : rowsIn S x0 (ix2 r e) = x0 (ix2 r e) := by
  refine (congrArg (S.arg1.view.read (Elt Ideal) (S.harg1.unread x0)) (a₂ := ix2 r e) (funext fun a => ?_)).trans
    (congrFun (S.harg1.read_unread x0) _)
  match a with
  | ⟨0, _⟩ => exact Fin.ext (show 0 + 1 * r.val = r.val by omega)
  | ⟨1, _⟩ => exact Fin.ext (show 0 + 1 * e.val = e.val by omega)

/-- The loaded gain at an index. -/
theorem gainIn_at (e : Fin 1024) : gainIn S x1 (ix2 0 e) = x1 (ix2 0 e) := by
  refine (congrArg (S.arg2.view.read (Elt Ideal) (S.harg2.unread x1)) (a₂ := ix2 0 e) (funext fun a => ?_)).trans
    (congrFun (S.harg2.read_unread x1) _)
  match a with
  | ⟨0, _⟩ => rfl
  | ⟨1, _⟩ => exact Fin.ext (show 0 + 1 * e.val = e.val by omega)

/-- A loaded block of the stacked weights at an index. -/
theorem stackIn_at (k : Fin 9) (e C : Fin 1024) : stackIn S x2 k (ix3 0 e C) = x2 (ix3 k e C) := by
  refine (congrArg (S.arg3.view.read (Elt Ideal) (S.harg3.unread x2)) (a₂ := ix3 k e C) (funext fun a => ?_)).trans
    (congrFun (S.harg3.read_unread x2) _)
  match a with
  | ⟨0, _⟩ => exact Fin.ext (show k.val + 1 * 0 = k.val by omega)
  | ⟨1, _⟩ => exact Fin.ext (show 0 + 1 * e.val = e.val by omega)
  | ⟨2, _⟩ => exact Fin.ext (show 0 + 1 * C.val = C.val by omega)

/-- The loaded transposed key weights at an index. -/
theorem turnedIn_at (d e : Fin 1024) : turnedIn S x3 (ix2 d e) = x3 (ix2 d e) := by
  refine (congrArg (S.arg4.view.read (Elt Ideal) (S.harg4.unread x3)) (a₂ := ix2 d e) (funext fun a => ?_)).trans
    (congrFun (S.harg4.read_unread x3) _)
  match a with
  | ⟨0, _⟩ => exact Fin.ext (show 0 + 1 * d.val = d.val by omega)
  | ⟨1, _⟩ => exact Fin.ext (show 0 + 1 * e.val = e.val by omega)

/-- The normalised rows at an index. -/
theorem rowsN_at (r : Fin 256) (e : Fin 1024) :
    rowsN S x0 x1 (ix2 r e) = normed (fun k => x0 (ix2 r k)) (fun k => x1 (ix2 0 k)) e := by
  refine (norm_at _ _ r e).trans ?_
  simp only [rowsIn_at, gainIn_at]

/-- The product with a block of the stacked weights, at an index. -/
theorem prod_at (k : Fin 9) (r : Fin 256) (C : Fin 1024) :
    k0_pay2 (rowsN S x0 x1) (stackIn S x2 k) (ix2 r C)
      = ∑ e, normed (fun k => x0 (ix2 r k)) (fun k => x1 (ix2 0 k)) e * x2 (ix3 k e C) := by
  refine (dot_at _ _ r C).trans ?_
  exact Finset.sum_congr rfl fun e _ => by rw [rowsN_at, stackIn_at]

/-! ## What a point stores -/

/-- The columns of one product in the block of the parts that stay in single precision, and in the attention's block. -/
def freeBox (k : Fin 5) : Rect S256x5120 := Rect.unit ![0, 1024 * k.val] S256x1024.size (by revert k; decide)
/-- Where block `k` of the attention's columns is stored. -/
def attnBox (k : Fin 4) : Rect S256x4096 := Rect.unit ![0, 1024 * k.val] S256x1024.size (by revert k; decide)

/-- The four result blocks of a point. -/
def freeOut : Vec Ideal S256x5120 .f32 := out0_A_4 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the attention's columns a point leaves. -/
def attnOut : Vec Ideal S256x4096 .bf16 := out0_A_5 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the keys a point leaves. -/
def keysOut : Vec Ideal S1x1024x256 .f32 := out0_A_6 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the values a point leaves. -/
def valuesOut : Vec Ideal S256x1024 .f32 := out0_A_7 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3

/-- What holds of five numbers holds of all numbers below five. -/
theorem forall5 {p : Fin 5 → Prop} (h0 : p 0) (h1 : p 1) (h2 : p 2) (h3 : p 3) (h4 : p 4) : ∀ k, p k := by
  intro k; fin_cases k <;> assumption
/-- What holds of four numbers holds of all numbers below four. -/
theorem forall4 {p : Fin 4 → Prop} (h0 : p 0) (h1 : p 1) (h2 : p 2) (h3 : p 3) : ∀ k, p k := by
  intro k; fin_cases k <;> assumption

/-- The normalised rows as a point loads them again from the scratch. -/
theorem scratch_eq : kernelRun0_A.sl.v18 S.c S.arg1 S.harg1 S.arg2 S.harg2 S.arg9 x0 x1 = rowsN S x0 x1 := by
  unfold kernelRun0_A.sl.v18 kernelRun0_A.sl.HS0_1
  unfold View.readCov
  exact load_hit _ _ _ _ _

attribute [local irreducible] k0_pay1 k0_pay2 k0_pay12

/-- What a point has stored of the recurrence's inputs and the gates is the product of its rows with their weights. -/
theorem free_piece (k : Fin 5) :
    VO0_4.readAt (Elt Ideal) (freeBox k).toLoadRect (VO0_4.writes (Elt Ideal) VO0_4.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).1)
      = k0_pay2 (rowsN S x0 x1) (stackIn S x2 ⟨k.val, by omega⟩) := by
  unfold kernelRun0_A
  dsimp only
  revert k
  refine forall5 ?_ ?_ ?_ ?_ ?_ <;> beta_reduce <;>
  · repeat (refine (load_skip _ _ _ _ _ _ (by decide)).trans ?_)
    refine (load_hit _ _ _ _ _).trans ?_
    simp only [pay3_eq, pay4_eq, pay5_eq, pay6_eq, pay7_eq, pay8_eq, pay9_eq, pay10_eq, pay11_eq, scratch_eq]
    rfl

/-- What a point has stored of the attention's columns is the product of its rows with their weights. -/
theorem attn_piece (k : Fin 4) :
    VO0_5.readAt (Elt Ideal) (attnBox k).toLoadRect (VO0_5.writes (Elt Ideal) VO0_5.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.1)
      = k0_pay2 (rowsN S x0 x1) (stackIn S x2 ⟨5 + k.val, by omega⟩) := by
  unfold kernelRun0_A
  dsimp only
  revert k
  refine forall4 ?_ ?_ ?_ ?_ <;> beta_reduce <;>
  · repeat (refine (load_skip _ _ _ _ _ _ (by decide)).trans ?_)
    refine (load_hit _ _ _ _ _).trans ?_
    simp only [pay3_eq, pay4_eq, pay5_eq, pay6_eq, pay7_eq, pay8_eq, pay9_eq, pay10_eq, pay11_eq, scratch_eq]
    rfl

/-- What a point has stored of the keys is the product of its rows with their weights. -/
theorem keys_piece :
    VO0_6.readAt (Elt Ideal) (Rect.unit (s := S1x1024x256) ![0, 0, 0] S1x1024x256.size inb_S1x1024x256_S1x1024x256_0_0_0).toLoadRect
        (VO0_6.writes (Elt Ideal) VO0_6.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.2.1)
      = k0_pay12 (turnedIn S x3) (rowsN S x0 x1) := by
  unfold kernelRun0_A
  dsimp only
  refine (load_hit _ _ _ _ _).trans ?_
  unfold kernelRun0_A.sl.r
  simp only [scratch_eq]

/-- What a point has stored of the values is the product of its rows with their weights. -/
theorem values_piece :
    VO0_7.readAt (Elt Ideal) (Rect.unit (s := S256x1024) ![0, 0] S256x1024.size inb_S256x1024_S256x1024_0_0).toLoadRect
        (VO0_7.writes (Elt Ideal) VO0_7.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.2.2.1)
      = k0_pay2 (rowsN S x0 x1) (stackIn S x2 7) := by
  unfold kernelRun0_A
  dsimp only
  refine (load_hit _ _ _ _ _).trans ?_
  simp only [pay9_eq, scratch_eq]
  rfl

/-! ## The result blocks at an index -/

attribute [local irreducible] kernelRun0_A

/-- Reading a stored piece of the recurrence's inputs and the gates gives back what the block holds there. -/
theorem free_read (f : VO0_4.ty.Contents (Elt Ideal)) (k : Fin 5) (r : Fin 256) (C : Fin 1024) :
    VO0_4.read (Elt Ideal) f (ix2 r ⟨1024 * k.val + C.val, by omega⟩) = VO0_4.readAt (Elt Ideal) (freeBox k).toLoadRect f (ix2 r C) := by
  refine congrArg (VO0_4.read (Elt Ideal) f) (a₂ := (freeBox k).toLoadRect.idx (ix2 r C)) (funext fun a => ?_)
  match a with
  | ⟨0, _⟩ => exact Fin.ext (show r.val = 0 + 1 * r.val by omega)
  | ⟨1, _⟩ => exact Fin.ext (show 1024 * k.val + C.val = 1024 * k.val + 1 * C.val by omega)

/-- Reading a stored piece of the attention's columns gives back what the block holds there. -/
theorem attn_read (f : VO0_5.ty.Contents (Elt Ideal)) (k : Fin 4) (r : Fin 256) (C : Fin 1024) :
    VO0_5.read (Elt Ideal) f (ix2 r ⟨1024 * k.val + C.val, by omega⟩) = VO0_5.readAt (Elt Ideal) (attnBox k).toLoadRect f (ix2 r C) := by
  refine congrArg (VO0_5.read (Elt Ideal) f) (a₂ := (attnBox k).toLoadRect.idx (ix2 r C)) (funext fun a => ?_)
  match a with
  | ⟨0, _⟩ => exact Fin.ext (show r.val = 0 + 1 * r.val by omega)
  | ⟨1, _⟩ => exact Fin.ext (show 1024 * k.val + C.val = 1024 * k.val + 1 * C.val by omega)

/-- Reading a stored piece of the keys gives back what the block holds there. -/
theorem keys_read (f : VO0_6.ty.Contents (Elt Ideal)) (d : Fin 1024) (r : Fin 256) :
    VO0_6.read (Elt Ideal) f (ix3 0 d r) = VO0_6.readAt (Elt Ideal) (Rect.unit (s := S1x1024x256) ![0, 0, 0] S1x1024x256.size
      inb_S1x1024x256_S1x1024x256_0_0_0).toLoadRect f (ix3 0 d r) := by
  refine congrArg (VO0_6.read (Elt Ideal) f) (a₂ := (Rect.unit (s := S1x1024x256) ![0, 0, 0] S1x1024x256.size
    inb_S1x1024x256_S1x1024x256_0_0_0).toLoadRect.idx (ix3 0 d r)) (funext fun a => ?_)
  match a with
  | ⟨0, _⟩ => rfl
  | ⟨1, _⟩ => exact Fin.ext (show d.val = 0 + 1 * d.val by omega)
  | ⟨2, _⟩ => exact Fin.ext (show r.val = 0 + 1 * r.val by omega)

/-- Reading a stored piece of the values gives back what the block holds there. -/
theorem values_read (f : VO0_7.ty.Contents (Elt Ideal)) (r : Fin 256) (C : Fin 1024) :
    VO0_7.read (Elt Ideal) f (ix2 r C) = VO0_7.readAt (Elt Ideal) (Rect.unit (s := S256x1024) ![0, 0] S256x1024.size
      inb_S256x1024_S256x1024_0_0).toLoadRect f (ix2 r C) := by
  refine congrArg (VO0_7.read (Elt Ideal) f) (a₂ := (Rect.unit (s := S256x1024) ![0, 0] S256x1024.size
    inb_S256x1024_S256x1024_0_0).toLoadRect.idx (ix2 r C)) (funext fun a => ?_)
  match a with
  | ⟨0, _⟩ => exact Fin.ext (show r.val = 0 + 1 * r.val by omega)
  | ⟨1, _⟩ => exact Fin.ext (show C.val = 0 + 1 * C.val by omega)

/-- The block of the recurrence's inputs and the gates at an index. -/
theorem free_at (k : Fin 5) (r : Fin 256) (C : Fin 1024) :
    freeOut S x0 x1 x2 x3 (ix2 r ⟨1024 * k.val + C.val, by omega⟩)
      = ∑ e, normed (fun k => x0 (ix2 r k)) (fun k => x1 (ix2 0 k)) e * x2 (ix3 ⟨k.val, by omega⟩ e C) := by
  unfold freeOut out0_A_4
  exact (free_read _ k r C).trans ((congrFun (free_piece S x0 x1 x2 x3 k) (ix2 r C)).trans (prod_at S x0 x1 x2 ⟨k.val, by omega⟩ r C))

/-- The block of the attention's columns at an index. -/
theorem attn_at (k : Fin 4) (r : Fin 256) (C : Fin 1024) :
    attnOut S x0 x1 x2 x3 (ix2 r ⟨1024 * k.val + C.val, by omega⟩)
      = ∑ e, normed (fun k => x0 (ix2 r k)) (fun k => x1 (ix2 0 k)) e * x2 (ix3 ⟨5 + k.val, by omega⟩ e C) := by
  unfold attnOut out0_A_5
  exact (attn_read _ k r C).trans ((congrFun (attn_piece S x0 x1 x2 x3 k) (ix2 r C)).trans (prod_at S x0 x1 x2 ⟨5 + k.val, by omega⟩ r C))

/-- The block of the keys at an index. -/
theorem keys_at (d : Fin 1024) (r : Fin 256) :
    keysOut S x0 x1 x2 x3 (ix3 0 d r)
      = ∑ e, normed (fun k => x0 (ix2 r k)) (fun k => x1 (ix2 0 k)) e * x3 (ix2 d e) := by
  have h : k0_pay12 (turnedIn S x3) (rowsN S x0 x1) (ix3 0 d r)
      = ∑ e, normed (fun k => x0 (ix2 r k)) (fun k => x1 (ix2 0 k)) e * x3 (ix2 d e) := by
    refine (dot_turned_at _ _ d r).trans (Finset.sum_congr rfl fun e _ => ?_)
    rw [rowsN_at, turnedIn_at, mul_comm]
  unfold keysOut out0_A_6
  exact (keys_read _ d r).trans ((congrFun (keys_piece S x0 x1 x2 x3) (ix3 0 d r)).trans h)

/-- The block of the values at an index. -/
theorem values_at (r : Fin 256) (C : Fin 1024) :
    valuesOut S x0 x1 x2 x3 (ix2 r C)
      = ∑ e, normed (fun k => x0 (ix2 r k)) (fun k => x1 (ix2 0 k)) e * x2 (ix3 7 e C) := by
  unfold valuesOut out0_A_7
  exact (values_read _ r C).trans ((congrFun (values_piece S x0 x1 x2 x3) (ix2 r C)).trans (prod_at S x0 x1 x2 7 r C))

end Cert.Proj

end
-- ==== Proof.ProjRef.lean ====
/- What the reference of the projection holds at an index. -/
module

public import proofs.«01_k».proof.Proof.ProjPoint
public import proofs.«01_k».proof.Proof.Gen.Reference2Ideal
public import proofs.«01_k».proof.Proof.Gen.Reference2Ideal.Read

@[expose] public section

set_option maxRecDepth 16384
set_option maxHeartbeats 400000

noncomputable section

namespace Cert.Proj

open Idealize.ShloMosaic Idealize.SL.Sem Cert.Reference2Ideal Cert.Reference2Ideal.Gen Cert.Reference2Ideal.Read

variable (x : Vec Ideal S16384x1024 .f32) (g : Vec Ideal S1x1024 .f32) (w : Vec Ideal S1024x9216 .f32)

/-- One entry of the projection: a normalised row times a column of the weights. -/
def projected (R : Fin 16384) (C : Fin 9216) : EReal :=
  ∑ e, normed (fun k => x (ix2 R k)) (fun k => g (ix2 0 k)) e * w (ix2 e C)

/-- The normalised rows. -/
theorem ref_norm_at (R : Fin 16384) (e : Fin 1024) :
    val_main_v11 (F := Ideal) x g (ix2 R e) = normed (fun k => x (ix2 R k)) (fun k => g (ix2 0 k)) e := by
  pointwise [normed, val_main_v11, val_main_v10, val_main_v9, val_main_v8, val_main_v7, val_main_v6, val_main_v5, val_main_v4,
    val_main_v3, val_main_v2, val_main_v1, val_main_v0, val_main_cst, val_main_cst_0, val_main_cst_1]

/-- The projection. -/
theorem ref_proj_at (R : Fin 16384) (C : Fin 9216) : val_main_v12 (F := Ideal) x g w (ix2 R C) = projected x g w R C := by
  have h : val_main_v12 (F := Ideal) x g w (ix2 R C) = ∑ e, val_main_v11 (F := Ideal) x g (ix2 R e) * w (ix2 e C) := by
    pointwise [val_main_v12]
  rw [h, projected]
  exact Finset.sum_congr rfl fun e _ => by rw [ref_norm_at]

/-- The part that stays in single precision: the columns outside the attention's. -/
theorem ref_free_at (R : Fin 16384) (C : Fin 5120) :
    val_main_v15 (F := Ideal) x g w (ix2 R C)
      = projected x g w R ⟨if C.val < 2048 then C.val else 6144 + (C.val - 2048), by split <;> omega⟩ := by
  by_cases hC : C.val < 2048
  · have e : (⟨if C.val < 2048 then C.val else 6144 + (C.val - 2048), by split <;> omega⟩ : Fin 9216) = ⟨C.val, by omega⟩ := Fin.ext (if_pos hC)
    rw [e, ← ref_proj_at]
    pointwise [val_main_v15, val_main_v14, val_main_v13]
    rw [dif_pos hC]
  · have e : (⟨if C.val < 2048 then C.val else 6144 + (C.val - 2048), by split <;> omega⟩ : Fin 9216) = ⟨6144 + (C.val - 2048), by omega⟩ :=
      Fin.ext (if_neg hC)
    rw [e, ← ref_proj_at]
    pointwise [val_main_v15, val_main_v14, val_main_v13]
    rw [dif_neg hC]

/-- The attention's columns. -/
theorem ref_attn_at (R : Fin 16384) (C : Fin 4096) :
    val_main_v17 (F := Ideal) x g w (ix2 R C) = projected x g w R ⟨2048 + C.val, by omega⟩ := by
  rw [← ref_proj_at]
  pointwise [val_main_v17, val_main_v16]

/-- The keys, a column for each position. -/
theorem ref_keys_at (b : Fin 2) (d : Fin 1024) (r : Fin 8192) :
    val_main_v20 (F := Ideal) x g w (ix3 b d r)
      = projected x g w ⟨b.val * 8192 + r.val, by omega⟩ ⟨3072 + d.val, by omega⟩ := by
  rw [← ref_proj_at]
  pointwise [val_main_v20, val_main_v19, val_main_v18]

/-- The values. -/
theorem ref_values_at (R : Fin 16384) (d : Fin 1024) :
    val_main_v21 (F := Ideal) x g w (ix2 R d) = projected x g w R ⟨4096 + d.val, by omega⟩ := by
  rw [← ref_proj_at]
  pointwise [val_main_v21]

end Cert.Proj

end
-- ==== Proof.ProjStack.lean ====
/- The weights as the kernel of the projection is given them: nine blocks of columns stacked, and the key block turned. -/
module

public import proofs.«01_k».proof.Proof.ProjRef
public import proofs.«01_k».proof.Proof.Gen.Kernel2Ideal.Frame

@[expose] public section

set_option maxRecDepth 16384
set_option maxHeartbeats 400000

noncomputable section

namespace Cert.Proj

open Idealize.ShloMosaic Idealize.ShloMosaic.TcCoe Idealize.SL.Sem Cert.Kernel2Ideal Cert.Kernel2Ideal.Gen

/-- The block of columns that is stacked at a place. -/
def stacked : Fin 9 → Fin 9 := ![0, 1, 6, 7, 8, 2, 3, 4, 5]

variable (w : Vec Ideal S1024x9216 .f32)

/-- The transposed key weights. -/
def turnedW : Vec Ideal S1024x1024 .bf16 :=
  truncf (F := Ideal) .bf16 (transpose S1024x1024 [1, 0]
    (extractStridedSlice S1024x1024 ![0, 3072] w slices_S1024x9216_S1024x1024_0_3072) transposes_S1024x1024_S1024x1024_1_0) bitsLt_bf16_f32

/-- The transposed key weights at an index. -/
theorem turnedW_at (d e : Fin 1024) : turnedW w (ix2 d e) = w (ix2 e ⟨3072 + d.val, by omega⟩) := by
  pointwise [turnedW]

/-- One block of columns. -/
def slab (off : Fin 2 → ℕ) (h : S1024x9216.Slices off S1024x1024) : Vec Ideal S1x1024x1024 .f32 :=
  broadcastInDim S1x1024x1024 ![1, 2] bcast_S1024x1024_S1x1024x1024_1_2 (extractStridedSlice S1024x1024 off w h)

/-- The stacked weights. -/
def stackW : Vec Ideal S9x1024x1024 .bf16 :=
  truncf (F := Ideal) .bf16 (concatenate S9x1024x1024 0
    [⟨S1x1024x1024, slab w ![0, 0] slices_S1024x9216_S1024x1024_0_0⟩,
     ⟨S1x1024x1024, slab w ![0, 1024] slices_S1024x9216_S1024x1024_0_1024⟩,
     ⟨S1x1024x1024, slab w ![0, 6144] slices_S1024x9216_S1024x1024_0_6144⟩,
     ⟨S1x1024x1024, slab w ![0, 7168] slices_S1024x9216_S1024x1024_0_7168⟩,
     ⟨S1x1024x1024, slab w ![0, 8192] slices_S1024x9216_S1024x1024_0_8192⟩,
     ⟨S1x1024x1024, slab w ![0, 2048] slices_S1024x9216_S1024x1024_0_2048⟩,
     ⟨S1x1024x1024, slab w ![0, 3072] slices_S1024x9216_S1024x1024_0_3072⟩,
     ⟨S1x1024x1024, slab w ![0, 4096] slices_S1024x9216_S1024x1024_0_4096⟩,
     ⟨S1x1024x1024, slab w ![0, 5120] slices_S1024x9216_S1024x1024_0_5120⟩]
    concatenates_S1x1024x1024_S1x1024x1024_S1x1024x1024_S1x1024x1024_S1x1024x1024_S1x1024x1024_S1x1024x1024_S1x1024x1024_S1x1024x1024_S9x1024x1024_d0)
    bitsLt_bf16_f32

/-- The stacked weights at an index. -/
theorem stackW_at (k : Fin 9) (e C : Fin 1024) :
    stackW w (ix3 k e C) = w (ix2 e ⟨1024 * (stacked k).val + C.val, by have := (stacked k).isLt; omega⟩) := by
  fin_cases k <;> pointwise [stackW, slab, stacked]

variable (m : (ℓ : Loc nD τ sig) → Buf (Elt Ideal) ℓ) (c : Dev nD)

/-- The kernel is given the transposed key weights and the stacked weights. -/
theorem V_turned : V m c main_v22 = turnedW (m ((c : Thread nD τ).loc main_arg2)) := by
  unfold turnedW
  after_results <;> rfl

/-- The kernel is given the stacked weights. -/
theorem V_stack : V m c main_v19 = stackW (m ((c : Thread nD τ).loc main_arg2)) := by
  unfold stackW slab
  after_results <;> rfl

end Cert.Proj

end
-- ==== Proof.ProjArray.lean ====
/- What the result arrays of the projection hold after the run. -/
module

public import proofs.«01_k».proof.Proof.ProjBlock
public import proofs.«01_k».proof.Proof.ProjStack
public import proofs.«01_k».proof.Proof.Gen.Kernel2Ideal.Value

@[expose] public section

set_option maxRecDepth 16384
set_option maxHeartbeats 400000

noncomputable section

namespace Cert.Proj

open Idealize.ShloMosaic Idealize.ShloMosaic.TcCoe Idealize.SL.Sem Cert.Kernel2Ideal Cert.Kernel2Ideal.Gen Cert.Kernel2Ideal.Value

attribute [local irreducible] projected normed

/-! ## The result arrays -/

section
variable (x : Vec Ideal S16384x1024 .f32) (g : Vec Ideal S1x1024 .f32) (w : Vec Ideal S1024x9216 .f32)

/-- The columns outside the attention's. -/
def freeArr : Vec Ideal S16384x5120 .f32 := fun i =>
  projected x g w (i 0) ⟨if (i 1).val < 2048 then (i 1).val else 6144 + ((i 1).val - 2048), by
    have h : (i 1).val < 5120 := (i 1).isLt
    split <;> omega⟩
/-- The attention's columns. -/
def attnArr : Vec Ideal S16384x4096 .bf16 := fun i =>
  projected x g w (i 0) ⟨2048 + (i 1).val, by have h : (i 1).val < 4096 := (i 1).isLt; omega⟩
/-- The keys, a column for each position. -/
def keysArr : Vec Ideal S2x1024x8192 .f32 := fun i =>
  projected x g w ⟨(i 0).val * 8192 + (i 2).val, by
      have h0 : (i 0).val < 2 := (i 0).isLt
      have h2 : (i 2).val < 8192 := (i 2).isLt
      omega⟩ ⟨3072 + (i 1).val, by have h : (i 1).val < 1024 := (i 1).isLt; omega⟩
/-- The values. -/
def valuesArr : Vec Ideal S16384x1024 .f32 := fun i =>
  projected x g w (i 0) ⟨4096 + (i 1).val, by have h : (i 1).val < 1024 := (i 1).isLt; omega⟩
end

/-! ## Where each grid point reads and writes -/

/-- The grid points are numbered below the size of the grid. -/
theorem point_lt : ∀ t : Fin cfg0.N, t.val < 64 := (by decide +kernel : ∀ t : Fin grid0.N, t.val < 64)
/-- Which block of the first array a grid point works on. -/
theorem index0 : ∀ t : Fin cfg0.N, win0_0.index t (0 : Fin 2) = t.val ∧ win0_0.index t (1 : Fin 2) = 0 :=
  (by decide +kernel : ∀ t : Fin grid0.N, _)
/-- Which block of the second array a grid point works on. -/
theorem index1 : ∀ t : Fin cfg0.N, win0_1.index t (0 : Fin 2) = 0 ∧ win0_1.index t (1 : Fin 2) = 0 :=
  (by decide +kernel : ∀ t : Fin grid0.N, _)
/-- Which block of the third array a grid point works on. -/
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
/-- Which block of the fourth array a grid point works on. -/
theorem index3 : ∀ t : Fin cfg0.N, win0_3.index t (0 : Fin 2) = 0 ∧ win0_3.index t (1 : Fin 2) = 0 :=
  (by decide +kernel : ∀ t : Fin grid0.N, _)
/-- Which block of the fifth array a grid point works on. -/
theorem index4 : ∀ t : Fin cfg0.N, win0_4.index t (0 : Fin 2) = t.val ∧ win0_4.index t (1 : Fin 2) = 0 :=
  (by decide +kernel : ∀ t : Fin grid0.N, _)
/-- Which block of the sixth array a grid point works on. -/
theorem index5 : ∀ t : Fin cfg0.N, win0_5.index t (0 : Fin 2) = t.val ∧ win0_5.index t (1 : Fin 2) = 0 :=
  (by decide +kernel : ∀ t : Fin grid0.N, _)
/-- Which block of the seventh array a grid point works on. -/
theorem index6 : ∀ t : Fin cfg0.N, win0_6.index t (0 : Fin 3) = t.val / 32 ∧ win0_6.index t (1 : Fin 3) = 0 ∧ win0_6.index t (2 : Fin 3) = t.val % 32 :=
  (by decide +kernel : ∀ t : Fin grid0.N, _)
/-- Which block of the eighth array a grid point works on. -/
theorem index7 : ∀ t : Fin cfg0.N, win0_7.index t (0 : Fin 2) = t.val ∧ win0_7.index t (1 : Fin 2) = 0 :=
  (by decide +kernel : ∀ t : Fin grid0.N, _)

section
variable (m : (ℓ : Loc nD τ sig) → Buf (Elt Ideal) ℓ) (c : Dev nD) (t : Fin cfg0.N)

/-- The rows of a point. -/
theorem block0 (r : Fin 256) (e : Fin 1024) :
    iblk m c 0 t (ix2 r e) = V m c main_arg0 (ix2 ⟨256 * t.val + r.val, by have := point_lt t; omega⟩ e) := by
  obtain ⟨e0, e1⟩ := index0 t
  show V m c main_arg0 (((cfg0.win 0).blk t).view.emb (ix2 r e)) = _
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * e.val = e.val; omega

/-- A point is given the whole gain. -/
theorem block1 : iblk m c 1 t = V m c main_arg1 := by
  obtain ⟨e0, e1⟩ := index1 t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- A point is given the whole stacked weights. -/
theorem block2 : iblk m c 2 t = V m c main_v19 := by
  obtain ⟨e0, e1, e2⟩ := index2 t
  funext j
  show V m c main_v19 (((cfg0.win 2).blk t).view.emb j) = V m c main_v19 j
  refine congrArg (V m c main_v19) (funext fun a => Fin.ext ?_)
  match a with
  | ⟨0, _⟩ => show win0_2.index t (0 : Fin 3) * 9 + 1 * (j 0).val = (j 0).val; omega
  | ⟨1, _⟩ => show win0_2.index t (1 : Fin 3) * 1024 + 1 * (j 1).val = (j 1).val; omega
  | ⟨2, _⟩ => show win0_2.index t (2 : Fin 3) * 1024 + 1 * (j 2).val = (j 2).val; omega

/-- A point is given the whole transposed key weights. -/
theorem block3 : iblk m c 3 t = V m c main_v22 := by
  obtain ⟨e0, e1⟩ := index3 t
  funext j
  show V m c main_v22 (((cfg0.win 3).blk t).view.emb j) = V m c main_v22 j
  refine congrArg (V m c main_v22) (funext fun a => Fin.ext ?_)
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- A point with the memories the kernel is called on there. -/
abbrev pointAt : Point :=
  ⟨c, grid0.coords t, ms0_0 t, hs0_0 t, ms0_1 t, hs0_1 t, ms0_2 t, hs0_2 t, ms0_3 t, hs0_3 t, ms0_4 t, hs0_4 t, ms0_5 t, hs0_5 t,
    ms0_6 t, hs0_6 t, ms0_7 t, hs0_7 t, scM0_0, Memref.isWhole_whole _⟩

/-- The arguments. -/
abbrev argX : Vec Ideal S16384x1024 .f32 := m ((c : Thread nD τ).loc main_arg0)
/-- The gain the run starts from. -/
abbrev argG : Vec Ideal S1x1024 .f32 := m ((c : Thread nD τ).loc main_arg1)
/-- The weights the run starts from. -/
abbrev argW : Vec Ideal S1024x9216 .f32 := m ((c : Thread nD τ).loc main_arg2)

/-- The rows of a point are rows of the argument. -/
theorem rows_eq (r : Fin 256) :
    (fun k => iblk m c 0 t (ix2 r k)) = fun k => argX m c (ix2 ⟨256 * t.val + r.val, by have := point_lt t; omega⟩ k) := by
  funext k
  rw [block0, V_main_arg0]

/-- A point is given the whole gain. -/
theorem gain_eq : (fun k => iblk m c 1 t (ix2 0 k)) = fun k => argG m c (ix2 0 k) := by
  funext k
  rw [block1, V_main_arg1]

/-- The sum of a point's rows and a stacked block is an entry of the projection. -/
theorem point_sum (k : Fin 9) (r : Fin 256) (C : Fin 1024) :
    ∑ e, normed (fun k => iblk m c 0 t (ix2 r k)) (fun k => iblk m c 1 t (ix2 0 k)) e * iblk m c 2 t (ix3 k e C)
      = projected (argX m c) (argG m c) (argW m c) ⟨256 * t.val + r.val, by have := point_lt t; omega⟩
          ⟨1024 * (stacked k).val + C.val, by have := (stacked k).isLt; omega⟩ := by
  rw [rows_eq, gain_eq, block2, V_stack, projected]
  exact Finset.sum_congr rfl fun e _ => congrArg (_ * ·) (stackW_at _ k e C)

/-- The same with the turned key weights. -/
theorem point_sum_turned (d : Fin 1024) (r : Fin 256) :
    ∑ e, normed (fun k => iblk m c 0 t (ix2 r k)) (fun k => iblk m c 1 t (ix2 0 k)) e * iblk m c 3 t (ix2 d e)
      = projected (argX m c) (argG m c) (argW m c) ⟨256 * t.val + r.val, by have := point_lt t; omega⟩
          ⟨3072 + d.val, by omega⟩ := by
  rw [rows_eq, gain_eq, block3, V_turned, projected]
  exact Finset.sum_congr rfl fun e _ => congrArg (_ * ·) (turnedW_at _ d e)

/-- The first five blocks of the stack are the first two and the last three of the weights. -/
theorem stacked_free : ∀ k : Fin 5, (stacked ⟨k.val, by omega⟩).val = if k.val < 2 then k.val else k.val + 4 := by decide
/-- The last four blocks of the stack are the third to the sixth of the weights. -/
theorem stacked_attn : ∀ k : Fin 4, (stacked ⟨5 + k.val, by omega⟩).val = 2 + k.val := by decide

/-! ## What a point writes back is its block of the result arrays -/

/-- A point writes back its part of the array of the recurrence's inputs and the gates. -/
theorem free_flushed : (dats m 0 c).flushed 4 t
    = ((cfg0.win 4).blk t).view.read (Elt Ideal) (freeArr (argX m c) (argG m c) (argW m c)) := by
  have ht := point_lt t
  obtain ⟨e0, e1⟩ := index4 t
  suffices H : ∀ (k : Fin 5) (r : Fin 256) (C : Fin 1024),
      (dats m 0 c).flushed 4 t (ix2 r ⟨1024 * k.val + C.val, by omega⟩)
        = freeArr (argX m c) (argG m c) (argW m c) (((cfg0.win 4).blk t).view.emb (ix2 r ⟨1024 * k.val + C.val, by omega⟩)) by
    funext j
    have h1 : (j 1).val < 5120 := (j 1).isLt
    have hj : j = ix2 (j 0) ⟨1024 * ((j 1).val / 1024) + (j 1).val % 1024, by omega⟩ := by
      funext a
      match a with
      | ⟨0, _⟩ => rfl
      | ⟨1, _⟩ => exact Fin.ext (show (j 1).val = 1024 * ((j 1).val / 1024) + (j 1).val % 1024 by omega)
    rw [hj]
    exact H ⟨(j 1).val / 1024, by omega⟩ (j 0) ⟨(j 1).val % 1024, by omega⟩
  intro k r C
  have hf : (dats m 0 c).flushed 4 t (ix2 r ⟨1024 * k.val + C.val, by omega⟩)
      = freeOut (pointAt c t) (iblk m c 0 t) (iblk m c 1 t) (iblk m c 2 t) (iblk m c 3 t) (ix2 r ⟨1024 * k.val + C.val, by omega⟩) := by
    rw [flushed4_A, freeOut]
    rfl
  have hs := stacked_free k
  refine hf.trans ((free_at _ _ _ _ _ k r C).trans ((point_sum m c t _ r C).trans ?_))
  refine congrArg₂ (projected _ _ _) (Fin.ext ?_) (Fin.ext ?_)
  · show 256 * t.val + r.val = win0_4.index t (0 : Fin 2) * 256 + 1 * r.val
    omega
  · have hv : ((((cfg0.win 4).blk t).view.emb (ix2 r ⟨1024 * k.val + C.val, by omega⟩)) 1).val = 1024 * k.val + C.val := by
      show win0_4.index t (1 : Fin 2) * 5120 + 1 * (1024 * k.val + C.val) = 1024 * k.val + C.val
      omega
    show 1024 * (stacked ⟨k.val, _⟩).val + C.val = if ((((cfg0.win 4).blk t).view.emb _) 1).val < 2048 then _ else _
    rw [hv, hs]
    split <;> split <;> omega

/-- A point writes back its part of the array of the attention's columns. -/
theorem attn_flushed : (dats m 0 c).flushed 5 t
    = ((cfg0.win 5).blk t).view.read (Elt Ideal) (attnArr (argX m c) (argG m c) (argW m c)) := by
  have ht := point_lt t
  obtain ⟨e0, e1⟩ := index5 t
  suffices H : ∀ (k : Fin 4) (r : Fin 256) (C : Fin 1024),
      (dats m 0 c).flushed 5 t (ix2 r ⟨1024 * k.val + C.val, by omega⟩)
        = attnArr (argX m c) (argG m c) (argW m c) (((cfg0.win 5).blk t).view.emb (ix2 r ⟨1024 * k.val + C.val, by omega⟩)) by
    funext j
    have h1 : (j 1).val < 4096 := (j 1).isLt
    have hj : j = ix2 (j 0) ⟨1024 * ((j 1).val / 1024) + (j 1).val % 1024, by omega⟩ := by
      funext a
      match a with
      | ⟨0, _⟩ => rfl
      | ⟨1, _⟩ => exact Fin.ext (show (j 1).val = 1024 * ((j 1).val / 1024) + (j 1).val % 1024 by omega)
    rw [hj]
    exact H ⟨(j 1).val / 1024, by omega⟩ (j 0) ⟨(j 1).val % 1024, by omega⟩
  intro k r C
  have hf : (dats m 0 c).flushed 5 t (ix2 r ⟨1024 * k.val + C.val, by omega⟩)
      = attnOut (pointAt c t) (iblk m c 0 t) (iblk m c 1 t) (iblk m c 2 t) (iblk m c 3 t) (ix2 r ⟨1024 * k.val + C.val, by omega⟩) := by
    rw [flushed5_A, attnOut]
    rfl
  have hs := stacked_attn k
  refine hf.trans ((attn_at _ _ _ _ _ k r C).trans ((point_sum m c t _ r C).trans ?_))
  refine congrArg₂ (projected _ _ _) (Fin.ext ?_) (Fin.ext ?_)
  · show 256 * t.val + r.val = win0_5.index t (0 : Fin 2) * 256 + 1 * r.val
    omega
  · show 1024 * (stacked ⟨5 + k.val, _⟩).val + C.val = 2048 + (win0_5.index t (1 : Fin 2) * 4096 + 1 * (1024 * k.val + C.val))
    omega

/-- A point writes back its part of the array of the keys. -/
theorem keys_flushed : (dats m 0 c).flushed 6 t
    = ((cfg0.win 6).blk t).view.read (Elt Ideal) (keysArr (argX m c) (argG m c) (argW m c)) := by
  have ht := point_lt t
  obtain ⟨e0, e1, e2⟩ := index6 t
  suffices H : ∀ (d : Fin 1024) (r : Fin 256), (dats m 0 c).flushed 6 t (ix3 0 d r)
      = keysArr (argX m c) (argG m c) (argW m c) (((cfg0.win 6).blk t).view.emb (ix3 0 d r)) by
    funext j
    have h0 : (j 0).val < 1 := (j 0).isLt
    have hj : j = ix3 0 (j 1) (j 2) := by
      funext a
      match a with
      | ⟨0, _⟩ => exact Fin.ext (show (j 0).val = 0 by omega)
      | ⟨1, _⟩ => rfl
      | ⟨2, _⟩ => rfl
    rw [hj]
    exact H (j 1) (j 2)
  intro d r
  have hf : (dats m 0 c).flushed 6 t (ix3 0 d r)
      = keysOut (pointAt c t) (iblk m c 0 t) (iblk m c 1 t) (iblk m c 2 t) (iblk m c 3 t) (ix3 0 d r) := by
    rw [flushed6_A, keysOut]
    rfl
  refine hf.trans ((keys_at _ _ _ _ _ d r).trans ((point_sum_turned m c t d r).trans ?_))
  refine congrArg₂ (projected _ _ _) (Fin.ext ?_) (Fin.ext ?_)
  · show 256 * t.val + r.val = (win0_6.index t (0 : Fin 3) * 1 + 1 * 0) * 8192 + (win0_6.index t (2 : Fin 3) * 256 + 1 * r.val)
    omega
  · show 3072 + d.val = 3072 + (win0_6.index t (1 : Fin 3) * 1024 + 1 * d.val)
    omega

/-- A point writes back its part of the array of the values. -/
theorem values_flushed : (dats m 0 c).flushed 7 t
    = ((cfg0.win 7).blk t).view.read (Elt Ideal) (valuesArr (argX m c) (argG m c) (argW m c)) := by
  have ht := point_lt t
  obtain ⟨e0, e1⟩ := index7 t
  suffices H : ∀ (r : Fin 256) (C : Fin 1024), (dats m 0 c).flushed 7 t (ix2 r C)
      = valuesArr (argX m c) (argG m c) (argW m c) (((cfg0.win 7).blk t).view.emb (ix2 r C)) by
    funext j
    have hj : j = ix2 (j 0) (j 1) := by
      funext a
      match a with
      | ⟨0, _⟩ => rfl
      | ⟨1, _⟩ => rfl
    rw [hj]
    exact H (j 0) (j 1)
  intro r C
  have hf : (dats m 0 c).flushed 7 t (ix2 r C)
      = valuesOut (pointAt c t) (iblk m c 0 t) (iblk m c 1 t) (iblk m c 2 t) (iblk m c 3 t) (ix2 r C) := by
    rw [flushed7_A, valuesOut]
    rfl
  refine hf.trans ((values_at _ _ _ _ _ r C).trans ((point_sum m c t _ r C).trans ?_))
  refine congrArg₂ (projected _ _ _) (Fin.ext ?_) (Fin.ext ?_)
  · show 256 * t.val + r.val = win0_7.index t (0 : Fin 2) * 256 + 1 * r.val
    omega
  · show 1024 * 4 + C.val = 4096 + (win0_7.index t (1 : Fin 2) * 1024 + 1 * C.val)
    omega
end

/-! ## Every index is in some point's block -/

/-- The number of grid points. -/
theorem points : cfg0.N = 64 := (by decide +kernel : grid0.N = 64)

/-- Every entry of the array of the recurrence's inputs and the gates is in the block of some point. -/
theorem free_covered (i : S16384x5120.Idx) : ∃ t : Fin cfg0.N, (cfg0.win 4).flush t = true ∧ i ∈ ((cfg0.win 4).blk t).view.set := by
  have h0 : (i 0).val < 16384 := (i 0).isLt
  have hN := points
  refine ⟨⟨(i 0).val / 256, by omega⟩, flush0_4 _, ?_⟩
  obtain ⟨e0, e1⟩ := index4 (⟨(i 0).val / 256, by omega⟩ : Fin cfg0.N)
  have h := ((cfg0.win 4).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_4.index _ (0 : Fin 2) * 256 + 1 * ((i 0).val % 256) = (i 0).val; rw [e0]; dsimp only; omega
  | ⟨1, _⟩ => show win0_4.index _ (1 : Fin 2) * 5120 + 1 * (i 1).val = (i 1).val; rw [e1]; omega

/-- Every entry of the array of the attention's columns is in the block of some point. -/
theorem attn_covered (i : S16384x4096.Idx) : ∃ t : Fin cfg0.N, (cfg0.win 5).flush t = true ∧ i ∈ ((cfg0.win 5).blk t).view.set := by
  have h0 : (i 0).val < 16384 := (i 0).isLt
  have hN := points
  refine ⟨⟨(i 0).val / 256, by omega⟩, flush0_5 _, ?_⟩
  obtain ⟨e0, e1⟩ := index5 (⟨(i 0).val / 256, by omega⟩ : Fin cfg0.N)
  have h := ((cfg0.win 5).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_5.index _ (0 : Fin 2) * 256 + 1 * ((i 0).val % 256) = (i 0).val; rw [e0]; dsimp only; omega
  | ⟨1, _⟩ => show win0_5.index _ (1 : Fin 2) * 4096 + 1 * (i 1).val = (i 1).val; rw [e1]; omega

/-- Every entry of the array of the values is in the block of some point. -/
theorem values_covered (i : S16384x1024.Idx) : ∃ t : Fin cfg0.N, (cfg0.win 7).flush t = true ∧ i ∈ ((cfg0.win 7).blk t).view.set := by
  have h0 : (i 0).val < 16384 := (i 0).isLt
  have hN := points
  refine ⟨⟨(i 0).val / 256, by omega⟩, flush0_7 _, ?_⟩
  obtain ⟨e0, e1⟩ := index7 (⟨(i 0).val / 256, by omega⟩ : Fin cfg0.N)
  have h := ((cfg0.win 7).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_7.index _ (0 : Fin 2) * 256 + 1 * ((i 0).val % 256) = (i 0).val; rw [e0]; dsimp only; omega
  | ⟨1, _⟩ => show win0_7.index _ (1 : Fin 2) * 1024 + 1 * (i 1).val = (i 1).val; rw [e1]; omega

/-- Every entry of the array of the keys is in the block of some point. -/
theorem keys_covered (i : S2x1024x8192.Idx) : ∃ t : Fin cfg0.N, (cfg0.win 6).flush t = true ∧ i ∈ ((cfg0.win 6).blk t).view.set := by
  have h0 : (i 0).val < 2 := (i 0).isLt
  have h2 : (i 2).val < 8192 := (i 2).isLt
  have hN := points
  refine ⟨⟨32 * (i 0).val + (i 2).val / 256, by omega⟩, flush0_6 _, ?_⟩
  obtain ⟨e0, e1, e2⟩ := index6 (⟨32 * (i 0).val + (i 2).val / 256, by omega⟩ : Fin cfg0.N)
  have h := ((cfg0.win 6).blk (⟨32 * (i 0).val + (i 2).val / 256, by omega⟩ : Fin cfg0.N)).view.emb_mem_set
    (ix3 (0 : Fin 1) (i 1) (⟨(i 2).val % 256, by omega⟩ : Fin 256))
  refine (congrArg (· ∈ _) (funext fun a => Fin.ext ?_)).mp h
  match a with
  | ⟨0, _⟩ => show win0_6.index _ (0 : Fin 3) * 1 + 1 * 0 = (i 0).val; rw [e0]; dsimp only; omega
  | ⟨1, _⟩ => show win0_6.index _ (1 : Fin 3) * 1024 + 1 * (i 1).val = (i 1).val; rw [e1]; omega
  | ⟨2, _⟩ => show win0_6.index _ (2 : Fin 3) * 256 + 1 * ((i 2).val % 256) = (i 2).val; rw [e2]; dsimp only; omega

/-! ## The result arrays after the run -/

section
variable (m : (ℓ : Loc nD τ sig) → Buf (Elt Ideal) ℓ) (c : Dev nD)

/-- After the run the array of the recurrence's inputs and the gates holds what it should. -/
theorem free_result : (dats m 0 c).arrAt 4 cfg0.N = freeArr (argX m c) (argG m c) (argW m c) :=
  (dats m 0 c).arrAt_eq_of_cover 4 _ (fun t _ => free_flushed m c t) free_covered

/-- After the run the array of the attention's columns holds what it should. -/
theorem attn_result : (dats m 0 c).arrAt 5 cfg0.N = attnArr (argX m c) (argG m c) (argW m c) :=
  (dats m 0 c).arrAt_eq_of_cover 5 _ (fun t _ => attn_flushed m c t) attn_covered

/-- After the run the array of the keys holds what it should. -/
theorem keys_result : (dats m 0 c).arrAt 6 cfg0.N = keysArr (argX m c) (argG m c) (argW m c) :=
  (dats m 0 c).arrAt_eq_of_cover 6 _ (fun t _ => keys_flushed m c t) keys_covered

/-- After the run the array of the values holds what it should. -/
theorem values_result : (dats m 0 c).arrAt 7 cfg0.N = valuesArr (argX m c) (argG m c) (argW m c) :=
  (dats m 0 c).arrAt_eq_of_cover 7 _ (fun t _ => values_flushed m c t) values_covered

end

end Cert.Proj

end
-- ==== Proof.ProjEq.lean ====
/- The reference of the projection computes the kernel's four arrays. -/
module

public import proofs.«01_k».proof.Proof.ProjArray

@[expose] public section

noncomputable section

namespace Cert.Proj

open Idealize.ShloMosaic Idealize.SL.Sem Cert.Reference2Ideal Cert.Reference2Ideal.Gen Cert.Reference2Ideal.Read

variable (x : Vec Ideal S16384x1024 .f32) (g : Vec Ideal S1x1024 .f32) (w : Vec Ideal S1024x9216 .f32)

/-! The four arrays. -/

/-- The reference computes the array of the recurrence's inputs and the gates. -/
theorem free_eq : val_main_v15 (F := Ideal) x g w = freeArr x g w := funext fun i => by
  rw [← ix2_eta i]
  exact ref_free_at x g w _ _

/-- The reference computes the array of the attention's columns. -/
theorem attn_eq : val_main_v17 (F := Ideal) x g w = attnArr x g w := funext fun i => by
  rw [← ix2_eta i]
  exact ref_attn_at x g w _ _

/-- The reference computes the array of the keys. -/
theorem keys_eq : val_main_v20 (F := Ideal) x g w = keysArr x g w := funext fun i => by
  rw [← ix3_eta i]
  exact ref_keys_at x g w _ _ _

/-- The reference computes the array of the values. -/
theorem values_eq : val_main_v21 (F := Ideal) x g w = valuesArr x g w := funext fun i => by
  rw [← ix2_eta i]
  exact ref_values_at x g w _ _

end Cert.Proj

end
-- ==== Proof.Whole.lean ====
/- A load or a store of a whole block: the box is the block itself. -/
module

public import Idealize.ShloMosaic.Lib.Pointwise
public import Idealize.ShloMosaic.Lib.Pipeline.Value

@[expose] public section

noncomputable section

namespace Cert

open Idealize.ShloMosaic

variable {e : EltTy} {a b d : ℕ}

/-- An index of a whole box of two places is the block's own. -/
theorem emb_whole2 (h) (j : Shape.Idx ⟨2, ![a, b]⟩) :
    (Rect.unit (s := ⟨2, ![a, b]⟩) ![0, 0] (⟨2, ![a, b]⟩ : Shape).size h).emb j = j := by
  funext q
  match q with
  | ⟨0, _⟩ => exact Fin.ext (show 0 + 1 * (j 0).val = (j 0).val by omega)
  | ⟨1, _⟩ => exact Fin.ext (show 0 + 1 * (j 1).val = (j 1).val by omega)

/-- An index of a whole box of three places is the block's own. -/
theorem emb_whole3 (h) (j : Shape.Idx ⟨3, ![a, b, d]⟩) :
    (Rect.unit (s := ⟨3, ![a, b, d]⟩) ![0, 0, 0] (⟨3, ![a, b, d]⟩ : Shape).size h).emb j = j := by
  funext q
  match q with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)

/-- A load of the whole block reads the block. -/
theorem ld_whole2 (x : Vec Ideal ⟨2, ![a, b]⟩ e) (h) :
    View.ld x (Rect.unit (s := ⟨2, ![a, b]⟩) ![0, 0] (⟨2, ![a, b]⟩ : Shape).size h) = x :=
  funext fun j => congrArg x (emb_whole2 h j)

/-- A block stored whole once holds what was stored. -/
theorem canon_whole2 [∀ e, Nonempty (Elt Ideal e)] (h) (p : Vec Ideal ⟨2, ![a, b]⟩ e) :
    View.canon (Val := Elt Ideal) (e := e)
      [⟨Rect.unit (s := ⟨2, ![a, b]⟩) ![0, 0] (⟨2, ![a, b]⟩ : Shape).size h, p⟩] = p := by
  funext j
  have H := View.canon_cons_emb (Val := Elt Ideal) (e := e)
    (Rect.unit (s := ⟨2, ![a, b]⟩) ![0, 0] (⟨2, ![a, b]⟩ : Shape).size h) p [] j
  rw [emb_whole2] at H
  exact H

/-- The same with three axes. -/
theorem canon_whole3 [∀ e, Nonempty (Elt Ideal e)] (h) (p : Vec Ideal ⟨3, ![a, b, d]⟩ e) :
    View.canon (Val := Elt Ideal) (e := e)
      [⟨Rect.unit (s := ⟨3, ![a, b, d]⟩) ![0, 0, 0] (⟨3, ![a, b, d]⟩ : Shape).size h, p⟩] = p := by
  funext j
  have H := View.canon_cons_emb (Val := Elt Ideal) (e := e)
    (Rect.unit (s := ⟨3, ![a, b, d]⟩) ![0, 0, 0] (⟨3, ![a, b, d]⟩ : Shape).size h) p [] j
  rw [emb_whole3] at H
  exact H

end Cert

end
-- ==== Proof.MergePoint.lean ====
/- What one grid point of the merge computes: three gated products, the output projection, the residual and two norms. -/
module

public import proofs.«01_k».proof.Proof.Whole
public import proofs.«01_k».proof.Proof.ProjPoint
public import proofs.«01_k».proof.Proof.Gen.Kernel3Ideal
public import proofs.«01_k».proof.Proof.Gen.Kernel3Ideal.Skeleton
public import proofs.«01_k».proof.Proof.Gen.Kernel3Ideal.Frame

@[expose] public section

set_option maxRecDepth 16384
set_option maxHeartbeats 400000

noncomputable section

namespace Cert.Merge

open Idealize.ShloMosaic Idealize.SL.Sem Cert.Kernel3Ideal Cert.Kernel3Ideal.Gen
open Cert.Proj (normed)

/-- The three mixers' rows at one position, their gates before the sigmoid, and the residual. -/
structure Row where
  b0 : Fin 1024 → EReal
  b1 : Fin 1024 → EReal
  b2 : Fin 1024 → EReal
  z0 : Fin 1024 → EReal
  z1 : Fin 1024 → EReal
  z2 : Fin 1024 → EReal
  x : Fin 1024 → EReal

/-- The four matrices and the gains of the two norms. -/
structure Weights where
  w0 : Fin 1024 → Fin 1024 → EReal
  w1 : Fin 1024 → Fin 1024 → EReal
  w2 : Fin 1024 → Fin 1024 → EReal
  wo : Fin 1024 → Fin 1024 → EReal
  gpost : Fin 1024 → EReal
  gpre : Fin 1024 → EReal

/-- The sum of the mixers' gated products. -/
def mixed (R : Row) (W : Weights) (e : Fin 1024) : EReal :=
  Ideal.logistic (R.z0 e) * (∑ k, R.b0 k * W.w0 k e) + Ideal.logistic (R.z1 e) * (∑ k, R.b1 k * W.w1 k e)
    + Ideal.logistic (R.z2 e) * (∑ k, R.b2 k * W.w2 k e)

/-- The output projection. -/
def merged (R : Row) (W : Weights) (C : Fin 1024) : EReal := ∑ e, mixed R W e * W.wo e C

/-- The residual plus the normalised projection. -/
def resid (R : Row) (W : Weights) (C : Fin 1024) : EReal := R.x C + normed (merged R W) W.gpost C

/-- The sum normalised again, for the layer's next part. -/
def next (R : Row) (W : Weights) (C : Fin 1024) : EReal := normed (resid R W) W.gpre C

section
variable (z0 z1 z2 x : Vec Ideal S512x1024 .f32) (b0 b1 b2 : Vec Ideal S512x1024 .bf16)
  (w0 w1 w2 wo : Vec Ideal S1024x1024 .bf16) (gpost gpre : Vec Ideal S1x1024 .f32)

/-- A row of the blocks. -/
def rowOf (r : Fin 512) : Row :=
  ⟨fun k => b0 (ix2 r k), fun k => b1 (ix2 r k), fun k => b2 (ix2 r k), fun k => z0 (ix2 r k), fun k => z1 (ix2 r k),
    fun k => z2 (ix2 r k), fun k => x (ix2 r k)⟩

/-- The weights of the blocks. -/
def weightsOf : Weights :=
  ⟨fun k e => w0 (ix2 k e), fun k e => w1 (ix2 k e), fun k e => w2 (ix2 k e), fun k e => wo (ix2 k e),
    fun k => gpost (ix2 0 k), fun k => gpre (ix2 0 k)⟩

/-- The output projection of a block. -/
theorem pay3_at (r : Fin 512) (C : Fin 1024) :
    k0_pay3 z0 b0 w0 z1 b1 w1 z2 b2 w2 wo (ix2 r C)
      = merged (rowOf z0 z1 z2 x b0 b1 b2 r) (weightsOf w0 w1 w2 wo gpost gpre) C := by
  pointwise [k0_pay3, merged, mixed, rowOf, weightsOf]

/-- The sum of the squares of a row of it. -/
theorem pay4_at (r : Fin 512) :
    k0_pay4 z0 b0 w0 z1 b1 w1 z2 b2 w2 wo (ix2 r 0)
      = ∑ k, k0_pay3 z0 b0 w0 z1 b1 w1 z2 b2 w2 wo (ix2 r k) * k0_pay3 z0 b0 w0 z1 b1 w1 z2 b2 w2 wo (ix2 r k) := by
  pointwise [k0_pay4]

/-- The residual plus the normalised rows. -/
theorem pay1_at (y x : Vec Ideal S512x1024 .f32) (s : Vec Ideal S512x1 .f32) (g : Vec Ideal S1x1024 .f32) (r : Fin 512) (C : Fin 1024)
    (hs : s (ix2 r 0) = ∑ k, y (ix2 r k) * y (ix2 r k)) :
    k0_pay1 y x s (Scalar.ofBits .f32 0x44800000#32) g (ix2 r C)
      = x (ix2 r C) + normed (fun k => y (ix2 r k)) (fun k => g (ix2 0 k)) C := by
  rw [normed, ← hs]
  pointwise [k0_pay1]

/-- The second norm, of what is stored first. -/
theorem pay2_at (y x : Vec Ideal S512x1024 .f32) (s : Vec Ideal S512x1 .f32) (g g' : Vec Ideal S1x1024 .f32) (q : Ideal .f32)
    (r : Fin 512) (C : Fin 1024) :
    k0_pay2 y x s q g g' (ix2 r C) = normed (fun k => k0_pay1 y x s q g (ix2 r k)) (fun k => g' (ix2 0 k)) C := by
  pointwise [k0_pay2, normed]

/-! ## The two blocks a point leaves -/

attribute [local irreducible] k0_pay1 k0_pay2 k0_pay3 k0_pay4

/-- The output projection of the point's blocks, and the sums of its squares. -/
theorem proj_eq : k0_pay5 b0 b1 b2 z0 z1 z2 x w0 w1 w2 wo gpost gpre = k0_pay3 z0 b0 w0 z1 b1 w1 z2 b2 w2 wo := by
  have h0 : View.ld b0 r0_0 = b0 := ld_whole2 b0 _
  have h1 : View.ld b1 r0_0 = b1 := ld_whole2 b1 _
  have h2 : View.ld b2 r0_0 = b2 := ld_whole2 b2 _
  have h3 : View.ld z0 r0_0 = z0 := ld_whole2 z0 _
  have h4 : View.ld z1 r0_0 = z1 := ld_whole2 z1 _
  have h5 : View.ld z2 r0_0 = z2 := ld_whole2 z2 _
  have h7 : View.ld w0 r0_1 = w0 := ld_whole2 w0 _
  have h8 : View.ld w1 r0_1 = w1 := ld_whole2 w1 _
  have h9 : View.ld w2 r0_1 = w2 := ld_whole2 w2 _
  have h10 : View.ld wo r0_1 = wo := ld_whole2 wo _
  unfold k0_pay5
  rw [h0, h1, h2, h3, h4, h5, h7, h8, h9, h10]

/-- The rows before the first norm, from the blocks. -/
theorem squares_eq : k0_pay6 b0 b1 b2 z0 z1 z2 x w0 w1 w2 wo gpost gpre = k0_pay4 z0 b0 w0 z1 b1 w1 z2 b2 w2 wo := by
  have h0 : View.ld b0 r0_0 = b0 := ld_whole2 b0 _
  have h1 : View.ld b1 r0_0 = b1 := ld_whole2 b1 _
  have h2 : View.ld b2 r0_0 = b2 := ld_whole2 b2 _
  have h3 : View.ld z0 r0_0 = z0 := ld_whole2 z0 _
  have h4 : View.ld z1 r0_0 = z1 := ld_whole2 z1 _
  have h5 : View.ld z2 r0_0 = z2 := ld_whole2 z2 _
  have h7 : View.ld w0 r0_1 = w0 := ld_whole2 w0 _
  have h8 : View.ld w1 r0_1 = w1 := ld_whole2 w1 _
  have h9 : View.ld w2 r0_1 = w2 := ld_whole2 w2 _
  have h10 : View.ld wo r0_1 = wo := ld_whole2 wo _
  unfold k0_pay6
  rw [h0, h1, h2, h3, h4, h5, h7, h8, h9, h10]

/-- What the first store holds. -/
theorem sum_at (r : Fin 512) (C : Fin 1024) :
    k0_pay1 (k0_pay3 z0 b0 w0 z1 b1 w1 z2 b2 w2 wo) x (k0_pay4 z0 b0 w0 z1 b1 w1 z2 b2 w2 wo)
        (Scalar.ofBits .f32 0x44800000#32) gpost (ix2 r C)
      = resid (rowOf z0 z1 z2 x b0 b1 b2 r) (weightsOf w0 w1 w2 wo gpost gpre) C := by
  refine (pay1_at _ x _ gpost r C (pay4_at z0 z1 z2 b0 b1 b2 w0 w1 w2 wo r)).trans ?_
  simp only [pay3_at z0 z1 z2 x b0 b1 b2 w0 w1 w2 wo gpost gpre]
  rfl

/-- The residual's block. -/
theorem first_at (r : Fin 512) (C : Fin 1024) :
    out0_13 b0 b1 b2 z0 z1 z2 x w0 w1 w2 wo gpost gpre (ix2 r C)
      = resid (rowOf z0 z1 z2 x b0 b1 b2 r) (weightsOf w0 w1 w2 wo gpost gpre) C := by
  have hx : View.ld x r0_0 = x := ld_whole2 x _
  have hg : View.ld gpost r0_2 = gpost := ld_whole2 gpost _
  unfold out0_13
  rw [hx, hg, proj_eq, squares_eq]
  exact (congrFun (canon_whole2 _ _) _).trans (sum_at z0 z1 z2 x b0 b1 b2 w0 w1 w2 wo gpost gpre r C)

/-- The block of the rows normalised again. -/
theorem second_at (r : Fin 512) (C : Fin 1024) :
    out0_14 b0 b1 b2 z0 z1 z2 x w0 w1 w2 wo gpost gpre (ix2 r C)
      = next (rowOf z0 z1 z2 x b0 b1 b2 r) (weightsOf w0 w1 w2 wo gpost gpre) C := by
  have hx : View.ld x r0_0 = x := ld_whole2 x _
  have hg : View.ld gpost r0_2 = gpost := ld_whole2 gpost _
  have hg' : View.ld gpre r0_2 = gpre := ld_whole2 gpre _
  unfold out0_14
  rw [hx, hg, hg', proj_eq, squares_eq]
  refine (congrFun (canon_whole2 _ _) _).trans ((pay2_at _ _ _ _ _ _ r C).trans ?_)
  simp only [sum_at z0 z1 z2 x b0 b1 b2 w0 w1 w2 wo gpost gpre]
  rfl

end

end Cert.Merge

end
-- ==== Proof.MergeRef.lean ====
/- What the reference of the merge holds at an index. -/
module

public import proofs.«01_k».proof.Proof.MergePoint
public import proofs.«01_k».proof.Proof.Gen.Reference3Ideal
public import proofs.«01_k».proof.Proof.Gen.Reference3Ideal.Read

@[expose] public section

set_option maxRecDepth 16384
set_option maxHeartbeats 400000

noncomputable section

namespace Cert.Merge

open Idealize.ShloMosaic Idealize.SL.Sem Cert.Reference3Ideal Cert.Reference3Ideal.Gen Cert.Reference3Ideal.Read
open Cert.Proj (normed)

variable (b0 b1 b2 : Vec Ideal S16384x1024 .bf16) (z : Vec Ideal S16384x5120 .f32) (x : Vec Ideal S16384x1024 .f32)
  (w0 w1 w2 wo : Vec Ideal S1024x1024 .f32) (gpost gpre : Vec Ideal S1x1024 .f32)

/-- A row of the arguments: the gates are the last three of the five parts. -/
def argRow (R : Fin 16384) : Row :=
  ⟨fun k => b0 (ix2 R k), fun k => b1 (ix2 R k), fun k => b2 (ix2 R k), fun k => z (ix2 R ⟨2048 + k.val, by omega⟩),
    fun k => z (ix2 R ⟨3072 + k.val, by omega⟩), fun k => z (ix2 R ⟨4096 + k.val, by omega⟩), fun k => x (ix2 R k)⟩

/-- The weights of the arguments. -/
def argWeights : Weights :=
  ⟨fun k e => w0 (ix2 k e), fun k e => w1 (ix2 k e), fun k e => w2 (ix2 k e), fun k e => wo (ix2 k e),
    fun k => gpost (ix2 0 k), fun k => gpre (ix2 0 k)⟩

/-- The gates. -/
theorem ref_gate0_at (R : Fin 16384) (e : Fin 1024) :
    val_main_v6 (F := Ideal) z (ix2 R e) = Ideal.logistic (z (ix2 R ⟨2048 + e.val, by omega⟩)) := by
  pointwise [val_main_v6, val_main_v5, val_main_v4, val_main_v3, val_main_v2, val_main_v1, val_main_v0, val_main_cst, val_main_cst_0]
  rfl

/-- The second gate. -/
theorem ref_gate1_at (R : Fin 16384) (e : Fin 1024) :
    val_main_v16 (F := Ideal) z (ix2 R e) = Ideal.logistic (z (ix2 R ⟨3072 + e.val, by omega⟩)) := by
  pointwise [val_main_v16, val_main_v15, val_main_v14, val_main_v13, val_main_v12, val_main_v11, val_main_v10, val_main_cst_1, val_main_cst_2]
  rfl

/-- The third gate. -/
theorem ref_gate2_at (R : Fin 16384) (e : Fin 1024) :
    val_main_v27 (F := Ideal) z (ix2 R e) = Ideal.logistic (z (ix2 R ⟨4096 + e.val, by omega⟩)) := by
  pointwise [val_main_v27, val_main_v26, val_main_v25, val_main_v24, val_main_v23, val_main_v22, val_main_v21, val_main_cst_3, val_main_cst_4]
  rfl

/-- The gated sum. -/
theorem ref_mixed_at (R : Fin 16384) (e : Fin 1024) :
    val_main_v31 (F := Ideal) b0 b1 b2 z w0 w1 w2 (ix2 R e)
      = mixed (argRow b0 b1 b2 z x R) (argWeights w0 w1 w2 wo gpost gpre) e := by
  have h : val_main_v31 (F := Ideal) b0 b1 b2 z w0 w1 w2 (ix2 R e)
      = val_main_v6 (F := Ideal) z (ix2 R e) * (∑ k, b0 (ix2 R k) * w0 (ix2 k e))
        + val_main_v16 (F := Ideal) z (ix2 R e) * (∑ k, b1 (ix2 R k) * w1 (ix2 k e))
        + val_main_v27 (F := Ideal) z (ix2 R e) * (∑ k, b2 (ix2 R k) * w2 (ix2 k e)) := by
    pointwise [val_main_v31, val_main_v30, val_main_v29, val_main_v28, val_main_v20, val_main_v19, val_main_v18, val_main_v17,
      val_main_v9, val_main_v8, val_main_v7]
  rw [h, ref_gate0_at, ref_gate1_at, ref_gate2_at]
  rfl

/-- The output projection. -/
theorem ref_merged_at (R : Fin 16384) (C : Fin 1024) :
    val_main_v32 (F := Ideal) b0 b1 b2 z w0 w1 w2 wo (ix2 R C)
      = merged (argRow b0 b1 b2 z x R) (argWeights w0 w1 w2 wo gpost gpre) C := by
  have h : val_main_v32 (F := Ideal) b0 b1 b2 z w0 w1 w2 wo (ix2 R C)
      = ∑ e, val_main_v31 (F := Ideal) b0 b1 b2 z w0 w1 w2 (ix2 R e) * wo (ix2 e C) := by
    pointwise [val_main_v32]
  rw [h, merged]
  exact Finset.sum_congr rfl fun e _ => by rw [ref_mixed_at b0 b1 b2 z x w0 w1 w2 wo gpost gpre]; rfl

/-- The residual. -/
theorem ref_resid_at (R : Fin 16384) (C : Fin 1024) :
    val_main_v45 (F := Ideal) b0 b1 b2 z x w0 w1 w2 wo gpost (ix2 R C)
      = resid (argRow b0 b1 b2 z x R) (argWeights w0 w1 w2 wo gpost gpre) C := by
  have h : val_main_v45 (F := Ideal) b0 b1 b2 z x w0 w1 w2 wo gpost (ix2 R C)
      = x (ix2 R C) + normed (fun k => val_main_v32 (F := Ideal) b0 b1 b2 z w0 w1 w2 wo (ix2 R k)) (fun k => gpost (ix2 0 k)) C := by
    pointwise [normed, val_main_v45, val_main_v44, val_main_v43, val_main_v42, val_main_v41, val_main_v40, val_main_v39, val_main_v38,
      val_main_v37, val_main_v36, val_main_v35, val_main_v34, val_main_v33, val_main_cst_5, val_main_cst_6, val_main_cst_7]
  rw [h]
  simp only [ref_merged_at b0 b1 b2 z x w0 w1 w2 wo gpost gpre]
  rfl

/-- The rows normalised again. -/
theorem ref_next_at (R : Fin 16384) (C : Fin 1024) :
    val_main_v58 (F := Ideal) b0 b1 b2 z x w0 w1 w2 wo gpost gpre (ix2 R C)
      = next (argRow b0 b1 b2 z x R) (argWeights w0 w1 w2 wo gpost gpre) C := by
  have h : val_main_v58 (F := Ideal) b0 b1 b2 z x w0 w1 w2 wo gpost gpre (ix2 R C)
      = normed (fun k => val_main_v45 (F := Ideal) b0 b1 b2 z x w0 w1 w2 wo gpost (ix2 R k)) (fun k => gpre (ix2 0 k)) C := by
    pointwise [normed, val_main_v58, val_main_v57, val_main_v56, val_main_v55, val_main_v54, val_main_v53, val_main_v52, val_main_v51,
      val_main_v50, val_main_v49, val_main_v48, val_main_v47, val_main_v46, val_main_cst_8, val_main_cst_9, val_main_cst_10]
  rw [h]
  simp only [ref_resid_at b0 b1 b2 z x w0 w1 w2 wo gpost gpre]
  rfl

end Cert.Merge

end
-- ==== Proof.MergeArray.lean ====
/- What the two result arrays of the merge hold after the run, and that the reference computes them. -/
module

public import proofs.«01_k».proof.Proof.MergePoint
public import proofs.«01_k».proof.Proof.MergeRef
public import proofs.«01_k».proof.Proof.Gen.Kernel3Ideal.Value

@[expose] public section

set_option maxRecDepth 16384
set_option maxHeartbeats 400000

noncomputable section

namespace Cert.Merge

open Idealize.ShloMosaic Idealize.ShloMosaic.TcCoe Idealize.SL.Sem Cert.Kernel3Ideal Cert.Kernel3Ideal.Gen Cert.Kernel3Ideal.Value
open Cert.Proj (normed)

attribute [local irreducible] normed mixed merged resid next

/-! ## The result arrays -/

section
variable (b0 b1 b2 : Vec Ideal S16384x1024 .bf16) (z : Vec Ideal S16384x5120 .f32) (x : Vec Ideal S16384x1024 .f32)
  (w0 w1 w2 wo : Vec Ideal S1024x1024 .f32) (gpost gpre : Vec Ideal S1x1024 .f32)

/-- The residual with the merged mixers added. -/
def residArr : Vec Ideal S16384x1024 .f32 := fun i =>
  resid (argRow b0 b1 b2 z x (i 0)) (argWeights w0 w1 w2 wo gpost gpre) (i 1)
/-- Its rows normalised. -/
def nextArr : Vec Ideal S16384x1024 .bf16 := fun i =>
  next (argRow b0 b1 b2 z x (i 0)) (argWeights w0 w1 w2 wo gpost gpre) (i 1)
end

/-- A matrix as the kernel is given it. -/
def castW (w : Vec Ideal S1024x1024 .f32) : Vec Ideal S1024x1024 .bf16 := truncf (F := Ideal) .bf16 w bitsLt_bf16_f32

/-- The cast of the weights changes no entry. -/
theorem castW_at (w : Vec Ideal S1024x1024 .f32) (i : S1024x1024.Idx) : castW w i = w i := rfl

/-! ## Where each grid point reads and writes -/

/-- The number of grid points. -/
theorem points : cfg0.N = 32 := (by decide +kernel : grid0.N = 32)
/-- The grid points are numbered below the size of the grid. -/
theorem point_lt (t : Fin cfg0.N) : t.val < 32 := points ▸ t.isLt
/-- Which block of the first array a grid point works on. -/
theorem index0 : ∀ t : Fin cfg0.N, win0_0.index t (0 : Fin 2) = t.val ∧ win0_0.index t (1 : Fin 2) = 0 :=
  (by decide +kernel : ∀ t : Fin grid0.N, _)
/-- Which block of the second array a grid point works on. -/
theorem index1 : ∀ t : Fin cfg0.N, win0_1.index t (0 : Fin 2) = t.val ∧ win0_1.index t (1 : Fin 2) = 0 :=
  (by decide +kernel : ∀ t : Fin grid0.N, _)
/-- Which block of the third array a grid point works on. -/
theorem index2 : ∀ t : Fin cfg0.N, win0_2.index t (0 : Fin 2) = t.val ∧ win0_2.index t (1 : Fin 2) = 0 :=
  (by decide +kernel : ∀ t : Fin grid0.N, _)
/-- Which block of the fourth array a grid point works on. -/
theorem index3 : ∀ t : Fin cfg0.N, win0_3.index t (0 : Fin 2) = t.val ∧ win0_3.index t (1 : Fin 2) = 2 :=
  (by decide +kernel : ∀ t : Fin grid0.N, _)
/-- Which block of the fifth array a grid point works on. -/
theorem index4 : ∀ t : Fin cfg0.N, win0_4.index t (0 : Fin 2) = t.val ∧ win0_4.index t (1 : Fin 2) = 3 :=
  (by decide +kernel : ∀ t : Fin grid0.N, _)
/-- Which block of the sixth array a grid point works on. -/
theorem index5 : ∀ t : Fin cfg0.N, win0_5.index t (0 : Fin 2) = t.val ∧ win0_5.index t (1 : Fin 2) = 4 :=
  (by decide +kernel : ∀ t : Fin grid0.N, _)
/-- Which block of the seventh array a grid point works on. -/
theorem index6 : ∀ t : Fin cfg0.N, win0_6.index t (0 : Fin 2) = t.val ∧ win0_6.index t (1 : Fin 2) = 0 :=
  (by decide +kernel : ∀ t : Fin grid0.N, _)
/-- Which block of the fourteenth array a grid point works on. -/
theorem index13 : ∀ t : Fin cfg0.N, win0_13.index t (0 : Fin 2) = t.val ∧ win0_13.index t (1 : Fin 2) = 0 :=
  (by decide +kernel : ∀ t : Fin grid0.N, _)
/-- Which block of the fifteenth array a grid point works on. -/
theorem index14 : ∀ t : Fin cfg0.N, win0_14.index t (0 : Fin 2) = t.val ∧ win0_14.index t (1 : Fin 2) = 0 :=
  (by decide +kernel : ∀ t : Fin grid0.N, _)
/-- Which block of the eighth array a grid point works on. -/
theorem index7 : ∀ t : Fin cfg0.N, win0_7.index t (0 : Fin 2) = 0 ∧ win0_7.index t (1 : Fin 2) = 0 :=
  (by decide +kernel : ∀ t : Fin grid0.N, _)
/-- Which block of the ninth array a grid point works on. -/
theorem index8 : ∀ t : Fin cfg0.N, win0_8.index t (0 : Fin 2) = 0 ∧ win0_8.index t (1 : Fin 2) = 0 :=
  (by decide +kernel : ∀ t : Fin grid0.N, _)
/-- Which block of the tenth array a grid point works on. -/
theorem index9 : ∀ t : Fin cfg0.N, win0_9.index t (0 : Fin 2) = 0 ∧ win0_9.index t (1 : Fin 2) = 0 :=
  (by decide +kernel : ∀ t : Fin grid0.N, _)
/-- Which block of the eleventh array a grid point works on. -/
theorem index10 : ∀ t : Fin cfg0.N, win0_10.index t (0 : Fin 2) = 0 ∧ win0_10.index t (1 : Fin 2) = 0 :=
  (by decide +kernel : ∀ t : Fin grid0.N, _)
/-- Which block of the twelfth array a grid point works on. -/
theorem index11 : ∀ t : Fin cfg0.N, win0_11.index t (0 : Fin 2) = 0 ∧ win0_11.index t (1 : Fin 2) = 0 :=
  (by decide +kernel : ∀ t : Fin grid0.N, _)
/-- Which block of the thirteenth array a grid point works on. -/
theorem index12 : ∀ t : Fin cfg0.N, win0_12.index t (0 : Fin 2) = 0 ∧ win0_12.index t (1 : Fin 2) = 0 :=
  (by decide +kernel : ∀ t : Fin grid0.N, _)

section
variable (m : (ℓ : Loc nD τ sig) → Buf (Elt Ideal) ℓ) (c : Dev nD) (t : Fin cfg0.N)

/-! The arrays of the matrices: the arguments, cast. -/

/-- The kernel is given the cast first weights. -/
theorem V_w0 : V m c main_v0 = castW (m ((c : Thread nD τ).loc main_arg5)) := rfl
/-- The kernel is given the cast second weights. -/
theorem V_w1 : V m c main_v1 = castW (m ((c : Thread nD τ).loc main_arg6)) := rfl
/-- The kernel is given the cast third weights. -/
theorem V_w2 : V m c main_v2 = castW (m ((c : Thread nD τ).loc main_arg7)) := rfl
/-- The kernel is given the cast output weights. -/
theorem V_w3 : V m c main_v3 = castW (m ((c : Thread nD τ).loc main_arg8)) := rfl

/-! The blocks of a point: rows of the arguments, or the whole argument. -/

/-- A point's rows of the first mixer. -/
theorem block0 (r : Fin 512) (e : Fin 1024) :
    iblk m c 0 t (ix2 r e) = m ((c : Thread nD τ).loc main_arg0) (ix2 (⟨512 * t.val + r.val, by have := point_lt t; omega⟩ : Fin 16384) (e)) := by
  obtain ⟨e0, e1⟩ := index0 t
  rw [← V_main_arg0 m c]
  show V m c main_arg0 (((cfg0.win 0).blk t).view.emb (ix2 r e)) = _
  refine congrArg (V m c main_arg0) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * e.val = e.val; omega

/-- A point's rows of the second mixer. -/
theorem block1 (r : Fin 512) (e : Fin 1024) :
    iblk m c 1 t (ix2 r e) = m ((c : Thread nD τ).loc main_arg1) (ix2 (⟨512 * t.val + r.val, by have := point_lt t; omega⟩ : Fin 16384) (e)) := by
  obtain ⟨e0, e1⟩ := index1 t
  rw [← V_main_arg1 m c]
  show V m c main_arg1 (((cfg0.win 1).blk t).view.emb (ix2 r e)) = _
  refine congrArg (V m c main_arg1) (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * e.val = e.val; omega

/-- A point's rows of the third mixer. -/
theorem block2 (r : Fin 512) (e : Fin 1024) :
    iblk m c 2 t (ix2 r e) = m ((c : Thread nD τ).loc main_arg2) (ix2 (⟨512 * t.val + r.val, by have := point_lt t; omega⟩ : Fin 16384) (e)) := by
  obtain ⟨e0, e1⟩ := index2 t
  rw [← V_main_arg2 m c]
  show V m c main_arg2 (((cfg0.win 2).blk t).view.emb (ix2 r e)) = _
  refine congrArg (V m c main_arg2) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * e.val = e.val; omega

/-- A point's rows of the first gate. -/
theorem block3 (r : Fin 512) (e : Fin 1024) :
    iblk m c 3 t (ix2 r e) = m ((c : Thread nD τ).loc main_arg3) (ix2 (⟨512 * t.val + r.val, by have := point_lt t; omega⟩ : Fin 16384) (⟨2048 + e.val, by omega⟩ : Fin 5120)) := by
  obtain ⟨e0, e1⟩ := index3 t
  rw [← V_main_arg3 m c]
  show V m c main_arg3 (((cfg0.win 3).blk t).view.emb (ix2 r e)) = _
  refine congrArg (V m c main_arg3) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * e.val = 2048 + e.val; omega

/-- A point's rows of the second gate. -/
theorem block4 (r : Fin 512) (e : Fin 1024) :
    iblk m c 4 t (ix2 r e) = m ((c : Thread nD τ).loc main_arg3) (ix2 (⟨512 * t.val + r.val, by have := point_lt t; omega⟩ : Fin 16384) (⟨3072 + e.val, by omega⟩ : Fin 5120)) := by
  obtain ⟨e0, e1⟩ := index4 t
  rw [← V_main_arg3 m c]
  show V m c main_arg3 (((cfg0.win 4).blk t).view.emb (ix2 r e)) = _
  refine congrArg (V m c main_arg3) (funext fun a => Fin.ext ?_)
  match a with
  | ⟨0, _⟩ => show win0_4.index t (0 : Fin 2) * 512 + 1 * r.val = 512 * t.val + r.val; omega
  | ⟨1, _⟩ => show win0_4.index t (1 : Fin 2) * 1024 + 1 * e.val = 3072 + e.val; omega

/-- A point's rows of the third gate. -/
theorem block5 (r : Fin 512) (e : Fin 1024) :
    iblk m c 5 t (ix2 r e) = m ((c : Thread nD τ).loc main_arg3) (ix2 (⟨512 * t.val + r.val, by have := point_lt t; omega⟩ : Fin 16384) (⟨4096 + e.val, by omega⟩ : Fin 5120)) := by
  obtain ⟨e0, e1⟩ := index5 t
  rw [← V_main_arg3 m c]
  show V m c main_arg3 (((cfg0.win 5).blk t).view.emb (ix2 r e)) = _
  refine congrArg (V m c main_arg3) (funext fun a => Fin.ext ?_)
  match a with
  | ⟨0, _⟩ => show win0_5.index t (0 : Fin 2) * 512 + 1 * r.val = 512 * t.val + r.val; omega
  | ⟨1, _⟩ => show win0_5.index t (1 : Fin 2) * 1024 + 1 * e.val = 4096 + e.val; omega

/-- A point's rows of the residual. -/
theorem block6 (r : Fin 512) (e : Fin 1024) :
    iblk m c 6 t (ix2 r e) = m ((c : Thread nD τ).loc main_arg4) (ix2 (⟨512 * t.val + r.val, by have := point_lt t; omega⟩ : Fin 16384) (e)) := by
  obtain ⟨e0, e1⟩ := index6 t
  rw [← V_main_arg4 m c]
  show V m c main_arg4 (((cfg0.win 6).blk t).view.emb (ix2 r e)) = _
  refine congrArg (V m c main_arg4) (funext fun a => Fin.ext ?_)
  match a with
  | ⟨0, _⟩ => show win0_6.index t (0 : Fin 2) * 512 + 1 * r.val = 512 * t.val + r.val; omega
  | ⟨1, _⟩ => show win0_6.index t (1 : Fin 2) * 1024 + 1 * e.val = e.val; omega

/-- A point is given the whole first weights. -/
theorem block7 (j : S1024x1024.Idx) : iblk m c 7 t j = m ((c : Thread nD τ).loc main_arg5) j := by
  obtain ⟨e0, e1⟩ := index7 t
  refine Eq.trans ?_ ((congrFun (V_w0 m c) j).trans (castW_at _ j))
  show V m c main_v0 (((cfg0.win 7).blk t).view.emb j) = V m c main_v0 j
  refine congrArg (V m c main_v0) (funext fun a => Fin.ext ?_)
  match a with
  | ⟨0, _⟩ => show win0_7.index t (0 : Fin 2) * 1024 + 1 * (j 0).val = (j 0).val; omega
  | ⟨1, _⟩ => show win0_7.index t (1 : Fin 2) * 1024 + 1 * (j 1).val = (j 1).val; omega

/-- A point is given the whole second weights. -/
theorem block8 (j : S1024x1024.Idx) : iblk m c 8 t j = m ((c : Thread nD τ).loc main_arg6) j := by
  obtain ⟨e0, e1⟩ := index8 t
  refine Eq.trans ?_ ((congrFun (V_w1 m c) j).trans (castW_at _ j))
  show V m c main_v1 (((cfg0.win 8).blk t).view.emb j) = V m c main_v1 j
  refine congrArg (V m c main_v1) (funext fun a => Fin.ext ?_)
  match a with
  | ⟨0, _⟩ => show win0_8.index t (0 : Fin 2) * 1024 + 1 * (j 0).val = (j 0).val; omega
  | ⟨1, _⟩ => show win0_8.index t (1 : Fin 2) * 1024 + 1 * (j 1).val = (j 1).val; omega

/-- A point is given the whole third weights. -/
theorem block9 (j : S1024x1024.Idx) : iblk m c 9 t j = m ((c : Thread nD τ).loc main_arg7) j := by
  obtain ⟨e0, e1⟩ := index9 t
  refine Eq.trans ?_ ((congrFun (V_w2 m c) j).trans (castW_at _ j))
  show V m c main_v2 (((cfg0.win 9).blk t).view.emb j) = V m c main_v2 j
  refine congrArg (V m c main_v2) (funext fun a => Fin.ext ?_)
  match a with
  | ⟨0, _⟩ => show win0_9.index t (0 : Fin 2) * 1024 + 1 * (j 0).val = (j 0).val; omega
  | ⟨1, _⟩ => show win0_9.index t (1 : Fin 2) * 1024 + 1 * (j 1).val = (j 1).val; omega

/-- A point is given the whole output weights. -/
theorem block10 (j : S1024x1024.Idx) : iblk m c 10 t j = m ((c : Thread nD τ).loc main_arg8) j := by
  obtain ⟨e0, e1⟩ := index10 t
  refine Eq.trans ?_ ((congrFun (V_w3 m c) j).trans (castW_at _ j))
  show V m c main_v3 (((cfg0.win 10).blk t).view.emb j) = V m c main_v3 j
  refine congrArg (V m c main_v3) (funext fun a => Fin.ext ?_)
  match a with
  | ⟨0, _⟩ => show win0_10.index t (0 : Fin 2) * 1024 + 1 * (j 0).val = (j 0).val; omega
  | ⟨1, _⟩ => show win0_10.index t (1 : Fin 2) * 1024 + 1 * (j 1).val = (j 1).val; omega

/-- A point is given the whole first gain. -/
theorem block11 : iblk m c 11 t = m ((c : Thread nD τ).loc main_arg9) := by
  obtain ⟨e0, e1⟩ := index11 t
  rw [← V_main_arg9 m c]
  funext j
  show V m c main_arg9 (((cfg0.win 11).blk t).view.emb j) = V m c main_arg9 j
  refine congrArg (V m c main_arg9) (funext fun a => Fin.ext ?_)
  match a with
  | ⟨0, _⟩ => show win0_11.index t (0 : Fin 2) * 1 + 1 * (j 0).val = (j 0).val; omega
  | ⟨1, _⟩ => show win0_11.index t (1 : Fin 2) * 1024 + 1 * (j 1).val = (j 1).val; omega

/-- A point is given the whole second gain. -/
theorem block12 : iblk m c 12 t = m ((c : Thread nD τ).loc main_arg10) := by
  obtain ⟨e0, e1⟩ := index12 t
  rw [← V_main_arg10 m c]
  funext j
  show V m c main_arg10 (((cfg0.win 12).blk t).view.emb j) = V m c main_arg10 j
  refine congrArg (V m c main_arg10) (funext fun a => Fin.ext ?_)
  match a with
  | ⟨0, _⟩ => show win0_12.index t (0 : Fin 2) * 1 + 1 * (j 0).val = (j 0).val; omega
  | ⟨1, _⟩ => show win0_12.index t (1 : Fin 2) * 1024 + 1 * (j 1).val = (j 1).val; omega

/-- A row of a point's blocks is a row of the arguments. -/
theorem row_eq (r : Fin 512) :
    rowOf (iblk m c 3 t) (iblk m c 4 t) (iblk m c 5 t) (iblk m c 6 t) (iblk m c 0 t) (iblk m c 1 t) (iblk m c 2 t) r
      = argRow (m ((c : Thread nD τ).loc main_arg0)) (m ((c : Thread nD τ).loc main_arg1)) (m ((c : Thread nD τ).loc main_arg2)) (m ((c : Thread nD τ).loc main_arg3)) (m ((c : Thread nD τ).loc main_arg4))
          ⟨512 * t.val + r.val, by have := point_lt t; omega⟩ := by
  unfold rowOf argRow
  simp only [block0, block1, block2, block3, block4, block5, block6]

/-- The weights of a point are the arguments. -/
theorem weights_eq :
    weightsOf (iblk m c 7 t) (iblk m c 8 t) (iblk m c 9 t) (iblk m c 10 t) (iblk m c 11 t) (iblk m c 12 t)
      = argWeights (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold weightsOf argWeights
  simp only [block7, block8, block9, block10, block11, block12]

/-- The result arrays, of the arguments. -/
abbrev residA : Vec Ideal S16384x1024 .f32 :=
  residArr (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The normed rows of what the run starts from. -/
abbrev nextA : Vec Ideal S16384x1024 .bf16 :=
  nextArr (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## What a point writes back is its block of the result arrays -/

/-- A point writes back its part of the array of the residual rows. -/
theorem resid_flushed : (dats m 0 c).flushed 13 t = ((cfg0.win 13).blk t).view.read (Elt Ideal) (residA m c) := by
  have ht := point_lt t
  obtain ⟨e0, e1⟩ := index13 t
  suffices H : ∀ (r : Fin 512) (C : Fin 1024), (dats m 0 c).flushed 13 t (ix2 r C)
      = residA m c (((cfg0.win 13).blk t).view.emb (ix2 r C)) by
    funext j
    rw [← ix2_eta j]
    exact H (j 0) (j 1)
  intro r C
  have hf : (dats m 0 c).flushed 13 t (ix2 r C)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r C) := by
    rw [flushed13]
    rfl
  refine hf.trans ((first_at _ _ _ _ _ _ _ _ _ _ _ _ _ r C).trans ?_)
  rw [row_eq, weights_eq]
  refine congr (congrArg (fun R => resid (argRow _ _ _ _ _ R) _) (Fin.ext ?_)) (Fin.ext ?_)
  · show 512 * t.val + r.val = win0_13.index t (0 : Fin 2) * 512 + 1 * r.val
    omega
  · show C.val = win0_13.index t (1 : Fin 2) * 1024 + 1 * C.val
    omega

/-- A point writes back its part of the array of the normed rows. -/
theorem next_flushed : (dats m 0 c).flushed 14 t = ((cfg0.win 14).blk t).view.read (Elt Ideal) (nextA m c) := by
  have ht := point_lt t
  obtain ⟨e0, e1⟩ := index14 t
  suffices H : ∀ (r : Fin 512) (C : Fin 1024), (dats m 0 c).flushed 14 t (ix2 r C)
      = nextA m c (((cfg0.win 14).blk t).view.emb (ix2 r C)) by
    funext j
    rw [← ix2_eta j]
    exact H (j 0) (j 1)
  intro r C
  have hf : (dats m 0 c).flushed 14 t (ix2 r C)
      = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r C) := by
    rw [flushed14]
    rfl
  refine hf.trans ((second_at _ _ _ _ _ _ _ _ _ _ _ _ _ r C).trans ?_)
  rw [row_eq, weights_eq]
  refine congr (congrArg (fun R => next (argRow _ _ _ _ _ R) _) (Fin.ext ?_)) (Fin.ext ?_)
  · show 512 * t.val + r.val = win0_14.index t (0 : Fin 2) * 512 + 1 * r.val
    omega
  · show C.val = win0_14.index t (1 : Fin 2) * 1024 + 1 * C.val
    omega

end

/-! ## Every index is in some point's block -/

/-- Every entry of the array of the residual rows is in the block of some point. -/
theorem resid_covered (i : S16384x1024.Idx) : ∃ t : Fin cfg0.N, (cfg0.win 13).flush t = true ∧ i ∈ ((cfg0.win 13).blk t).view.set := by
  have h0 : (i 0).val < 16384 := (i 0).isLt
  have hN := points
  refine ⟨⟨(i 0).val / 512, by omega⟩, flush0_13 _, ?_⟩
  obtain ⟨e0, e1⟩ := index13 (⟨(i 0).val / 512, by omega⟩ : Fin cfg0.N)
  have h := ((cfg0.win 13).blk (⟨(i 0).val / 512, by omega⟩ : Fin cfg0.N)).view.emb_mem_set (ix2 (⟨(i 0).val % 512, by omega⟩ : Fin 512) (i 1))
  refine (congrArg (· ∈ _) (funext fun a => Fin.ext ?_)).mp h
  match a with
  | ⟨0, _⟩ => show win0_13.index _ (0 : Fin 2) * 512 + 1 * ((i 0).val % 512) = (i 0).val; rw [e0]; dsimp only; omega
  | ⟨1, _⟩ => show win0_13.index _ (1 : Fin 2) * 1024 + 1 * (i 1).val = (i 1).val; rw [e1]; omega

/-- Every entry of the array of the normed rows is in the block of some point. -/
theorem next_covered (i : S16384x1024.Idx) : ∃ t : Fin cfg0.N, (cfg0.win 14).flush t = true ∧ i ∈ ((cfg0.win 14).blk t).view.set := by
  have h0 : (i 0).val < 16384 := (i 0).isLt
  have hN := points
  refine ⟨⟨(i 0).val / 512, by omega⟩, flush0_14 _, ?_⟩
  obtain ⟨e0, e1⟩ := index14 (⟨(i 0).val / 512, by omega⟩ : Fin cfg0.N)
  have h := ((cfg0.win 14).blk (⟨(i 0).val / 512, by omega⟩ : Fin cfg0.N)).view.emb_mem_set (ix2 (⟨(i 0).val % 512, by omega⟩ : Fin 512) (i 1))
  refine (congrArg (· ∈ _) (funext fun a => Fin.ext ?_)).mp h
  match a with
  | ⟨0, _⟩ => show win0_14.index _ (0 : Fin 2) * 512 + 1 * ((i 0).val % 512) = (i 0).val; rw [e0]; dsimp only; omega
  | ⟨1, _⟩ => show win0_14.index _ (1 : Fin 2) * 1024 + 1 * (i 1).val = (i 1).val; rw [e1]; omega

/-! ## The result arrays after the run, and the reference -/

section
variable (m : (ℓ : Loc nD τ sig) → Buf (Elt Ideal) ℓ) (c : Dev nD)

/-- After the run the array of the residual rows holds what it should. -/
theorem resid_result : (dats m 0 c).arrAt 13 cfg0.N = residA m c :=
  (dats m 0 c).arrAt_eq_of_cover 13 _ (fun t _ => resid_flushed m c t) resid_covered

/-- After the run the array of the normed rows holds what it should. -/
theorem next_result : (dats m 0 c).arrAt 14 cfg0.N = nextA m c :=
  (dats m 0 c).arrAt_eq_of_cover 14 _ (fun t _ => next_flushed m c t) next_covered

end

section
open Cert.Reference3Ideal.Read
variable (b0 b1 b2 : Vec Ideal S16384x1024 .bf16) (z : Vec Ideal S16384x5120 .f32) (x : Vec Ideal S16384x1024 .f32)
  (w0 w1 w2 wo : Vec Ideal S1024x1024 .f32) (gpost gpre : Vec Ideal S1x1024 .f32)

/-- The reference's residual does not read the gain of the second norm. -/
theorem resid_eq : val_main_v45 (F := Ideal) b0 b1 b2 z x w0 w1 w2 wo gpost = residArr b0 b1 b2 z x w0 w1 w2 wo gpost gpre := funext fun i => by
  rw [← ix2_eta i]
  exact ref_resid_at b0 b1 b2 z x w0 w1 w2 wo gpost gpre _ _

/-- The reference computes the array of the normed rows. -/
theorem next_eq : val_main_v58 (F := Ideal) b0 b1 b2 z x w0 w1 w2 wo gpost gpre = nextArr b0 b1 b2 z x w0 w1 w2 wo gpost gpre := funext fun i => by
  rw [← ix2_eta i]
  exact ref_next_at b0 b1 b2 z x w0 w1 w2 wo gpost gpre _ _

end

end Cert.Merge

end
-- ==== Proof.MemPoint.lean ====
/- What one grid point of the memory projection computes: normalised rows times a block of columns of the weights. -/
module

public import proofs.«01_k».proof.Proof.Whole
public import proofs.«01_k».proof.Proof.ProjPoint
public import proofs.«01_k».proof.Proof.Gen.Kernel4Ideal
public import proofs.«01_k».proof.Proof.Gen.Kernel4Ideal.Skeleton
public import proofs.«01_k».proof.Proof.Gen.Kernel4Ideal.Frame

@[expose] public section

set_option maxRecDepth 16384
set_option maxHeartbeats 400000

noncomputable section

namespace Cert.Mem

open Idealize.ShloMosaic Idealize.SL.Sem Cert.Kernel4Ideal Cert.Kernel4Ideal.Gen
open Cert.Proj (normed)

/-- The stored block at an index. -/
theorem pay_at (x : Vec Ideal S512x1024 .f32) (g : Vec Ideal S1x1024 .f32) (w : Vec Ideal S1024x1024 .bf16)
    (r : Fin 512) (C : Fin 1024) :
    k0_pay1 x g w (ix3 0 r C) = ∑ e, normed (fun k => x (ix2 r k)) (fun k => g (ix2 0 k)) e * w (ix2 e C) := by
  pointwise [k0_pay1, normed]

attribute [local irreducible] k0_pay1

/-- The block a point leaves, at an index. -/
theorem out_at (x : Vec Ideal S512x1024 .f32) (g : Vec Ideal S1x1024 .f32) (w : Vec Ideal S1024x1024 .bf16)
    (r : Fin 512) (C : Fin 1024) :
    out0_3 x g w (ix3 0 r C) = ∑ e, normed (fun k => x (ix2 r k)) (fun k => g (ix2 0 k)) e * w (ix2 e C) := by
  have hx : View.ld x r0_0 = x := ld_whole2 x _
  have hg : View.ld g r0_1 = g := ld_whole2 g _
  have hw : View.ld w r0_2 = w := ld_whole2 w _
  unfold out0_3
  rw [hx, hg, hw]
  exact (congrFun (canon_whole3 _ _) _).trans (pay_at x g w r C)

end Cert.Mem

end
-- ==== Proof.MemRef.lean ====
/- What the reference of the memory projection holds at an index. -/
module

public import proofs.«01_k».proof.Proof.ProjPoint
public import proofs.«01_k».proof.Proof.Gen.Reference4Ideal
public import proofs.«01_k».proof.Proof.Gen.Reference4Ideal.Read

@[expose] public section

set_option maxRecDepth 16384
set_option maxHeartbeats 400000

noncomputable section

namespace Cert.Mem

open Idealize.ShloMosaic Idealize.SL.Sem Cert.Reference4Ideal Cert.Reference4Ideal.Gen Cert.Reference4Ideal.Read
open Cert.Proj (normed)

variable (x : Vec Ideal S512x1024 .f32) (g : Vec Ideal S1x1024 .f32) (w : Vec Ideal S1024x2048 .f32)

/-- One entry: a normalised row of the memory times a column of the weights; the keys' columns come first. -/
def entry (j : Fin 2) (R : Fin 512) (C : Fin 1024) : EReal :=
  ∑ e, normed (fun k => x (ix2 R k)) (fun k => g (ix2 0 k)) e * w (ix2 e ⟨j.val * 1024 + C.val, by omega⟩)

/-- The normalised rows. -/
theorem ref_norm_at (R : Fin 512) (e : Fin 1024) :
    val_main_v11 (F := Ideal) x g (ix2 R e) = normed (fun k => x (ix2 R k)) (fun k => g (ix2 0 k)) e := by
  pointwise [normed, val_main_v11, val_main_v10, val_main_v9, val_main_v8, val_main_v7, val_main_v6, val_main_v5, val_main_v4,
    val_main_v3, val_main_v2, val_main_v1, val_main_v0, val_main_cst, val_main_cst_0, val_main_cst_1]

/-- The reference's array. -/
theorem ref_at (j : Fin 2) (R : Fin 512) (C : Fin 1024) :
    val_main_v14 (F := Ideal) x g w (ix3 j R C) = entry x g w j R C := by
  have h : val_main_v14 (F := Ideal) x g w (ix3 j R C)
      = ∑ e, val_main_v11 (F := Ideal) x g (ix2 R e) * w (ix2 e ⟨j.val * 1024 + C.val, by omega⟩) := by
    pointwise [val_main_v14, val_main_v13, val_main_v12]
  rw [h, entry]
  exact Finset.sum_congr rfl fun e _ => by rw [ref_norm_at]

end Cert.Mem

end
-- ==== Proof.MemArray.lean ====
/- What the result array of the memory projection holds after the run, and that the reference computes it. -/
module

public import proofs.«01_k».proof.Proof.MemPoint
public import proofs.«01_k».proof.Proof.MemRef
public import proofs.«01_k».proof.Proof.Gen.Kernel4Ideal.Value

@[expose] public section

set_option maxRecDepth 16384
set_option maxHeartbeats 400000

noncomputable section

namespace Cert.Mem

open Idealize.ShloMosaic Idealize.ShloMosaic.TcCoe Idealize.SL.Sem Cert.Kernel4Ideal Cert.Kernel4Ideal.Gen Cert.Kernel4Ideal.Value
open Cert.Proj (normed)

attribute [local irreducible] normed

/-- The keys and the values of the memory. -/
def memArr (x : Vec Ideal S512x1024 .f32) (g : Vec Ideal S1x1024 .f32) (w : Vec Ideal S1024x2048 .f32) : Vec Ideal S2x512x1024 .f32 :=
  fun i => entry x g w (i 0) (i 1) (i 2)

/-- The weights as the kernel is given them. -/
def castW (w : Vec Ideal S1024x2048 .f32) : Vec Ideal S1024x2048 .bf16 := truncf (F := Ideal) .bf16 w bitsLt_bf16_f32

/-- The cast of the weights changes no entry. -/
theorem castW_at (w : Vec Ideal S1024x2048 .f32) (i : S1024x2048.Idx) : castW w i = w i := rfl

/-! ## Where each grid point reads and writes -/

/-- The number of grid points. -/
theorem points : cfg0.N = 2 := (by decide +kernel : grid0.N = 2)
/-- The grid points are numbered below the size of the grid. -/
theorem point_lt (t : Fin cfg0.N) : t.val < 2 := points ▸ t.isLt
/-- Which block of the first array a grid point works on. -/
theorem index0 : ∀ t : Fin cfg0.N, win0_0.index t (0 : Fin 2) = 0 ∧ win0_0.index t (1 : Fin 2) = 0 :=
  (by decide +kernel : ∀ t : Fin grid0.N, _)
/-- Which block of the second array a grid point works on. -/
theorem index1 : ∀ t : Fin cfg0.N, win0_1.index t (0 : Fin 2) = 0 ∧ win0_1.index t (1 : Fin 2) = 0 :=
  (by decide +kernel : ∀ t : Fin grid0.N, _)
/-- Which block of the third array a grid point works on. -/
theorem index2 : ∀ t : Fin cfg0.N, win0_2.index t (0 : Fin 2) = 0 ∧ win0_2.index t (1 : Fin 2) = t.val :=
  (by decide +kernel : ∀ t : Fin grid0.N, _)
/-- Which block of the fourth array a grid point works on. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

section
variable (m : (ℓ : Loc nD τ sig) → Buf (Elt Ideal) ℓ) (c : Dev nD) (t : Fin cfg0.N)

/-- The arguments. -/
abbrev argX : Vec Ideal S512x1024 .f32 := m ((c : Thread nD τ).loc main_arg0)
/-- The gain the run starts from. -/
abbrev argG : Vec Ideal S1x1024 .f32 := m ((c : Thread nD τ).loc main_arg1)
/-- The weights the run starts from. -/
abbrev argW : Vec Ideal S1024x2048 .f32 := m ((c : Thread nD τ).loc main_arg2)

/-- The kernel is given the cast weights. -/
theorem V_weights : V m c main_v0 = castW (m ((c : Thread nD τ).loc main_arg2)) := rfl

/-- A point is given the whole memory. -/
theorem block0 : iblk m c 0 t = argX m c := by
  obtain ⟨e0, e1⟩ := index0 t
  refine Eq.trans ?_ (V_main_arg0 m c)
  funext j
  show V m c main_arg0 (((cfg0.win 0).blk t).view.emb j) = V m c main_arg0 j
  refine congrArg (V m c main_arg0) (funext fun a => Fin.ext ?_)
  match a with
  | ⟨0, _⟩ => show win0_0.index t (0 : Fin 2) * 512 + 1 * (j 0).val = (j 0).val; omega
  | ⟨1, _⟩ => show win0_0.index t (1 : Fin 2) * 1024 + 1 * (j 1).val = (j 1).val; omega

/-- A point is given the whole gain. -/
theorem block1 : iblk m c 1 t = argG m c := by
  obtain ⟨e0, e1⟩ := index1 t
  refine Eq.trans ?_ (V_main_arg1 m c)
  funext j
  show V m c main_arg1 (((cfg0.win 1).blk t).view.emb j) = V m c main_arg1 j
  refine congrArg (V m c main_arg1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- A point is given its half of the weights' columns. -/
theorem block2 (e C : Fin 1024) :
    iblk m c 2 t (ix2 e C) = argW m c (ix2 e ⟨t.val * 1024 + C.val, by have := point_lt t; omega⟩) := by
  obtain ⟨e0, e1⟩ := index2 t
  refine Eq.trans ?_ ((congrFun (V_weights m c) _).trans (castW_at _ _))
  show V m c main_v0 (((cfg0.win 2).blk t).view.emb (ix2 e C)) = _
  refine congrArg (V m c main_v0) (funext fun a => Fin.ext ?_)
  match a with
  | ⟨0, _⟩ => show win0_2.index t (0 : Fin 2) * 1024 + 1 * e.val = e.val; omega
  | ⟨1, _⟩ => show win0_2.index t (1 : Fin 2) * 1024 + 1 * C.val = t.val * 1024 + C.val; omega

/-- What a point writes back is its block of the result array. -/
theorem flushed : (dats m 0 c).flushed 3 t
    = ((cfg0.win 3).blk t).view.read (Elt Ideal) (memArr (argX m c) (argG m c) (argW m c)) := by
  have ht := point_lt t
  obtain ⟨e0, e1, e2⟩ := index3 t
  suffices H : ∀ (r : Fin 512) (C : Fin 1024), (dats m 0 c).flushed 3 t (ix3 0 r C)
      = memArr (argX m c) (argG m c) (argW m c) (((cfg0.win 3).blk t).view.emb (ix3 0 r C)) by
    funext j
    have h0 : (j 0).val < 1 := (j 0).isLt
    have hj : j = ix3 0 (j 1) (j 2) := by
      funext a
      match a with
      | ⟨0, _⟩ => exact Fin.ext (show (j 0).val = 0 by omega)
      | ⟨1, _⟩ => rfl
      | ⟨2, _⟩ => rfl
    rw [hj]
    exact H (j 1) (j 2)
  intro r C
  have hf : (dats m 0 c).flushed 3 t (ix3 0 r C) = out0_3 (iblk m c 0 t) (iblk m c 1 t) (iblk m c 2 t) (ix3 0 r C) := by
    rw [flushed3]
    rfl
  have hs : ∑ e, normed (fun k => iblk m c 0 t (ix2 r k)) (fun k => iblk m c 1 t (ix2 0 k)) e * iblk m c 2 t (ix2 e C)
      = entry (argX m c) (argG m c) (argW m c) ⟨t.val, ht⟩ r C := by
    rw [block0, block1, entry]
    exact Finset.sum_congr rfl fun e _ => congrArg (_ * ·) (block2 m c t e C)
  refine hf.trans ((out_at _ _ _ r C).trans (hs.trans ?_))
  refine congr (congrArg₂ (entry _ _ _) (Fin.ext ?_) (Fin.ext ?_)) (Fin.ext ?_)
  · show t.val = win0_3.index t (0 : Fin 3) * 1 + 1 * 0
    omega
  · show r.val = win0_3.index t (1 : Fin 3) * 512 + 1 * r.val
    omega
  · show C.val = win0_3.index t (2 : Fin 3) * 1024 + 1 * C.val
    omega
end

/-- Every index is in some point's block. -/
theorem covered (i : S2x512x1024.Idx) : ∃ t : Fin cfg0.N, (cfg0.win 3).flush t = true ∧ i ∈ ((cfg0.win 3).blk t).view.set := by
  have h0 : (i 0).val < 2 := (i 0).isLt
  have hN := points
  refine ⟨⟨(i 0).val, by omega⟩, flush0_3 _, ?_⟩
  obtain ⟨e0, e1, e2⟩ := index3 (⟨(i 0).val, by omega⟩ : Fin cfg0.N)
  have h := ((cfg0.win 3).blk (⟨(i 0).val, by omega⟩ : Fin cfg0.N)).view.emb_mem_set (ix3 (0 : Fin 1) (i 1) (i 2))
  refine (congrArg (· ∈ _) (funext fun a => Fin.ext ?_)).mp h
  match a with
  | ⟨0, _⟩ => show win0_3.index _ (0 : Fin 3) * 1 + 1 * 0 = (i 0).val; rw [e0]; dsimp only; omega
  | ⟨1, _⟩ => show win0_3.index _ (1 : Fin 3) * 512 + 1 * (i 1).val = (i 1).val; rw [e1]; omega
  | ⟨2, _⟩ => show win0_3.index _ (2 : Fin 3) * 1024 + 1 * (i 2).val = (i 2).val; rw [e2]; omega

/-- The result array after the run. -/
theorem result (m : (ℓ : Loc nD τ sig) → Buf (Elt Ideal) ℓ) (c : Dev nD) :
    (dats m 0 c).arrAt 3 cfg0.N = memArr (argX m c) (argG m c) (argW m c) :=
  (dats m 0 c).arrAt_eq_of_cover 3 _ (fun t _ => flushed m c t) covered

/-- The reference computes that array. -/
theorem ref_eq (x : Vec Ideal S512x1024 .f32) (g : Vec Ideal S1x1024 .f32) (w : Vec Ideal S1024x2048 .f32) :
    Cert.Reference4Ideal.Read.val_main_v14 (F := Ideal) x g w = memArr x g w := funext fun i => by
  rw [← ix3_eta i]
  exact ref_at x g w _ _ _

end Cert.Mem

end
-- ==== Proof.SampleBlock.lean ====
/- What one grid point of the sample group's projection leaves in its four result blocks. -/
module

public import proofs.«01_k».proof.Proof.Load
public import proofs.«01_k».proof.Proof.ProjBlock
public import proofs.«01_k».proof.Proof.Gen.Kernel5Ideal.Frame

@[expose] public section

set_option maxRecDepth 16384
set_option maxHeartbeats 400000

noncomputable section

namespace Cert.Sample

open Idealize.ShloMosaic Idealize.SL.Sem Cert.Kernel5Ideal Cert.Kernel5Ideal.Gen
open Cert.Proj (normed norm_at dot_at forall4 forall5)

/-! The norm and the products are the prompt group's functions of a block. -/

/-- The norm of a block is the prompt group's. -/
theorem norm_eq (x : Vec Ideal S256x1024 .f32) (g : Vec Ideal S1x1024 .f32) :
    k0_pay4 x g = Cert.Kernel2Ideal.Gen.k0_pay1 x g := rfl
/-- This function of a block is the product of the rows with a block of weights. -/
theorem pay1_eq (h : Vec Ideal S256x1024 .bf16) (w : Vec Ideal S1x1024x1024 .bf16) : k0_pay1 h w = Cert.Kernel2Ideal.Gen.k0_pay2 h w := rfl
/-- This function of a block is the product of the rows with a block of weights. -/
theorem pay2_eq (h : Vec Ideal S256x1024 .bf16) (w : Vec Ideal S1x1024x1024 .bf16) : k0_pay2 h w = Cert.Kernel2Ideal.Gen.k0_pay2 h w := rfl
/-- This function of a block is the product of the rows with a block of weights. -/
theorem pay3_eq (h : Vec Ideal S256x1024 .bf16) (w : Vec Ideal S1x1024x1024 .bf16) : k0_pay3 h w = Cert.Kernel2Ideal.Gen.k0_pay2 h w := rfl
/-- This function of a block is the product of the rows with a block of weights. -/
theorem pay5_eq (h : Vec Ideal S256x1024 .bf16) (w : Vec Ideal S1x1024x1024 .bf16) : k0_pay5 h w = Cert.Kernel2Ideal.Gen.k0_pay2 h w := rfl
/-- This function of a block is the product of the rows with a block of weights. -/
theorem pay6_eq (h : Vec Ideal S256x1024 .bf16) (w : Vec Ideal S1x1024x1024 .bf16) : k0_pay6 h w = Cert.Kernel2Ideal.Gen.k0_pay2 h w := rfl
/-- This function of a block is the product of the rows with a block of weights. -/
theorem pay7_eq (h : Vec Ideal S256x1024 .bf16) (w : Vec Ideal S1x1024x1024 .bf16) : k0_pay7 h w = Cert.Kernel2Ideal.Gen.k0_pay2 h w := rfl
/-- This function of a block is the product of the rows with a block of weights. -/
theorem pay8_eq (h : Vec Ideal S256x1024 .bf16) (w : Vec Ideal S1x1024x1024 .bf16) : k0_pay8 h w = Cert.Kernel2Ideal.Gen.k0_pay2 h w := rfl
/-- This function of a block is the product of the rows with a block of weights. -/
theorem pay9_eq (h : Vec Ideal S256x1024 .bf16) (w : Vec Ideal S1x1024x1024 .bf16) : k0_pay9 h w = Cert.Kernel2Ideal.Gen.k0_pay2 h w := rfl
/-- This function of a block is the product of the rows with a block of weights. -/
theorem pay10_eq (h : Vec Ideal S256x1024 .bf16) (w : Vec Ideal S1x1024x1024 .bf16) : k0_pay10 h w = Cert.Kernel2Ideal.Gen.k0_pay2 h w := rfl

/-- A grid point and the memories its kernel is called on: the rows, the gain, the stacked weights, the transposed key
    weights, the four result blocks, and the scratch of the normalised rows. -/
structure Point where
  c : Dev nD
  i : grid0.Coords
  arg1 : Memref sig .tc .vmem S256x1024 .f32
  harg1 : arg1.IsWhole
  arg2 : Memref sig .tc .vmem S1x1024 .f32
  harg2 : arg2.IsWhole
  arg3 : Memref sig .tc .vmem S9x1024x1024 .bf16
  harg3 : arg3.IsWhole
  arg4 : Memref sig .tc .vmem S1024x1024 .bf16
  harg4 : arg4.IsWhole
  arg5 : Memref sig .tc .vmem S256x5120 .f32
  harg5 : arg5.IsWhole
  arg6 : Memref sig .tc .vmem S256x4096 .f32
  harg6 : arg6.IsWhole
  arg7 : Memref sig .tc .vmem S256x1024 .f32
  harg7 : arg7.IsWhole
  arg8 : Memref sig .tc .vmem S256x1024 .f32
  harg8 : arg8.IsWhole
  arg9 : Memref sig .tc .vmem S256x1024 .bf16
  harg9 : arg9.IsWhole

variable (S : Point) (x0 : Vec Ideal S256x1024 .f32) (x1 : Vec Ideal S1x1024 .f32) (x2 : Vec Ideal S9x1024x1024 .bf16)
  (x3 : Vec Ideal S1024x1024 .bf16)

/-! ## What a point loads -/

/-- The rows as loaded. -/
abbrev rowsIn : Vec Ideal S256x1024 .f32 :=
  S.arg1.view.readAt (Elt Ideal) (Rect.unit (s := S256x1024) ![0, 0] S256x1024.size inb_S256x1024_S256x1024_0_0).toLoadRect (S.harg1.unread x0)
/-- The gain as loaded. -/
abbrev gainIn : Vec Ideal S1x1024 .f32 :=
  S.arg2.view.readAt (Elt Ideal) (Rect.unit (s := S1x1024) ![0, 0] S1x1024.size inb_S1x1024_S1x1024_0_0).toLoadRect (S.harg2.unread x1)
/-- The normalised rows. -/
abbrev rowsN : Vec Ideal S256x1024 .bf16 := k0_pay4 (rowsIn S x0) (gainIn S x1)
/-- A block of the stacked weights. -/
def stackBox (k : Fin 9) : Rect S9x1024x1024 := Rect.unit ![k.val, 0, 0] S1x1024x1024.size (by revert k; decide)
/-- Block `k` of the stacked weights, as a point loads it. -/
abbrev stackIn (k : Fin 9) : Vec Ideal S1x1024x1024 .bf16 :=
  S.arg3.view.readAt (Elt Ideal) (stackBox k).toLoadRect (S.harg3.unread x2)
/-- The loaded rows at an index. -/
theorem rowsIn_at (r : Fin 256) (e : Fin 1024) : rowsIn S x0 (ix2 r e) = x0 (ix2 r e) := by
  refine (congrArg (S.arg1.view.read (Elt Ideal) (S.harg1.unread x0)) (a₂ := ix2 r e) (funext fun a => ?_)).trans
    (congrFun (S.harg1.read_unread x0) _)
  match a with
  | ⟨0, _⟩ => exact Fin.ext (show 0 + 1 * r.val = r.val by omega)
  | ⟨1, _⟩ => exact Fin.ext (show 0 + 1 * e.val = e.val by omega)

/-- The loaded gain at an index. -/
theorem gainIn_at (e : Fin 1024) : gainIn S x1 (ix2 0 e) = x1 (ix2 0 e) := by
  refine (congrArg (S.arg2.view.read (Elt Ideal) (S.harg2.unread x1)) (a₂ := ix2 0 e) (funext fun a => ?_)).trans
    (congrFun (S.harg2.read_unread x1) _)
  match a with
  | ⟨0, _⟩ => rfl
  | ⟨1, _⟩ => exact Fin.ext (show 0 + 1 * e.val = e.val by omega)

/-- A loaded block of the stacked weights at an index. -/
theorem stackIn_at (k : Fin 9) (e C : Fin 1024) : stackIn S x2 k (ix3 0 e C) = x2 (ix3 k e C) := by
  refine (congrArg (S.arg3.view.read (Elt Ideal) (S.harg3.unread x2)) (a₂ := ix3 k e C) (funext fun a => ?_)).trans
    (congrFun (S.harg3.read_unread x2) _)
  match a with
  | ⟨0, _⟩ => exact Fin.ext (show k.val + 1 * 0 = k.val by omega)
  | ⟨1, _⟩ => exact Fin.ext (show 0 + 1 * e.val = e.val by omega)
  | ⟨2, _⟩ => exact Fin.ext (show 0 + 1 * C.val = C.val by omega)

/-- The normalised rows at an index. -/
theorem rowsN_at (r : Fin 256) (e : Fin 1024) :
    rowsN S x0 x1 (ix2 r e) = normed (fun k => x0 (ix2 r k)) (fun k => x1 (ix2 0 k)) e := by
  refine (congrFun (norm_eq _ _) (ix2 r e)).trans ((norm_at _ _ r e).trans ?_)
  simp only [rowsIn_at, gainIn_at]

/-- The product with a block of the stacked weights, at an index. -/
theorem prod_at (k : Fin 9) (r : Fin 256) (C : Fin 1024) :
    Cert.Kernel2Ideal.Gen.k0_pay2 (rowsN S x0 x1) (stackIn S x2 k) (ix2 r C)
      = ∑ e, normed (fun k => x0 (ix2 r k)) (fun k => x1 (ix2 0 k)) e * x2 (ix3 k e C) := by
  refine (dot_at _ _ r C).trans ?_
  exact Finset.sum_congr rfl fun e _ => by rw [rowsN_at, stackIn_at]

/-! ## What a point stores -/

/-- The columns of one product in the block of the parts that stay in single precision, and in the attention's block. -/
def freeBox (k : Fin 5) : Rect S256x5120 := Rect.unit ![0, 1024 * k.val] S256x1024.size (by revert k; decide)
/-- Where block `k` of the attention's columns is stored. -/
def attnBox (k : Fin 4) : Rect S256x4096 := Rect.unit ![0, 1024 * k.val] S256x1024.size (by revert k; decide)

/-- The four result blocks of a point. -/
def freeOut : Vec Ideal S256x5120 .f32 := out0_A_4 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the attention's columns a point leaves. -/
def attnOut : Vec Ideal S256x4096 .f32 := out0_A_5 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the keys a point leaves. -/
def keysOut : Vec Ideal S256x1024 .f32 := out0_A_6 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3
/-- The block of the values a point leaves. -/
def valuesOut : Vec Ideal S256x1024 .f32 := out0_A_7 S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3

/-- The normalised rows as a point loads them again from the scratch. -/
theorem scratch_eq : kernelRun0_A.sl.v18 S.c S.arg1 S.harg1 S.arg2 S.harg2 S.arg9 x0 x1 = rowsN S x0 x1 := by
  unfold kernelRun0_A.sl.v18 kernelRun0_A.sl.HS0_1
  unfold View.readCov
  exact load_hit _ _ _ _ _

/-- The normalised rows as a point loads them again later. -/
theorem scratch_eq' : kernelRun0_A.sl.v54 S.c S.arg1 S.harg1 S.arg2 S.harg2 S.arg9 x0 x1 = rowsN S x0 x1 := by
  unfold kernelRun0_A.sl.v54 kernelRun0_A.sl.HS0_1
  unfold View.readCov
  exact load_hit _ _ _ _ _

attribute [local irreducible] k0_pay1 k0_pay2 k0_pay3 k0_pay4 k0_pay5 k0_pay6 k0_pay7 k0_pay8 k0_pay9 k0_pay10 Cert.Kernel2Ideal.Gen.k0_pay2

/-- What a point has stored of the recurrence's inputs and the gates is the product of its rows with their weights. -/
theorem free_piece (k : Fin 5) :
    VO0_4.readAt (Elt Ideal) (freeBox k).toLoadRect (VO0_4.writes (Elt Ideal) VO0_4.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).1)
      = Cert.Kernel2Ideal.Gen.k0_pay2 (rowsN S x0 x1) (stackIn S x2 ⟨k.val, by omega⟩) := by
  unfold kernelRun0_A
  dsimp only
  revert k
  refine forall5 ?_ ?_ ?_ ?_ ?_ <;> beta_reduce <;>
  · repeat (refine (load_skip _ _ _ _ _ _ (by decide)).trans ?_)
    refine (load_hit _ _ _ _ _).trans ?_
    simp only [pay1_eq, pay2_eq, pay3_eq, pay5_eq, pay6_eq, pay7_eq, pay8_eq, pay9_eq, pay10_eq, scratch_eq, scratch_eq']
    rfl

/-- What a point has stored of the attention's columns is the product of its rows with their weights. -/
theorem attn_piece (k : Fin 4) :
    VO0_5.readAt (Elt Ideal) (attnBox k).toLoadRect (VO0_5.writes (Elt Ideal) VO0_5.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.1)
      = Cert.Kernel2Ideal.Gen.k0_pay2 (rowsN S x0 x1) (stackIn S x2 ⟨5 + k.val, by omega⟩) := by
  unfold kernelRun0_A
  dsimp only
  revert k
  refine forall4 ?_ ?_ ?_ ?_ <;> beta_reduce <;>
  · repeat (refine (load_skip _ _ _ _ _ _ (by decide)).trans ?_)
    refine (load_hit _ _ _ _ _).trans ?_
    simp only [pay1_eq, pay2_eq, pay3_eq, pay5_eq, pay6_eq, pay7_eq, pay8_eq, pay9_eq, pay10_eq, scratch_eq, scratch_eq']
    rfl

/-- What a point has stored of the keys is the product of its rows with their weights. -/
theorem keys_piece :
    VO0_6.readAt (Elt Ideal) (Rect.unit (s := S256x1024) ![0, 0] S256x1024.size inb_S256x1024_S256x1024_0_0).toLoadRect
        (VO0_6.writes (Elt Ideal) VO0_6.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.2.1)
      = Cert.Kernel2Ideal.Gen.k0_pay2 (rowsN S x0 x1) (stackIn S x2 6) := by
  unfold kernelRun0_A
  dsimp only
  refine (load_hit _ _ _ _ _).trans ?_
  simp only [pay1_eq, scratch_eq, scratch_eq']
  rfl

/-- What a point has stored of the values is the product of its rows with their weights. -/
theorem values_piece :
    VO0_7.readAt (Elt Ideal) (Rect.unit (s := S256x1024) ![0, 0] S256x1024.size inb_S256x1024_S256x1024_0_0).toLoadRect
        (VO0_7.writes (Elt Ideal) VO0_7.junk (kernelRun0_A S.c S.i S.arg1 S.harg1 S.arg2 S.harg2 S.arg3 S.harg3 S.arg4 S.harg4 S.arg5 S.harg5 S.arg6 S.harg6 S.arg7 S.harg7 S.arg8 S.harg8 S.arg9 S.harg9 x0 x1 x2 x3).2.2.2.1)
      = Cert.Kernel2Ideal.Gen.k0_pay2 (rowsN S x0 x1) (stackIn S x2 7) := by
  unfold kernelRun0_A
  dsimp only
  refine (load_hit _ _ _ _ _).trans ?_
  simp only [pay2_eq, scratch_eq, scratch_eq']
  rfl

/-! ## The result blocks at an index -/

attribute [local irreducible] kernelRun0_A

/-- Reading a stored piece of the recurrence's inputs and the gates gives back what the block holds there. -/
theorem free_read (f : VO0_4.ty.Contents (Elt Ideal)) (k : Fin 5) (r : Fin 256) (C : Fin 1024) :
    VO0_4.read (Elt Ideal) f (ix2 r ⟨1024 * k.val + C.val, by omega⟩) = VO0_4.readAt (Elt Ideal) (freeBox k).toLoadRect f (ix2 r C) := by
  refine congrArg (VO0_4.read (Elt Ideal) f) (a₂ := (freeBox k).toLoadRect.idx (ix2 r C)) (funext fun a => ?_)
  match a with
  | ⟨0, _⟩ => exact Fin.ext (show r.val = 0 + 1 * r.val by omega)
  | ⟨1, _⟩ => exact Fin.ext (show 1024 * k.val + C.val = 1024 * k.val + 1 * C.val by omega)

/-- Reading a stored piece of the attention's columns gives back what the block holds there. -/
theorem attn_read (f : VO0_5.ty.Contents (Elt Ideal)) (k : Fin 4) (r : Fin 256) (C : Fin 1024) :
    VO0_5.read (Elt Ideal) f (ix2 r ⟨1024 * k.val + C.val, by omega⟩) = VO0_5.readAt (Elt Ideal) (attnBox k).toLoadRect f (ix2 r C) := by
  refine congrArg (VO0_5.read (Elt Ideal) f) (a₂ := (attnBox k).toLoadRect.idx (ix2 r C)) (funext fun a => ?_)
  match a with
  | ⟨0, _⟩ => exact Fin.ext (show r.val = 0 + 1 * r.val by omega)
  | ⟨1, _⟩ => exact Fin.ext (show 1024 * k.val + C.val = 1024 * k.val + 1 * C.val by omega)

/-- Reading a stored piece of the keys gives back what the block holds there. -/
theorem keys_read (f : VO0_6.ty.Contents (Elt Ideal)) (r : Fin 256) (C : Fin 1024) :
    VO0_6.read (Elt Ideal) f (ix2 r C) = VO0_6.readAt (Elt Ideal) (Rect.unit (s := S256x1024) ![0, 0] S256x1024.size
      inb_S256x1024_S256x1024_0_0).toLoadRect f (ix2 r C) := by
  refine congrArg (VO0_6.read (Elt Ideal) f) (a₂ := (Rect.unit (s := S256x1024) ![0, 0] S256x1024.size
    inb_S256x1024_S256x1024_0_0).toLoadRect.idx (ix2 r C)) (funext fun a => ?_)
  match a with
  | ⟨0, _⟩ => exact Fin.ext (show r.val = 0 + 1 * r.val by omega)
  | ⟨1, _⟩ => exact Fin.ext (show C.val = 0 + 1 * C.val by omega)

/-- Reading a stored piece of the values gives back what the block holds there. -/
theorem values_read (f : VO0_7.ty.Contents (Elt Ideal)) (r : Fin 256) (C : Fin 1024) :
    VO0_7.read (Elt Ideal) f (ix2 r C) = VO0_7.readAt (Elt Ideal) (Rect.unit (s := S256x1024) ![0, 0] S256x1024.size
      inb_S256x1024_S256x1024_0_0).toLoadRect f (ix2 r C) := by
  refine congrArg (VO0_7.read (Elt Ideal) f) (a₂ := (Rect.unit (s := S256x1024) ![0, 0] S256x1024.size
    inb_S256x1024_S256x1024_0_0).toLoadRect.idx (ix2 r C)) (funext fun a => ?_)
  match a with
  | ⟨0, _⟩ => exact Fin.ext (show r.val = 0 + 1 * r.val by omega)
  | ⟨1, _⟩ => exact Fin.ext (show C.val = 0 + 1 * C.val by omega)

/-- The block of the recurrence's inputs and the gates at an index. -/
theorem free_at (k : Fin 5) (r : Fin 256) (C : Fin 1024) :
    freeOut S x0 x1 x2 x3 (ix2 r ⟨1024 * k.val + C.val, by omega⟩)
      = ∑ e, normed (fun k => x0 (ix2 r k)) (fun k => x1 (ix2 0 k)) e * x2 (ix3 ⟨k.val, by omega⟩ e C) := by
  unfold freeOut out0_A_4
  exact (free_read _ k r C).trans ((congrFun (free_piece S x0 x1 x2 x3 k) (ix2 r C)).trans (prod_at S x0 x1 x2 ⟨k.val, by omega⟩ r C))

/-- The block of the attention's columns at an index. -/
theorem attn_at (k : Fin 4) (r : Fin 256) (C : Fin 1024) :
    attnOut S x0 x1 x2 x3 (ix2 r ⟨1024 * k.val + C.val, by omega⟩)
      = ∑ e, normed (fun k => x0 (ix2 r k)) (fun k => x1 (ix2 0 k)) e * x2 (ix3 ⟨5 + k.val, by omega⟩ e C) := by
  unfold attnOut out0_A_5
  exact (attn_read _ k r C).trans ((congrFun (attn_piece S x0 x1 x2 x3 k) (ix2 r C)).trans (prod_at S x0 x1 x2 ⟨5 + k.val, by omega⟩ r C))

/-- The block of the keys at an index. -/
theorem keys_at (r : Fin 256) (C : Fin 1024) :
    keysOut S x0 x1 x2 x3 (ix2 r C)
      = ∑ e, normed (fun k => x0 (ix2 r k)) (fun k => x1 (ix2 0 k)) e * x2 (ix3 6 e C) := by
  unfold keysOut out0_A_6
  exact (keys_read _ r C).trans ((congrFun (keys_piece S x0 x1 x2 x3) (ix2 r C)).trans (prod_at S x0 x1 x2 6 r C))

/-- The block of the values at an index. -/
theorem values_at (r : Fin 256) (C : Fin 1024) :
    valuesOut S x0 x1 x2 x3 (ix2 r C)
      = ∑ e, normed (fun k => x0 (ix2 r k)) (fun k => x1 (ix2 0 k)) e * x2 (ix3 7 e C) := by
  unfold valuesOut out0_A_7
  exact (values_read _ r C).trans ((congrFun (values_piece S x0 x1 x2 x3) (ix2 r C)).trans (prod_at S x0 x1 x2 7 r C))

end Cert.Sample

end
-- ==== Proof.SampleRef.lean ====
/- What the reference of the sample group's projection holds at an index. -/
module

public import proofs.«01_k».proof.Proof.ProjPoint
public import proofs.«01_k».proof.Proof.Gen.Reference5Ideal
public import proofs.«01_k».proof.Proof.Gen.Reference5Ideal.Read

@[expose] public section

set_option maxRecDepth 1024
set_option maxHeartbeats 400000

noncomputable section

namespace Cert.Sample

open Idealize.ShloMosaic Idealize.SL.Sem Cert.Reference5Ideal Cert.Reference5Ideal.Gen Cert.Reference5Ideal.Read
open Cert.Proj (normed)

variable (x : Vec Ideal S1024x1024 .f32) (g : Vec Ideal S1x1024 .f32) (w : Vec Ideal S1024x9216 .f32)

/-- One entry of the projection: a normalised row times a column of the weights. -/
def sampled (R : Fin 1024) (C : Fin 9216) : EReal :=
  ∑ e, normed (fun k => x (ix2 R k)) (fun k => g (ix2 0 k)) e * w (ix2 e C)

/-- The normalised rows. -/
theorem ref_norm_at (R : Fin 1024) (e : Fin 1024) :
    val_main_v11 (F := Ideal) x g (ix2 R e) = normed (fun k => x (ix2 R k)) (fun k => g (ix2 0 k)) e := by
  pointwise [normed, val_main_v11, val_main_v10, val_main_v9, val_main_v8, val_main_v7, val_main_v6, val_main_v5, val_main_v4,
    val_main_v3, val_main_v2, val_main_v1, val_main_v0, val_main_cst, val_main_cst_0, val_main_cst_1]

/-- The projection. -/
theorem ref_proj_at (R : Fin 1024) (C : Fin 9216) : val_main_v12 (F := Ideal) x g w (ix2 R C) = sampled x g w R C := by
  have h : val_main_v12 (F := Ideal) x g w (ix2 R C) = ∑ e, val_main_v11 (F := Ideal) x g (ix2 R e) * w (ix2 e C) := by
    pointwise [val_main_v12]
  rw [h, sampled]
  exact Finset.sum_congr rfl fun e _ => by rw [ref_norm_at]

/-- The part that stays in single precision: the columns outside the attention's. -/
theorem ref_free_at (R : Fin 1024) (C : Fin 5120) :
    val_main_v15 (F := Ideal) x g w (ix2 R C)
      = sampled x g w R ⟨if C.val < 2048 then C.val else 6144 + (C.val - 2048), by split <;> omega⟩ := by
  by_cases hC : C.val < 2048
  · have e : (⟨if C.val < 2048 then C.val else 6144 + (C.val - 2048), by split <;> omega⟩ : Fin 9216) = ⟨C.val, by omega⟩ := Fin.ext (if_pos hC)
    rw [e, ← ref_proj_at]
    pointwise [val_main_v15, val_main_v14, val_main_v13]
    rw [dif_pos hC]
  · have e : (⟨if C.val < 2048 then C.val else 6144 + (C.val - 2048), by split <;> omega⟩ : Fin 9216) = ⟨6144 + (C.val - 2048), by omega⟩ :=
      Fin.ext (if_neg hC)
    rw [e, ← ref_proj_at]
    pointwise [val_main_v15, val_main_v14, val_main_v13]
    rw [dif_neg hC]

/-- The attention's columns. -/
theorem ref_attn_at (R : Fin 1024) (C : Fin 4096) :
    val_main_v16 (F := Ideal) x g w (ix2 R C) = sampled x g w R ⟨2048 + C.val, by omega⟩ := by
  rw [← ref_proj_at]
  pointwise [val_main_v16]

/-- The keys. -/
theorem ref_keys_at (R d : Fin 1024) :
    val_main_v17 (F := Ideal) x g w (ix2 R d) = sampled x g w R ⟨3072 + d.val, by omega⟩ := by
  rw [← ref_proj_at]
  pointwise [val_main_v17]

/-- The values. -/
theorem ref_values_at (R d : Fin 1024) :
    val_main_v18 (F := Ideal) x g w (ix2 R d) = sampled x g w R ⟨4096 + d.val, by omega⟩ := by
  rw [← ref_proj_at]
  pointwise [val_main_v18]

end Cert.Sample

end
-- ==== Proof.SampleArray.lean ====
/- What the result arrays of the sample group's projection hold after the run, and that the reference computes them. -/
module

public import proofs.«01_k».proof.Proof.SampleBlock
public import proofs.«01_k».proof.Proof.SampleRef
public import proofs.«01_k».proof.Proof.ProjArray
public import proofs.«01_k».proof.Proof.Gen.Kernel5Ideal.Value

@[expose] public section

set_option maxRecDepth 1024
set_option maxHeartbeats 400000

noncomputable section

namespace Cert.Sample

open Idealize.ShloMosaic Idealize.ShloMosaic.TcCoe Idealize.SL.Sem Cert.Kernel5Ideal Cert.Kernel5Ideal.Gen Cert.Kernel5Ideal.Value
open Cert.Proj (normed stacked stackW stackW_at stacked_free stacked_attn)

attribute [local irreducible] sampled normed

/-! ## The result arrays -/

section
variable (x : Vec Ideal S1024x1024 .f32) (g : Vec Ideal S1x1024 .f32) (w : Vec Ideal S1024x9216 .f32)

/-- The columns outside the attention's. -/
def freeArr : Vec Ideal S1024x5120 .f32 := fun i =>
  sampled x g w (i 0) ⟨if (i 1).val < 2048 then (i 1).val else 6144 + ((i 1).val - 2048), by
    have h : (i 1).val < 5120 := (i 1).isLt
    split <;> omega⟩
/-- The attention's columns. -/
def attnArr : Vec Ideal S1024x4096 .f32 := fun i =>
  sampled x g w (i 0) ⟨2048 + (i 1).val, by have h : (i 1).val < 4096 := (i 1).isLt; omega⟩
/-- The keys. -/
def keysArr : Vec Ideal S1024x1024 .f32 := fun i =>
  sampled x g w (i 0) ⟨3072 + (i 1).val, by have h : (i 1).val < 1024 := (i 1).isLt; omega⟩
/-- The values. -/
def valuesArr : Vec Ideal S1024x1024 .f32 := fun i =>
  sampled x g w (i 0) ⟨4096 + (i 1).val, by have h : (i 1).val < 1024 := (i 1).isLt; omega⟩
end

/-- The kernel is given the stacked weights. -/
theorem V_stack (m : (ℓ : Loc nD τ sig) → Buf (Elt Ideal) ℓ) (c : Dev nD) :
    V m c main_v19 = stackW (m ((c : Thread nD τ).loc main_arg2)) := by
  unfold stackW Cert.Proj.slab
  after_results <;> rfl

/-! ## Where each grid point reads and writes -/

/-- The grid points are numbered below the size of the grid. -/
theorem point_lt : ∀ t : Fin cfg0.N, t.val < 4 := (by decide +kernel : ∀ t : Fin grid0.N, t.val < 4)
/-- Which block of the first array a grid point works on. -/
theorem index0 : ∀ t : Fin cfg0.N, win0_0.index t (0 : Fin 2) = t.val ∧ win0_0.index t (1 : Fin 2) = 0 :=
  (by decide +kernel : ∀ t : Fin grid0.N, _)
/-- Which block of the second array a grid point works on. -/
theorem index1 : ∀ t : Fin cfg0.N, win0_1.index t (0 : Fin 2) = 0 ∧ win0_1.index t (1 : Fin 2) = 0 :=
  (by decide +kernel : ∀ t : Fin grid0.N, _)
/-- Which block of the third array a grid point works on. -/
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
/-- Which block of the fifth array a grid point works on. -/
theorem index4 : ∀ t : Fin cfg0.N, win0_4.index t (0 : Fin 2) = t.val ∧ win0_4.index t (1 : Fin 2) = 0 :=
  (by decide +kernel : ∀ t : Fin grid0.N, _)
/-- Which block of the sixth array a grid point works on. -/
theorem index5 : ∀ t : Fin cfg0.N, win0_5.index t (0 : Fin 2) = t.val ∧ win0_5.index t (1 : Fin 2) = 0 :=
  (by decide +kernel : ∀ t : Fin grid0.N, _)
/-- Which block of the seventh array a grid point works on. -/
theorem index6 : ∀ t : Fin cfg0.N, win0_6.index t (0 : Fin 2) = t.val ∧ win0_6.index t (1 : Fin 2) = 0 :=
  (by decide +kernel : ∀ t : Fin grid0.N, _)
/-- Which block of the eighth array a grid point works on. -/
theorem index7 : ∀ t : Fin cfg0.N, win0_7.index t (0 : Fin 2) = t.val ∧ win0_7.index t (1 : Fin 2) = 0 :=
  (by decide +kernel : ∀ t : Fin grid0.N, _)

section
variable (m : (ℓ : Loc nD τ sig) → Buf (Elt Ideal) ℓ) (c : Dev nD) (t : Fin cfg0.N)

/-- The rows of a point. -/
theorem block0 (r : Fin 256) (e : Fin 1024) :
    iblk m c 0 t (ix2 r e) = V m c main_arg0 (ix2 ⟨256 * t.val + r.val, by have := point_lt t; omega⟩ e) := by
  obtain ⟨e0, e1⟩ := index0 t
  show V m c main_arg0 (((cfg0.win 0).blk t).view.emb (ix2 r e)) = _
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * e.val = e.val; omega

/-- A point is given the whole gain. -/
theorem block1 : iblk m c 1 t = V m c main_arg1 := by
  obtain ⟨e0, e1⟩ := index1 t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- A point is given the whole stacked weights. -/
theorem block2 : iblk m c 2 t = V m c main_v19 := by
  obtain ⟨e0, e1, e2⟩ := index2 t
  funext j
  show V m c main_v19 (((cfg0.win 2).blk t).view.emb j) = V m c main_v19 j
  refine congrArg (V m c main_v19) (funext fun a => Fin.ext ?_)
  match a with
  | ⟨0, _⟩ => show win0_2.index t (0 : Fin 3) * 9 + 1 * (j 0).val = (j 0).val; omega
  | ⟨1, _⟩ => show win0_2.index t (1 : Fin 3) * 1024 + 1 * (j 1).val = (j 1).val; omega
  | ⟨2, _⟩ => show win0_2.index t (2 : Fin 3) * 1024 + 1 * (j 2).val = (j 2).val; omega

/-- A point with the memories the kernel is called on there. -/
abbrev pointAt : Point :=
  ⟨c, grid0.coords t, ms0_0 t, hs0_0 t, ms0_1 t, hs0_1 t, ms0_2 t, hs0_2 t, ms0_3 t, hs0_3 t, ms0_4 t, hs0_4 t, ms0_5 t, hs0_5 t,
    ms0_6 t, hs0_6 t, ms0_7 t, hs0_7 t, scM0_0, Memref.isWhole_whole _⟩

/-- The arguments. -/
abbrev argX : Vec Ideal S1024x1024 .f32 := m ((c : Thread nD τ).loc main_arg0)
/-- The gain the run starts from. -/
abbrev argG : Vec Ideal S1x1024 .f32 := m ((c : Thread nD τ).loc main_arg1)
/-- The weights the run starts from. -/
abbrev argW : Vec Ideal S1024x9216 .f32 := m ((c : Thread nD τ).loc main_arg2)

/-- The rows of a point are rows of the argument. -/
theorem rows_eq (r : Fin 256) :
    (fun k => iblk m c 0 t (ix2 r k)) = fun k => argX m c (ix2 ⟨256 * t.val + r.val, by have := point_lt t; omega⟩ k) := by
  funext k
  rw [block0, V_main_arg0]

/-- A point is given the whole gain. -/
theorem gain_eq : (fun k => iblk m c 1 t (ix2 0 k)) = fun k => argG m c (ix2 0 k) := by
  funext k
  rw [block1, V_main_arg1]

/-- The sum of a point's rows and a stacked block is an entry of the projection. -/
theorem point_sum (k : Fin 9) (r : Fin 256) (C : Fin 1024) :
    ∑ e, normed (fun k => iblk m c 0 t (ix2 r k)) (fun k => iblk m c 1 t (ix2 0 k)) e * iblk m c 2 t (ix3 k e C)
      = sampled (argX m c) (argG m c) (argW m c) ⟨256 * t.val + r.val, by have := point_lt t; omega⟩
          ⟨1024 * (stacked k).val + C.val, by have := (stacked k).isLt; omega⟩ := by
  rw [rows_eq, gain_eq, block2, V_stack, sampled]
  exact Finset.sum_congr rfl fun e _ => congrArg (_ * ·) (stackW_at _ k e C)

/-! ## What a point writes back is its block of the result arrays -/

/-- A point writes back its part of the array of the recurrence's inputs and the gates. -/
theorem free_flushed : (dats m 0 c).flushed 4 t
    = ((cfg0.win 4).blk t).view.read (Elt Ideal) (freeArr (argX m c) (argG m c) (argW m c)) := by
  have ht := point_lt t
  obtain ⟨e0, e1⟩ := index4 t
  suffices H : ∀ (k : Fin 5) (r : Fin 256) (C : Fin 1024),
      (dats m 0 c).flushed 4 t (ix2 r ⟨1024 * k.val + C.val, by omega⟩)
        = freeArr (argX m c) (argG m c) (argW m c) (((cfg0.win 4).blk t).view.emb (ix2 r ⟨1024 * k.val + C.val, by omega⟩)) by
    funext j
    have h1 : (j 1).val < 5120 := (j 1).isLt
    have hj : j = ix2 (j 0) ⟨1024 * ((j 1).val / 1024) + (j 1).val % 1024, by omega⟩ := by
      funext a
      match a with
      | ⟨0, _⟩ => rfl
      | ⟨1, _⟩ => exact Fin.ext (show (j 1).val = 1024 * ((j 1).val / 1024) + (j 1).val % 1024 by omega)
    rw [hj]
    exact H ⟨(j 1).val / 1024, by omega⟩ (j 0) ⟨(j 1).val % 1024, by omega⟩
  intro k r C
  have hf : (dats m 0 c).flushed 4 t (ix2 r ⟨1024 * k.val + C.val, by omega⟩)
      = freeOut (pointAt c t) (iblk m c 0 t) (iblk m c 1 t) (iblk m c 2 t) (iblk m c 3 t) (ix2 r ⟨1024 * k.val + C.val, by omega⟩) := by
    rw [flushed4_A, freeOut]
    rfl
  have hs := stacked_free k
  refine hf.trans ((free_at _ _ _ _ _ k r C).trans ((point_sum m c t _ r C).trans ?_))
  refine congrArg₂ (sampled _ _ _) (Fin.ext ?_) (Fin.ext ?_)
  · show 256 * t.val + r.val = win0_4.index t (0 : Fin 2) * 256 + 1 * r.val
    omega
  · have hv : ((((cfg0.win 4).blk t).view.emb (ix2 r ⟨1024 * k.val + C.val, by omega⟩)) 1).val = 1024 * k.val + C.val := by
      show win0_4.index t (1 : Fin 2) * 5120 + 1 * (1024 * k.val + C.val) = 1024 * k.val + C.val
      omega
    show 1024 * (stacked ⟨k.val, _⟩).val + C.val = if ((((cfg0.win 4).blk t).view.emb _) 1).val < 2048 then _ else _
    rw [hv, hs]
    split <;> split <;> omega

/-- A point writes back its part of the array of the attention's columns. -/
theorem attn_flushed : (dats m 0 c).flushed 5 t
    = ((cfg0.win 5).blk t).view.read (Elt Ideal) (attnArr (argX m c) (argG m c) (argW m c)) := by
  have ht := point_lt t
  obtain ⟨e0, e1⟩ := index5 t
  suffices H : ∀ (k : Fin 4) (r : Fin 256) (C : Fin 1024),
      (dats m 0 c).flushed 5 t (ix2 r ⟨1024 * k.val + C.val, by omega⟩)
        = attnArr (argX m c) (argG m c) (argW m c) (((cfg0.win 5).blk t).view.emb (ix2 r ⟨1024 * k.val + C.val, by omega⟩)) by
    funext j
    have h1 : (j 1).val < 4096 := (j 1).isLt
    have hj : j = ix2 (j 0) ⟨1024 * ((j 1).val / 1024) + (j 1).val % 1024, by omega⟩ := by
      funext a
      match a with
      | ⟨0, _⟩ => rfl
      | ⟨1, _⟩ => exact Fin.ext (show (j 1).val = 1024 * ((j 1).val / 1024) + (j 1).val % 1024 by omega)
    rw [hj]
    exact H ⟨(j 1).val / 1024, by omega⟩ (j 0) ⟨(j 1).val % 1024, by omega⟩
  intro k r C
  have hf : (dats m 0 c).flushed 5 t (ix2 r ⟨1024 * k.val + C.val, by omega⟩)
      = attnOut (pointAt c t) (iblk m c 0 t) (iblk m c 1 t) (iblk m c 2 t) (iblk m c 3 t) (ix2 r ⟨1024 * k.val + C.val, by omega⟩) := by
    rw [flushed5_A, attnOut]
    rfl
  have hs := stacked_attn k
  refine hf.trans ((attn_at _ _ _ _ _ k r C).trans ((point_sum m c t _ r C).trans ?_))
  refine congrArg₂ (sampled _ _ _) (Fin.ext ?_) (Fin.ext ?_)
  · show 256 * t.val + r.val = win0_5.index t (0 : Fin 2) * 256 + 1 * r.val
    omega
  · show 1024 * (stacked ⟨5 + k.val, _⟩).val + C.val = 2048 + (win0_5.index t (1 : Fin 2) * 4096 + 1 * (1024 * k.val + C.val))
    omega

/-- A point writes back its part of the array of the keys. -/
theorem keys_flushed : (dats m 0 c).flushed 6 t
    = ((cfg0.win 6).blk t).view.read (Elt Ideal) (keysArr (argX m c) (argG m c) (argW m c)) := by
  have ht := point_lt t
  obtain ⟨e0, e1⟩ := index6 t
  suffices H : ∀ (r : Fin 256) (C : Fin 1024), (dats m 0 c).flushed 6 t (ix2 r C)
      = keysArr (argX m c) (argG m c) (argW m c) (((cfg0.win 6).blk t).view.emb (ix2 r C)) by
    funext j
    have hj : j = ix2 (j 0) (j 1) := by
      funext a
      match a with
      | ⟨0, _⟩ => rfl
      | ⟨1, _⟩ => rfl
    rw [hj]
    exact H (j 0) (j 1)
  intro r C
  have hf : (dats m 0 c).flushed 6 t (ix2 r C)
      = keysOut (pointAt c t) (iblk m c 0 t) (iblk m c 1 t) (iblk m c 2 t) (iblk m c 3 t) (ix2 r C) := by
    rw [flushed6_A, keysOut]
    rfl
  refine hf.trans ((keys_at _ _ _ _ _ r C).trans ((point_sum m c t _ r C).trans ?_))
  refine congrArg₂ (sampled _ _ _) (Fin.ext ?_) (Fin.ext ?_)
  · show 256 * t.val + r.val = win0_6.index t (0 : Fin 2) * 256 + 1 * r.val
    omega
  · show 1024 * 3 + C.val = 3072 + (win0_6.index t (1 : Fin 2) * 1024 + 1 * C.val)
    omega

/-- A point writes back its part of the array of the values. -/
theorem values_flushed : (dats m 0 c).flushed 7 t
    = ((cfg0.win 7).blk t).view.read (Elt Ideal) (valuesArr (argX m c) (argG m c) (argW m c)) := by
  have ht := point_lt t
  obtain ⟨e0, e1⟩ := index7 t
  suffices H : ∀ (r : Fin 256) (C : Fin 1024), (dats m 0 c).flushed 7 t (ix2 r C)
      = valuesArr (argX m c) (argG m c) (argW m c) (((cfg0.win 7).blk t).view.emb (ix2 r C)) by
    funext j
    have hj : j = ix2 (j 0) (j 1) := by
      funext a
      match a with
      | ⟨0, _⟩ => rfl
      | ⟨1, _⟩ => rfl
    rw [hj]
    exact H (j 0) (j 1)
  intro r C
  have hf : (dats m 0 c).flushed 7 t (ix2 r C)
      = valuesOut (pointAt c t) (iblk m c 0 t) (iblk m c 1 t) (iblk m c 2 t) (iblk m c 3 t) (ix2 r C) := by
    rw [flushed7_A, valuesOut]
    rfl
  refine hf.trans ((values_at _ _ _ _ _ r C).trans ((point_sum m c t _ r C).trans ?_))
  refine congrArg₂ (sampled _ _ _) (Fin.ext ?_) (Fin.ext ?_)
  · show 256 * t.val + r.val = win0_7.index t (0 : Fin 2) * 256 + 1 * r.val
    omega
  · show 1024 * 4 + C.val = 4096 + (win0_7.index t (1 : Fin 2) * 1024 + 1 * C.val)
    omega
end

/-! ## Every index is in some point's block -/

/-- The number of grid points. -/
theorem points : cfg0.N = 4 := (by decide +kernel : grid0.N = 4)

/-- Every entry of the array of the recurrence's inputs and the gates is in the block of some point. -/
theorem free_covered (i : S1024x5120.Idx) : ∃ t : Fin cfg0.N, (cfg0.win 4).flush t = true ∧ i ∈ ((cfg0.win 4).blk t).view.set := by
  have h0 : (i 0).val < 1024 := (i 0).isLt
  have hN := points
  refine ⟨⟨(i 0).val / 256, by omega⟩, flush0_4 _, ?_⟩
  obtain ⟨e0, e1⟩ := index4 (⟨(i 0).val / 256, by omega⟩ : Fin cfg0.N)
  have h := ((cfg0.win 4).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_4.index _ (0 : Fin 2) * 256 + 1 * ((i 0).val % 256) = (i 0).val; rw [e0]; dsimp only; omega
  | ⟨1, _⟩ => show win0_4.index _ (1 : Fin 2) * 5120 + 1 * (i 1).val = (i 1).val; rw [e1]; omega

/-- Every entry of the array of the attention's columns is in the block of some point. -/
theorem attn_covered (i : S1024x4096.Idx) : ∃ t : Fin cfg0.N, (cfg0.win 5).flush t = true ∧ i ∈ ((cfg0.win 5).blk t).view.set := by
  have h0 : (i 0).val < 1024 := (i 0).isLt
  have hN := points
  refine ⟨⟨(i 0).val / 256, by omega⟩, flush0_5 _, ?_⟩
  obtain ⟨e0, e1⟩ := index5 (⟨(i 0).val / 256, by omega⟩ : Fin cfg0.N)
  have h := ((cfg0.win 5).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_5.index _ (0 : Fin 2) * 256 + 1 * ((i 0).val % 256) = (i 0).val; rw [e0]; dsimp only; omega
  | ⟨1, _⟩ => show win0_5.index _ (1 : Fin 2) * 4096 + 1 * (i 1).val = (i 1).val; rw [e1]; omega

/-- Every entry of the array of the values is in the block of some point. -/
theorem values_covered (i : S1024x1024.Idx) : ∃ t : Fin cfg0.N, (cfg0.win 7).flush t = true ∧ i ∈ ((cfg0.win 7).blk t).view.set := by
  have h0 : (i 0).val < 1024 := (i 0).isLt
  have hN := points
  refine ⟨⟨(i 0).val / 256, by omega⟩, flush0_7 _, ?_⟩
  obtain ⟨e0, e1⟩ := index7 (⟨(i 0).val / 256, by omega⟩ : Fin cfg0.N)
  have h := ((cfg0.win 7).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_7.index _ (0 : Fin 2) * 256 + 1 * ((i 0).val % 256) = (i 0).val; rw [e0]; dsimp only; omega
  | ⟨1, _⟩ => show win0_7.index _ (1 : Fin 2) * 1024 + 1 * (i 1).val = (i 1).val; rw [e1]; omega

/-- Every entry of the array of the keys is in the block of some point. -/
theorem keys_covered (i : S1024x1024.Idx) : ∃ t : Fin cfg0.N, (cfg0.win 6).flush t = true ∧ i ∈ ((cfg0.win 6).blk t).view.set := by
  have h0 : (i 0).val < 1024 := (i 0).isLt
  have hN := points
  refine ⟨⟨(i 0).val / 256, by omega⟩, flush0_6 _, ?_⟩
  obtain ⟨e0, e1⟩ := index6 (⟨(i 0).val / 256, by omega⟩ : Fin cfg0.N)
  have h := ((cfg0.win 6).blk (⟨(i 0).val / 256, by omega⟩ : Fin cfg0.N)).view.emb_mem_set (ix2 (⟨(i 0).val % 256, by omega⟩ : Fin 256) (i 1))
  refine (congrArg (· ∈ _) (funext fun a => Fin.ext ?_)).mp h
  match a with
  | ⟨0, _⟩ => show win0_6.index _ (0 : Fin 2) * 256 + 1 * ((i 0).val % 256) = (i 0).val; rw [e0]; dsimp only; omega
  | ⟨1, _⟩ => show win0_6.index _ (1 : Fin 2) * 1024 + 1 * (i 1).val = (i 1).val; rw [e1]; omega

/-! ## The result arrays after the run -/

section
variable (m : (ℓ : Loc nD τ sig) → Buf (Elt Ideal) ℓ) (c : Dev nD)

/-- After the run the array of the recurrence's inputs and the gates holds what it should. -/
theorem free_result : (dats m 0 c).arrAt 4 cfg0.N = freeArr (argX m c) (argG m c) (argW m c) :=
  (dats m 0 c).arrAt_eq_of_cover 4 _ (fun t _ => free_flushed m c t) free_covered

/-- After the run the array of the attention's columns holds what it should. -/
theorem attn_result : (dats m 0 c).arrAt 5 cfg0.N = attnArr (argX m c) (argG m c) (argW m c) :=
  (dats m 0 c).arrAt_eq_of_cover 5 _ (fun t _ => attn_flushed m c t) attn_covered

/-- After the run the array of the keys holds what it should. -/
theorem keys_result : (dats m 0 c).arrAt 6 cfg0.N = keysArr (argX m c) (argG m c) (argW m c) :=
  (dats m 0 c).arrAt_eq_of_cover 6 _ (fun t _ => keys_flushed m c t) keys_covered

/-- After the run the array of the values holds what it should. -/
theorem values_result : (dats m 0 c).arrAt 7 cfg0.N = valuesArr (argX m c) (argG m c) (argW m c) :=
  (dats m 0 c).arrAt_eq_of_cover 7 _ (fun t _ => values_flushed m c t) values_covered

end

/-! ## The reference computes those arrays -/

section
open Cert.Reference5Ideal.Read
variable (x : Vec Ideal S1024x1024 .f32) (g : Vec Ideal S1x1024 .f32) (w : Vec Ideal S1024x9216 .f32)

/-- The reference computes the array of the recurrence's inputs and the gates. -/
theorem free_eq : val_main_v15 (F := Ideal) x g w = freeArr x g w := funext fun i => by
  rw [← ix2_eta i]
  exact ref_free_at x g w _ _

/-- The reference computes the array of the attention's columns. -/
theorem attn_eq : val_main_v16 (F := Ideal) x g w = attnArr x g w := funext fun i => by
  rw [← ix2_eta i]
  exact ref_attn_at x g w _ _

/-- The reference computes the array of the keys. -/
theorem keys_eq : val_main_v17 (F := Ideal) x g w = keysArr x g w := funext fun i => by
  rw [← ix2_eta i]
  exact ref_keys_at x g w _ _

/-- The reference computes the array of the values. -/
theorem values_eq : val_main_v18 (F := Ideal) x g w = valuesArr x g w := funext fun i => by
  rw [← ix2_eta i]
  exact ref_values_at x g w _ _

end

end Cert.Sample

end
-- ==== Proof.lean ====
/- The certificate's claim: the kernel, the ideal kernel and the reference run, leave their arguments unchanged and end
   with every semaphore at zero; the ideal kernel is the kernel with its mask constant read as negative infinity; and
   where the precondition holds the ideal kernel and the reference compute one array. The same of the projection that
   feeds the attention, of the merge of the three mixers and of the memory's keys and values, without a precondition. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Array
public import proofs.«01_k».proof.Proof.RefResult
public import proofs.«01_k».proof.Proof.Precondition
public import proofs.«01_k».proof.Proof.ProjEq
public import proofs.«01_k».proof.Proof.MergeArray
public import proofs.«01_k».proof.Proof.MemArray
public import proofs.«01_k».proof.Proof.SampleArray

@[expose] public section

noncomputable section

namespace Cert.Proof

open Idealize.ShloMosaic Idealize.SL.Sem

/-- The kernel runs and leaves its arguments. -/
theorem kernel_runs : Cert.quiescent_Kernel := fun m ρ _ => Cert.Kernel.Gen.frame m ρ

/-- The ideal kernel runs and leaves its arguments. -/
theorem ideal_runs : Cert.quiescent_KernelIdeal := fun m ρ _ => Cert.KernelIdeal.Gen.frame m ρ

/-- So it does where the precondition holds. -/
theorem ideal_runs_finite : Cert.quiescent_KernelIdeal_pre_finite := fun m ρ _ => Cert.KernelIdeal.Gen.frame m ρ

/-- The reference runs and leaves its arguments; it has no semaphore. -/
theorem reference_runs : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- So it does where the precondition holds. -/
theorem reference_runs_finite : Cert.quiescent_ReferenceIdeal_pre_finite := fun m ρ _ => reference_runs m ρ trivial

/-- The mask constant stands for negative infinity. -/
theorem mask_named : Cert.preserves_Kernel_KernelIdeal :=
  IdealRules.named_const.statement Cert.KernelIdeal.κ "mask" .f32 0xF149F2CA#32 ⊥ rfl

/-- The ideal kernel and the reference compute one array. -/
theorem computes : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run m' ρ')
  obtain ⟨hx, h1, h2, h3, h4⟩ := Cert.Attn.finite_reads _ _ _ _ _ _ (hpre c)
  obtain ⟨lam, hl⟩ := Cert.Attn.lam_real h1 h2 h3 h4
  obtain ⟨e0, e1, e2, e3, e4, e5⟩ := hagree c
  rw [Cert.ReferenceIdeal.Read.val_main_v67_eq, e0, e1, e2, e3, e4, e5]
  exact (Cert.Attn.reference_result hx _ lam hl).trans (Cert.Attn.kernel_result m c hx).symm

/-! ## The projection -/

/-- The projection's kernel runs and leaves its arguments. -/
theorem projection_runs : Cert.quiescent_Kernel2 := fun m ρ _ => Cert.Kernel2.Gen.frame m ρ

/-- So does the ideal one. -/
theorem ideal_projection_runs : Cert.quiescent_Kernel2Ideal := fun m ρ _ => Cert.Kernel2Ideal.Gen.frame m ρ

/-- The projection's reference runs and leaves its arguments; it has no semaphore. -/
theorem projection_reference_runs : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

/-- The ideal projection and its reference compute the same four arrays. -/
theorem projects : Cert.algebraic_Kernel2Ideal_Reference2Ideal := by
  intro m ρ m' ρ' _ hagree
  refine ⟨_, _, _, _, Cert.Kernel2Ideal.Value.run_blocks m ρ, ?_⟩
  refine (θ_run Cert.Reference2Ideal.defs _ _).mono (fun _ h c => ?_) (Cert.Reference2Ideal.Value.run m' ρ')
  obtain ⟨h0, h1, h2, h3, hkept⟩ := h c
  obtain ⟨e0, e1, e2⟩ := hagree c
  refine ⟨h0.trans ?_, h1.trans ?_, h2.trans ?_, h3.trans ?_, hkept⟩
  · rw [Cert.Reference2Ideal.Read.val_main_v15_eq, e0, e1, e2]
    exact (Cert.Proj.free_eq _ _ _).trans (Cert.Proj.free_result m c).symm
  · rw [Cert.Reference2Ideal.Read.val_main_v17_eq, e0, e1, e2]
    exact (Cert.Proj.attn_eq _ _ _).trans (Cert.Proj.attn_result m c).symm
  · rw [Cert.Reference2Ideal.Read.val_main_v20_eq, e0, e1, e2]
    exact (Cert.Proj.keys_eq _ _ _).trans (Cert.Proj.keys_result m c).symm
  · rw [Cert.Reference2Ideal.Read.val_main_v21_eq, e0, e1, e2]
    exact (Cert.Proj.values_eq _ _ _).trans (Cert.Proj.values_result m c).symm

/-! ## The merge -/

/-- The merge's kernel runs and leaves its arguments. -/
theorem merge_runs : Cert.quiescent_Kernel3 := fun m ρ _ => Cert.Kernel3.Gen.frame m ρ

/-- So does the ideal one. -/
theorem ideal_merge_runs : Cert.quiescent_Kernel3Ideal := fun m ρ _ => Cert.Kernel3Ideal.Gen.frame m ρ

/-- The merge's reference runs and leaves its arguments; it has no semaphore. -/
theorem merge_reference_runs : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The ideal merge and its reference compute the same two arrays. -/
theorem merges : Cert.algebraic_Kernel3Ideal_Reference3Ideal := by
  intro m ρ m' ρ' _ hagree
  refine ⟨_, _, Cert.Kernel3Ideal.Value.run_blocks m ρ, ?_⟩
  refine (θ_run Cert.Reference3Ideal.defs _ _).mono (fun _ h c => ?_) (Cert.Reference3Ideal.Value.run m' ρ')
  obtain ⟨h0, h1, hkept⟩ := h c
  obtain ⟨e0, e1, e2, e3, e4, e5, e6, e7, e8, e9, e10⟩ := hagree c
  refine ⟨h0.trans ?_, h1.trans ?_, hkept⟩
  · rw [Cert.Reference3Ideal.Read.val_main_v45_eq, e0, e1, e2, e3, e4, e5, e6, e7, e8, e9]
    exact (Cert.Merge.resid_eq _ _ _ _ _ _ _ _ _ _ _).trans (Cert.Merge.resid_result m c).symm
  · rw [Cert.Reference3Ideal.Read.val_main_v58_eq, e0, e1, e2, e3, e4, e5, e6, e7, e8, e9, e10]
    exact (Cert.Merge.next_eq _ _ _ _ _ _ _ _ _ _ _).trans (Cert.Merge.next_result m c).symm

/-! ## The memory's keys and values -/

/-- The memory projection's kernel runs and leaves its arguments. -/
theorem memory_runs : Cert.quiescent_Kernel4 := fun m ρ _ => Cert.Kernel4.Gen.frame m ρ

/-- So does the ideal one. -/
theorem ideal_memory_runs : Cert.quiescent_Kernel4Ideal := fun m ρ _ => Cert.Kernel4Ideal.Gen.frame m ρ

/-- The memory projection's reference runs and leaves its arguments; it has no semaphore. -/
theorem memory_reference_runs : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The ideal memory projection and its reference compute the same array. -/
theorem remembers : Cert.algebraic_Kernel4Ideal_Reference4Ideal := by
  intro m ρ m' ρ' _ hagree
  refine ⟨_, Cert.Kernel4Ideal.Value.run_blocks m ρ, ?_⟩
  refine (θ_run Cert.Reference4Ideal.defs _ _).mono (fun _ h c => ?_) (Cert.Reference4Ideal.Value.run m' ρ')
  obtain ⟨h0, hkept⟩ := h c
  obtain ⟨e0, e1, e2⟩ := hagree c
  refine ⟨h0.trans ?_, hkept⟩
  rw [Cert.Reference4Ideal.Read.val_main_v14_eq, e0, e1, e2]
  exact (Cert.Mem.ref_eq _ _ _).trans (Cert.Mem.result m c).symm

/-! ## The sample group's projection -/

/-- The sample group's projection runs from any memory and ends quiescent. -/
theorem sample_projection_runs : Cert.quiescent_Kernel5 := fun m ρ _ => Cert.Kernel5.Gen.frame m ρ

/-- So does its ideal form. -/
theorem ideal_sample_projection_runs : Cert.quiescent_Kernel5Ideal := fun m ρ _ => Cert.Kernel5Ideal.Gen.frame m ρ

/-- So does its reference. -/
theorem sample_projection_reference_runs : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

/-- The ideal projection of the sample group and its reference compute the same four arrays. -/
theorem sample_projects : Cert.algebraic_Kernel5Ideal_Reference5Ideal := by
  intro m ρ m' ρ' _ hagree
  refine ⟨_, _, _, _, Cert.Kernel5Ideal.Value.run_blocks m ρ, ?_⟩
  refine (θ_run Cert.Reference5Ideal.defs _ _).mono (fun _ h c => ?_) (Cert.Reference5Ideal.Value.run m' ρ')
  obtain ⟨h0, h1, h2, h3, hkept⟩ := h c
  obtain ⟨e0, e1, e2⟩ := hagree c
  refine ⟨h0.trans ?_, h1.trans ?_, h2.trans ?_, h3.trans ?_, hkept⟩
  · rw [Cert.Reference5Ideal.Read.val_main_v15_eq, e0, e1, e2]
    exact (Cert.Sample.free_eq _ _ _).trans (Cert.Sample.free_result m c).symm
  · rw [Cert.Reference5Ideal.Read.val_main_v16_eq, e0, e1, e2]
    exact (Cert.Sample.attn_eq _ _ _).trans (Cert.Sample.attn_result m c).symm
  · rw [Cert.Reference5Ideal.Read.val_main_v17_eq, e0, e1, e2]
    exact (Cert.Sample.keys_eq _ _ _).trans (Cert.Sample.keys_result m c).symm
  · rw [Cert.Reference5Ideal.Read.val_main_v18_eq, e0, e1, e2]
    exact (Cert.Sample.values_eq _ _ _).trans (Cert.Sample.values_result m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts,
    kernel_runs, ideal_runs, ideal_runs_finite, reference_runs, reference_runs_finite,
    projection_runs, ideal_projection_runs, projection_reference_runs,
    merge_runs, ideal_merge_runs, merge_reference_runs,
    memory_runs, ideal_memory_runs, memory_reference_runs,
    sample_projection_runs, ideal_sample_projection_runs, sample_projection_reference_runs,
    mask_named, computes, trivial, projects, trivial, merges, trivial, remembers, trivial, sample_projects⟩

end Cert.Proof

end
